-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_tie [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0))).1 = (fun _ => 1#1)
    ∧ (Cert.Pre_finite_no_tie.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0))).1 = (fun _ => 1#1)
    ∧ (Cert.Pre_finite_no_tie.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_no_tie [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_no_tie [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_KernelIdeal (hKernelIdeal := hKernelIdeal)
    ∧ quiescent_KernelIdeal_pre_finite_no_tie (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal_pre_finite_no_tie (hKernelIdeal := hKernelIdeal) (hReferenceIdeal := hReferenceIdeal) (hPre_finite_no_tie := hPre_finite_no_tie)
-- ==== Pre_finite_no_tie.lean ====
abbrev S128x151936 : Shape := ⟨2, ![128, 151936]⟩
abbrev S64x2x151936 : Shape := ⟨3, ![64, 2, 151936]⟩
abbrev S64x1x291 : Shape := ⟨3, ![64, 1, 291]⟩
abbrev S64x291 : Shape := ⟨2, ![64, 291]⟩
abbrev S_ : Shape := ⟨0, ![]⟩
abbrev S291 : Shape := ⟨1, ![291]⟩
abbrev S291x1 : Shape := ⟨2, ![291, 1]⟩
abbrev S1x291 : Shape := ⟨2, ![1, 291]⟩
abbrev S291x291 : Shape := ⟨2, ![291, 291]⟩
abbrev S64x291x1 : Shape := ⟨3, ![64, 291, 1]⟩
abbrev S64x291x291 : Shape := ⟨3, ![64, 291, 291]⟩
abbrev S1x291x291 : Shape := ⟨3, ![1, 291, 291]⟩

class Facts : Prop where
  shapeCasts_S128x151936_S64x2x151936 : S128x151936.ShapeCasts S64x2x151936
  slices_S64x2x151936_S64x1x291_0_0_151645 : S64x2x151936.Slices ![0, 0, 151645] S64x1x291
  shapeCasts_S64x1x291_S64x291 : S64x1x291.ShapeCasts S64x291
  slices_S64x2x151936_S64x1x291_0_1_151645 : S64x2x151936.Slices ![0, 1, 151645] S64x1x291
  bcast_S_S64x291 : S_.BroadcastsInDim S64x291 (![] : Fin 0 → Fin S64x291.rank)
  bcast_S_S291 : S_.BroadcastsInDim S291 (![] : Fin 0 → Fin S291.rank)
  bcast_S291_S291x1_0 : S291.BroadcastsInDim S291x1 (![0] : Fin 1 → Fin S291x1.rank)
  bcast_S291_S1x291_1 : S291.BroadcastsInDim S1x291 (![1] : Fin 1 → Fin S1x291.rank)
  bcast_S291x1_S291x291_0_1 : S291x1.BroadcastsInDim S291x291 (![0, 1] : Fin 2 → Fin S291x291.rank)
  bcast_S1x291_S291x291_0_1 : S1x291.BroadcastsInDim S291x291 (![0, 1] : Fin 2 → Fin S291x291.rank)
  bcast_S64x291_S64x291x1_0_1 : S64x291.BroadcastsInDim S64x291x1 (![0, 1] : Fin 2 → Fin S64x291x1.rank)
  bcast_S64x291_S64x1x291_0_2 : S64x291.BroadcastsInDim S64x1x291 (![0, 2] : Fin 2 → Fin S64x1x291.rank)
  bcast_S64x291x1_S64x291x291_0_1_2 : S64x291x1.BroadcastsInDim S64x291x291 (![0, 1, 2] : Fin 3 → Fin S64x291x291.rank)
  bcast_S64x1x291_S64x291x291_0_1_2 : S64x1x291.BroadcastsInDim S64x291x291 (![0, 1, 2] : Fin 3 → Fin S64x291x291.rank)
  bcast_S291x291_S1x291x291_1_2 : S291x291.BroadcastsInDim S1x291x291 (![1, 2] : Fin 2 → Fin S1x291x291.rank)
  bcast_S1x291x291_S64x291x291_0_1_2 : S1x291x291.BroadcastsInDim S64x291x291 (![0, 1, 2] : Fin 3 → Fin S64x291x291.rank)
  bcast_S_S128x151936 : S_.BroadcastsInDim S128x151936 (![] : Fin 0 → Fin S128x151936.rank)

variable [Facts]

def fn_part1 {F : FTy → Type} [FloatOps F] (main_arg0 : FVec F S128x151936 .f32) (main_v8 : FVec F S64x291 .f32) (main_v9 : IVec S291 32) (main_v19 : IVec S291x291 1) (main_v20 : IVec S291x1 32) : IVec S128x151936 1 × IVec S64x291x291 1 :=
  let main_v21 : IVec S1x291 32 := broadcastInDim S1x291 ![1] bcast_S291_S1x291_1 main_v9
  let main_v22 : IVec S291x291 32 := broadcastInDim S291x291 ![0, 1] bcast_S291x1_S291x291_0_1 main_v20
  let main_v23 : IVec S291x291 32 := broadcastInDim S291x291 ![0, 1] bcast_S1x291_S291x291_0_1 main_v21
  let main_v24 : IVec S291x291 1 := cmpi .ne main_v22 main_v23
  let main_v25 : IVec S291x291 1 := andi main_v19 main_v24
  let main_v26 : FVec F S64x291x1 .f32 := broadcastInDim S64x291x1 ![0, 1] bcast_S64x291_S64x291x1_0_1 main_v8
  let main_v27 : FVec F S64x1x291 .f32 := broadcastInDim S64x1x291 ![0, 2] bcast_S64x291_S64x1x291_0_2 main_v8
  let main_v28 : FVec F S64x291x291 .f32 := broadcastInDim S64x291x291 ![0, 1, 2] bcast_S64x291x1_S64x291x291_0_1_2 main_v26
  let main_v29 : FVec F S64x291x291 .f32 := broadcastInDim S64x291x291 ![0, 1, 2] bcast_S64x1x291_S64x291x291_0_1_2 main_v27
  let main_v30 : IVec S64x291x291 1 := cmpf .oeq main_v28 main_v29
  let main_v31 : IVec S1x291x291 1 := broadcastInDim S1x291x291 ![1, 2] bcast_S291x291_S1x291x291_1_2 main_v25
  let main_v32 : IVec S64x291x291 1 := broadcastInDim S64x291x291 ![0, 1, 2] bcast_S1x291x291_S64x291x291_0_1_2 main_v31
  let main_v33 : IVec S64x291x291 1 := andi main_v30 main_v32
  let main_v34 : FVec F S128x151936 .f32 := Host.absf main_arg0
  let main_cst_1 : FVec F S_ .f32 := constant S_ .f32 0x7F800000#32
  let main_v35 : FVec F S128x151936 .f32 := broadcastInDim S128x151936 ![] bcast_S_S128x151936 main_cst_1
  let main_v36 : IVec S128x151936 1 := cmpf .olt main_v34 main_v35
  let main_v37 : IVec S64x291x291 1 := noti main_v33
  (main_v36, main_v37)

def fn {F : FTy → Type} [FloatOps F] (main_arg0 : FVec F S128x151936 .f32) : IVec S128x151936 1 × IVec S64x291x291 1 :=
  let main_v0 : FVec F S64x2x151936 .f32 := shapeCast S64x2x151936 main_arg0 shapeCasts_S128x151936_S64x2x151936
  let main_v1 : FVec F S64x1x291 .f32 := (extractStridedSlice S64x1x291 ![0, 0, 151645] · slices_S64x2x151936_S64x1x291_0_0_151645) main_v0
  let main_v2 : FVec F S64x291 .f32 := shapeCast S64x291 main_v1 shapeCasts_S64x1x291_S64x291
  let main_v3 : FVec F S64x1x291 .f32 := (extractStridedSlice S64x1x291 ![0, 1, 151645] · slices_S64x2x151936_S64x1x291_0_1_151645) main_v0
  let main_v4 : FVec F S64x291 .f32 := shapeCast S64x291 main_v3 shapeCasts_S64x1x291_S64x291
  let main_v5 : FVec F S64x291 .f32 := subf main_v2 main_v4
  let main_cst : FVec F S_ .f32 := constant S_ .f32 0x40000000#32
  let main_v6 : FVec F S64x291 .f32 := broadcastInDim S64x291 ![] bcast_S_S64x291 main_cst
  let main_v7 : FVec F S64x291 .f32 := mulf main_v6 main_v5
  let main_v8 : FVec F S64x291 .f32 := addf main_v4 main_v7
  let main_v9 : IVec S291 32 := iotaInDim S291 32 0
  let main_c : IVec S_ 32 := constantI S_ 32 0#32
  let main_v10 : IVec S291 32 := broadcastInDim S291 ![] bcast_S_S291 main_c
  let main_v11 : IVec S291 1 := cmpi .eq main_v9 main_v10
  let main_c_0 : IVec S_ 32 := constantI S_ 32 24#32
  let main_v12 : IVec S291 32 := broadcastInDim S291 ![] bcast_S_S291 main_c_0
  let main_v13 : IVec S291 1 := cmpi .sge main_v9 main_v12
  let main_v14 : IVec S291 1 := ori main_v11 main_v13
  let main_v15 : IVec S291x1 1 := broadcastInDim S291x1 ![0] bcast_S291_S291x1_0 main_v14
  let main_v16 : IVec S1x291 1 := broadcastInDim S1x291 ![1] bcast_S291_S1x291_1 main_v14
  let main_v17 : IVec S291x291 1 := broadcastInDim S291x291 ![0, 1] bcast_S291x1_S291x291_0_1 main_v15
  let main_v18 : IVec S291x291 1 := broadcastInDim S291x291 ![0, 1] bcast_S1x291_S291x291_0_1 main_v16
  let main_v19 : IVec S291x291 1 := andi main_v17 main_v18
  let main_v20 : IVec S291x1 32 := broadcastInDim S291x1 ![0] bcast_S291_S291x1_0 main_v9
  fn_part1 (F := F) main_arg0 main_v8 main_v9 main_v19 main_v20
-- ==== Kernel.lean ====
abbrev S128x151936 : Shape := ⟨2, ![128, 151936]⟩
abbrev S64x2x151936 : Shape := ⟨3, ![64, 2, 151936]⟩
abbrev S64x1x384 : Shape := ⟨3, ![64, 1, 384]⟩
abbrev S64x384 : Shape := ⟨2, ![64, 384]⟩
abbrev S64 : Shape := ⟨1, ![64]⟩
abbrev S64x1 : Shape := ⟨2, ![64, 1]⟩
abbrev S384 : Shape := ⟨1, ![384]⟩
abbrev S_ : Shape := ⟨0, ![]⟩
abbrev S1x384 : Shape := ⟨2, ![1, 384]⟩
abbrev S64x151936 : Shape := ⟨2, ![64, 151936]⟩
abbrev S64x128 : Shape := ⟨2, ![64, 128]⟩
abbrev S64x384x1 : Shape := ⟨3, ![64, 384, 1]⟩
abbrev S64x384x384 : Shape := ⟨3, ![64, 384, 384]⟩

abbrev nBuf : Space → Nat
  | .hbm => 283
  | .vmem => 5
  | .smem => 0
  | _ => 0

abbrev hbmTy0_0 (i : Nat) : BufTy := match i % 128 with
  | 0 => ⟨S128x151936, .f32⟩
  | 1 => ⟨S64x2x151936, .f32⟩
  | 2 => ⟨S64x1x384, .f32⟩
  | 3 => ⟨S64x384, .f32⟩
  | 4 => ⟨S64x1x384, .f32⟩
  | 5 => ⟨S64x384, .f32⟩
  | 6 => ⟨S64, .i32⟩
  | 7 => ⟨S64x1, .i32⟩
  | 8 => ⟨S384, .i32⟩
  | 9 => ⟨S_, .i32⟩
  | 10 => ⟨S384, .i32⟩
  | 11 => ⟨S384, .i32⟩
  | 12 => ⟨S1x384, .i32⟩
  | 13 => ⟨S_, .i32⟩
  | 14 => ⟨S64x1, .i32⟩
  | 15 => ⟨S64x1, .i32⟩
  | 16 => ⟨S64x384, .i32⟩
  | 17 => ⟨S64x384, .i32⟩
  | 18 => ⟨S64x384, .i32⟩
  | 19 => ⟨S_, .i32⟩
  | 20 => ⟨S64x384, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S64x384, .i32⟩
  | 28 => ⟨S64x384, .i32⟩
  | 29 => ⟨S_, .i32⟩
  | 30 => ⟨S64x384, .i32⟩
  | 31 => ⟨S64x384, .i32⟩
  | 32 => ⟨S64x384, .i32⟩
  | 33 => ⟨S_, .i32⟩
  | 34 => ⟨S64x384, .i32⟩
  | 35 => ⟨S64x384, .i32⟩
  | 36 => ⟨S_, .i32⟩
  | 37 => ⟨S64x384, .i32⟩
  | 38 => ⟨S64x384, .i32⟩
  | 39 => ⟨S64x384, .i32⟩
  | 40 => ⟨S64x384, .i32⟩
  | 41 => ⟨S64x384, .i32⟩
  | 42 => ⟨S_, .i32⟩
  | 43 => ⟨S64x384, .i32⟩
  | 44 => ⟨S64x384, .i32⟩
  | 45 => ⟨S_, .i32⟩
  | 46 => ⟨S64x384, .i32⟩
  | 47 => ⟨S64x384, .i32⟩
  | 48 => ⟨S64x384, .i32⟩
  | 49 => ⟨S64x384, .i32⟩
  | 50 => ⟨S64x384, .i32⟩
  | 51 => ⟨S_, .i32⟩
  | 52 => ⟨S64x384, .i32⟩
  | 53 => ⟨S64x384, .i32⟩
  | 54 => ⟨S_, .i32⟩
  | 55 => ⟨S64x384, .i32⟩
  | 56 => ⟨S64x384, .i32⟩
  | 57 => ⟨S64x384, .i32⟩
  | 58 => ⟨S64x384, .i32⟩
  | 59 => ⟨S64x384, .i32⟩
  | 60 => ⟨S_, .i32⟩
  | 61 => ⟨S64x384, .i32⟩
  | 62 => ⟨S64x384, .i32⟩
  | 63 => ⟨S_, .i32⟩
  | 64 => ⟨S64x384, .i32⟩
  | 65 => ⟨S64x384, .i32⟩
  | 66 => ⟨S64x384, .i32⟩
  | 67 => ⟨S64x384, .i32⟩
  | 68 => ⟨S_, .i32⟩
  | 69 => ⟨S64x384, .i32⟩
  | 70 => ⟨S64x384, .i32⟩
  | 71 => ⟨S64x384, .i32⟩
  | 72 => ⟨S64x384, .i32⟩
  | 73 => ⟨S_, .i32⟩
  | 74 => ⟨S64x384, .i32⟩
  | 75 => ⟨S64x384, .i32⟩
  | 76 => ⟨S64x384, .i32⟩
  | 77 => ⟨S_, .i32⟩
  | 78 => ⟨S64x384, .i32⟩
  | 79 => ⟨S64x384, .i32⟩
  | 80 => ⟨S_, .i32⟩
  | 81 => ⟨S64x384, .i32⟩
  | 82 => ⟨S64x384, .i32⟩
  | 83 => ⟨S64x384, .i32⟩
  | 84 => ⟨S64x384, .i32⟩
  | 85 => ⟨S64x384, .i32⟩
  | 86 => ⟨S_, .i32⟩
  | 87 => ⟨S64x384, .i32⟩
  | 88 => ⟨S64x384, .i32⟩
  | 89 => ⟨S_, .i32⟩
  | 90 => ⟨S64x384, .i32⟩
  | 91 => ⟨S64x384, .i32⟩
  | 92 => ⟨S64x384, .i32⟩
  | 93 => ⟨S64x384, .i32⟩
  | 94 => ⟨S64x384, .i32⟩
  | 95 => ⟨S_, .i32⟩
  | 96 => ⟨S64x384, .i32⟩
  | 97 => ⟨S64x384, .i32⟩
  | 98 => ⟨S_, .i32⟩
  | 99 => ⟨S64x384, .i32⟩
  | 100 => ⟨S64x384, .i32⟩
  | 101 => ⟨S64x384, .i32⟩
  | 102 => ⟨S64x384, .i32⟩
  | 103 => ⟨S64x384, .i32⟩
  | 104 => ⟨S_, .i32⟩
  | 105 => ⟨S64x384, .i32⟩
  | 106 => ⟨S64x384, .i32⟩
  | 107 => ⟨S_, .i32⟩
  | 108 => ⟨S64x384, .i32⟩
  | 109 => ⟨S64x384, .i32⟩
  | 110 => ⟨S64x384, .i32⟩
  | 111 => ⟨S64x384, .i32⟩
  | 112 => ⟨S64x384, .i32⟩
  | 113 => ⟨S64x384, .i32⟩
  | 114 => ⟨S_, .i32⟩
  | 115 => ⟨S64x384, .i32⟩
  | 116 => ⟨S64x384, .i32⟩
  | 117 => ⟨S_, .i32⟩
  | 118 => ⟨S64x384, .i32⟩
  | 119 => ⟨S64x384, .i32⟩
  | 120 => ⟨S64x384, .i32⟩
  | 121 => ⟨S_, .i32⟩
  | 122 => ⟨S64x384, .i32⟩
  | 123 => ⟨S64x384, .i32⟩
  | 124 => ⟨S_, .i32⟩
  | 125 => ⟨S64x384, .i32⟩
  | 126 => ⟨S64x384, .i32⟩
  | 127 => ⟨S64x384, .i32⟩
  | _ => ⟨S128x151936, .f32⟩

abbrev hbmTy0_1 (i : Nat) : BufTy := match i % 128 with
  | 0 => ⟨S64x384, .i32⟩
  | 1 => ⟨S64x384, .i32⟩
  | 2 => ⟨S_, .i32⟩
  | 3 => ⟨S64x384, .i32⟩
  | 4 => ⟨S64x384, .i32⟩
  | 5 => ⟨S_, .i32⟩
  | 6 => ⟨S64x384, .i32⟩
  | 7 => ⟨S64x384, .i32⟩
  | 8 => ⟨S64x384, .i32⟩
  | 9 => ⟨S64x384, .i32⟩
  | 10 => ⟨S64x384, .i32⟩
  | 11 => ⟨S_, .i32⟩
  | 12 => ⟨S64x384, .i32⟩
  | 13 => ⟨S64x384, .i32⟩
  | 14 => ⟨S_, .i32⟩
  | 15 => ⟨S64x384, .i32⟩
  | 16 => ⟨S64x384, .i32⟩
  | 17 => ⟨S64x384, .i32⟩
  | 18 => ⟨S64x384, .i32⟩
  | 19 => ⟨S64x384, .i32⟩
  | 20 => ⟨S_, .i32⟩
  | 21 => ⟨S64x384, .i32⟩
  | 22 => ⟨S64x384, .i32⟩
  | 23 => ⟨S_, .i32⟩
  | 24 => ⟨S64x384, .i32⟩
  | 25 => ⟨S64x384, .i32⟩
  | 26 => ⟨S64x384, .i32⟩
  | 27 => ⟨S64x384, .i32⟩
  | 28 => ⟨S_, .i32⟩
  | 29 => ⟨S64x384, .i32⟩
  | 30 => ⟨S64x384, .i32⟩
  | 31 => ⟨S_, .i32⟩
  | 32 => ⟨S64x384, .i32⟩
  | 33 => ⟨S64x384, .i32⟩
  | 34 => ⟨S_, .i32⟩
  | 35 => ⟨S64x384, .i32⟩
  | 36 => ⟨S64x384, .i32⟩
  | 37 => ⟨S64x384, .i32⟩
  | 38 => ⟨S_, .i32⟩
  | 39 => ⟨S64x384, .i32⟩
  | 40 => ⟨S64x384, .i32⟩
  | 41 => ⟨S_, .i32⟩
  | 42 => ⟨S64x384, .i32⟩
  | 43 => ⟨S64x384, .i32⟩
  | 44 => ⟨S64x384, .i32⟩
  | 45 => ⟨S64x384, .i32⟩
  | 46 => ⟨S64x384, .i32⟩
  | 47 => ⟨S_, .i32⟩
  | 48 => ⟨S64x384, .i32⟩
  | 49 => ⟨S64x384, .i32⟩
  | 50 => ⟨S_, .i32⟩
  | 51 => ⟨S64x384, .i32⟩
  | 52 => ⟨S64x384, .i32⟩
  | 53 => ⟨S64x384, .i32⟩
  | 54 => ⟨S64x384, .i32⟩
  | 55 => ⟨S64x384, .i32⟩
  | 56 => ⟨S_, .i32⟩
  | 57 => ⟨S64x384, .i32⟩
  | 58 => ⟨S64x384, .i32⟩
  | 59 => ⟨S_, .i32⟩
  | 60 => ⟨S64x384, .i32⟩
  | 61 => ⟨S64x384, .i32⟩
  | 62 => ⟨S64x384, .i32⟩
  | 63 => ⟨S64x384, .i32⟩
  | 64 => ⟨S64x384, .i32⟩
  | 65 => ⟨S_, .i32⟩
  | 66 => ⟨S64x384, .i32⟩
  | 67 => ⟨S64x384, .i32⟩
  | 68 => ⟨S_, .i32⟩
  | 69 => ⟨S64x384, .i32⟩
  | 70 => ⟨S64x384, .i32⟩
  | 71 => ⟨S64x384, .i32⟩
  | 72 => ⟨S64x384, .i32⟩
  | 73 => ⟨S_, .i32⟩
  | 74 => ⟨S64x384, .i32⟩
  | 75 => ⟨S64x384, .i32⟩
  | 76 => ⟨S64x384, .i32⟩
  | 77 => ⟨S64x384, .i32⟩
  | 78 => ⟨S_, .i32⟩
  | 79 => ⟨S64x384, .i32⟩
  | 80 => ⟨S64x384, .i32⟩
  | 81 => ⟨S64x384, .i32⟩
  | 82 => ⟨S_, .i32⟩
  | 83 => ⟨S64x384, .i32⟩
  | 84 => ⟨S64x384, .i32⟩
  | 85 => ⟨S_, .i32⟩
  | 86 => ⟨S64x384, .i32⟩
  | 87 => ⟨S64x384, .i32⟩
  | 88 => ⟨S64x384, .i32⟩
  | 89 => ⟨S64x384, .i32⟩
  | 90 => ⟨S64x384, .i32⟩
  | 91 => ⟨S_, .i32⟩
  | 92 => ⟨S64x384, .i32⟩
  | 93 => ⟨S64x384, .i32⟩
  | 94 => ⟨S_, .i32⟩
  | 95 => ⟨S64x384, .i32⟩
  | 96 => ⟨S64x384, .i32⟩
  | 97 => ⟨S64x384, .i32⟩
  | 98 => ⟨S64x384, .i32⟩
  | 99 => ⟨S64x384, .i32⟩
  | 100 => ⟨S_, .i32⟩
  | 101 => ⟨S64x384, .i32⟩
  | 102 => ⟨S64x384, .i32⟩
  | 103 => ⟨S_, .i32⟩
  | 104 => ⟨S64x384, .i32⟩
  | 105 => ⟨S64x384, .i32⟩
  | 106 => ⟨S64x384, .i32⟩
  | 107 => ⟨S64x384, .i32⟩
  | 108 => ⟨S64x384, .i32⟩
  | 109 => ⟨S_, .i32⟩
  | 110 => ⟨S64x384, .i32⟩
  | 111 => ⟨S64x384, .i32⟩
  | 112 => ⟨S_, .i32⟩
  | 113 => ⟨S64x384, .i32⟩
  | 114 => ⟨S64x384, .i32⟩
  | 115 => ⟨S64x384, .i32⟩
  | 116 => ⟨S64x384, .i32⟩
  | 117 => ⟨S64x384, .i32⟩
  | 118 => ⟨S64x384, .i32⟩
  | 119 => ⟨S_, .i32⟩
  | 120 => ⟨S64x384, .i32⟩
  | 121 => ⟨S64x384, .i32⟩
  | 122 => ⟨S_, .i32⟩
  | 123 => ⟨S64x384, .i32⟩
  | 124 => ⟨S64x384, .i32⟩
  | 125 => ⟨S64x384, .i32⟩
  | 126 => ⟨S_, .i32⟩
  | 127 => ⟨S64x384, .i32⟩
  | _ => ⟨S128x151936, .f32⟩

abbrev hbmTy0_2 (i : Nat) : BufTy := match i % 128 with
  | 0 => ⟨S64x384, .i32⟩
  | 1 => ⟨S_, .i32⟩
  | 2 => ⟨S64x384, .i32⟩
  | 3 => ⟨S64x384, .i32⟩
  | 4 => ⟨S64x384, .f32⟩
  | 5 => ⟨S_, .f32⟩
  | 6 => ⟨S64x384, .f32⟩
  | 7 => ⟨S64x384, .f32⟩
  | 8 => ⟨S_, .f32⟩
  | 9 => ⟨S_, .f32⟩
  | 10 => ⟨S_, .f32⟩
  | 11 => ⟨S64x384, .f32⟩
  | 12 => ⟨S64x384, .f32⟩
  | 13 => ⟨S_, .f32⟩
  | 14 => ⟨S64x384, .f32⟩
  | 15 => ⟨S64x384, .f32⟩
  | 16 => ⟨S_, .f32⟩
  | 17 => ⟨S64x384, .f32⟩
  | 18 => ⟨S64x384, .f32⟩
  | 19 => ⟨S64x384, .f32⟩
  | 20 => ⟨S64x384, .f32⟩
  | 21 => ⟨S64x384, .f32⟩
  | 22 => ⟨S64x384, .f32⟩
  | 23 => ⟨S64x151936, .f32⟩
  | 24 => ⟨S64x128, .i32⟩
  | 25 => ⟨S64x1, .i32⟩
  | 26 => ⟨S64, .i32⟩
  | _ => ⟨S128x151936, .f32⟩

abbrev hbmTy (i : Nat) : BufTy := match i / 128 with
  | 0 => hbmTy0_0 i
  | 1 => hbmTy0_1 i
  | 2 => hbmTy0_2 i
  | _ => ⟨S128x151936, .f32⟩

abbrev bufTy : (tb : Table) → Fin (tcTables nBuf tb) → BufTy
  | .hbm, ⟨i, _⟩ => hbmTy i
  | .local _ .vmem, ⟨0, _⟩ => ⟨S64x384, .f32⟩
  | .local _ .vmem, ⟨1, _⟩ => ⟨S64x384, .f32⟩
  | .local _ .vmem, ⟨2, _⟩ => ⟨S64x384, .f32⟩
  | .local _ .vmem, ⟨3, _⟩ => ⟨S64x151936, .f32⟩
  | .local _ .vmem, ⟨4, _⟩ => ⟨S64x128, .i32⟩
  | _, _ => ⟨S128x151936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_call0_v6 : Ref sig .tc := ⟨.hbm, 7, rfl⟩
abbrev main_call0_v7 : Ref sig .tc := ⟨.hbm, 8, rfl⟩
abbrev main_call0_c : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_c_0 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_c_1 : Ref sig .tc := ⟨.hbm, 19, rfl⟩
abbrev main_call0_v16 : Ref sig .tc := ⟨.hbm, 20, rfl⟩
abbrev main_call0_c_2 : Ref sig .tc := ⟨.hbm, 21, rfl⟩
abbrev main_call0_c_3 : Ref sig .tc := ⟨.hbm, 22, rfl⟩
abbrev main_call0_v17 : Ref sig .tc := ⟨.hbm, 23, rfl⟩
abbrev main_call0_c_4 : Ref sig .tc := ⟨.hbm, 24, rfl⟩
abbrev main_call0_v18 : Ref sig .tc := ⟨.hbm, 25, rfl⟩
abbrev main_call0_c_5 : Ref sig .tc := ⟨.hbm, 26, rfl⟩
abbrev main_call0_v19 : Ref sig .tc := ⟨.hbm, 27, rfl⟩
abbrev main_call0_v20 : Ref sig .tc := ⟨.hbm, 28, rfl⟩
abbrev main_call0_c_6 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_c_7 : Ref sig .tc := ⟨.hbm, 33, rfl⟩
abbrev main_call0_v24 : Ref sig .tc := ⟨.hbm, 34, rfl⟩
abbrev main_call0_v25 : Ref sig .tc := ⟨.hbm, 35, rfl⟩
abbrev main_call0_c_8 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_c_9 : Ref sig .tc := ⟨.hbm, 42, rfl⟩
abbrev main_call0_v31 : Ref sig .tc := ⟨.hbm, 43, rfl⟩
abbrev main_call0_v32 : Ref sig .tc := ⟨.hbm, 44, rfl⟩
abbrev main_call0_c_10 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_c_11 : Ref sig .tc := ⟨.hbm, 51, rfl⟩
abbrev main_call0_v38 : Ref sig .tc := ⟨.hbm, 52, rfl⟩
abbrev main_call0_v39 : Ref sig .tc := ⟨.hbm, 53, rfl⟩
abbrev main_call0_c_12 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_v44 : Ref sig .tc := ⟨.hbm, 59, rfl⟩
abbrev main_call0_c_13 : Ref sig .tc := ⟨.hbm, 60, rfl⟩
abbrev main_call0_v45 : Ref sig .tc := ⟨.hbm, 61, rfl⟩
abbrev main_call0_v46 : Ref sig .tc := ⟨.hbm, 62, rfl⟩
abbrev main_call0_c_14 : Ref sig .tc := ⟨.hbm, 63, rfl⟩
abbrev main_call0_v47 : Ref sig .tc := ⟨.hbm, 64, rfl⟩
abbrev main_call0_v48 : Ref sig .tc := ⟨.hbm, 65, rfl⟩
abbrev main_call0_v49 : Ref sig .tc := ⟨.hbm, 66, rfl⟩
abbrev main_call0_v50 : Ref sig .tc := ⟨.hbm, 67, rfl⟩
abbrev main_call0_c_15 : Ref sig .tc := ⟨.hbm, 68, rfl⟩
abbrev main_call0_v51 : Ref sig .tc := ⟨.hbm, 69, rfl⟩
abbrev main_call0_v52 : Ref sig .tc := ⟨.hbm, 70, rfl⟩
abbrev main_call0_v53 : Ref sig .tc := ⟨.hbm, 71, rfl⟩
abbrev main_call0_v54 : Ref sig .tc := ⟨.hbm, 72, rfl⟩
abbrev main_call0_c_16 : Ref sig .tc := ⟨.hbm, 73, rfl⟩
abbrev main_call0_v55 : Ref sig .tc := ⟨.hbm, 74, rfl⟩
abbrev main_call0_v56 : Ref sig .tc := ⟨.hbm, 75, rfl⟩
abbrev main_call0_v57 : Ref sig .tc := ⟨.hbm, 76, rfl⟩
abbrev main_call0_c_17 : Ref sig .tc := ⟨.hbm, 77, rfl⟩
abbrev main_call0_v58 : Ref sig .tc := ⟨.hbm, 78, rfl⟩
abbrev main_call0_v59 : Ref sig .tc := ⟨.hbm, 79, rfl⟩
abbrev main_call0_c_18 : Ref sig .tc := ⟨.hbm, 80, rfl⟩
abbrev main_call0_v60 : Ref sig .tc := ⟨.hbm, 81, rfl⟩
abbrev main_call0_v61 : Ref sig .tc := ⟨.hbm, 82, rfl⟩
abbrev main_call0_v62 : Ref sig .tc := ⟨.hbm, 83, rfl⟩
abbrev main_call0_v63 : Ref sig .tc := ⟨.hbm, 84, rfl⟩
abbrev main_call0_v64 : Ref sig .tc := ⟨.hbm, 85, rfl⟩
abbrev main_call0_c_19 : Ref sig .tc := ⟨.hbm, 86, rfl⟩
abbrev main_call0_v65 : Ref sig .tc := ⟨.hbm, 87, rfl⟩
abbrev main_call0_v66 : Ref sig .tc := ⟨.hbm, 88, rfl⟩
abbrev main_call0_c_20 : Ref sig .tc := ⟨.hbm, 89, rfl⟩
abbrev main_call0_v67 : Ref sig .tc := ⟨.hbm, 90, rfl⟩
abbrev main_call0_v68 : Ref sig .tc := ⟨.hbm, 91, rfl⟩
abbrev main_call0_v69 : Ref sig .tc := ⟨.hbm, 92, rfl⟩
abbrev main_call0_v70 : Ref sig .tc := ⟨.hbm, 93, rfl⟩
abbrev main_call0_v71 : Ref sig .tc := ⟨.hbm, 94, rfl⟩
abbrev main_call0_c_21 : Ref sig .tc := ⟨.hbm, 95, rfl⟩
abbrev main_call0_v72 : Ref sig .tc := ⟨.hbm, 96, rfl⟩
abbrev main_call0_v73 : Ref sig .tc := ⟨.hbm, 97, rfl⟩
abbrev main_call0_c_22 : Ref sig .tc := ⟨.hbm, 98, rfl⟩
abbrev main_call0_v74 : Ref sig .tc := ⟨.hbm, 99, rfl⟩
abbrev main_call0_v75 : Ref sig .tc := ⟨.hbm, 100, rfl⟩
abbrev main_call0_v76 : Ref sig .tc := ⟨.hbm, 101, rfl⟩
abbrev main_call0_v77 : Ref sig .tc := ⟨.hbm, 102, rfl⟩
abbrev main_call0_v78 : Ref sig .tc := ⟨.hbm, 103, rfl⟩
abbrev main_call0_c_23 : Ref sig .tc := ⟨.hbm, 104, rfl⟩
abbrev main_call0_v79 : Ref sig .tc := ⟨.hbm, 105, rfl⟩
abbrev main_call0_v80 : Ref sig .tc := ⟨.hbm, 106, rfl⟩
abbrev main_call0_c_24 : Ref sig .tc := ⟨.hbm, 107, rfl⟩
abbrev main_call0_v81 : Ref sig .tc := ⟨.hbm, 108, rfl⟩
abbrev main_call0_v82 : Ref sig .tc := ⟨.hbm, 109, rfl⟩
abbrev main_call0_v83 : Ref sig .tc := ⟨.hbm, 110, rfl⟩
abbrev main_call0_v84 : Ref sig .tc := ⟨.hbm, 111, rfl⟩
abbrev main_call0_v85 : Ref sig .tc := ⟨.hbm, 112, rfl⟩
abbrev main_call0_v86 : Ref sig .tc := ⟨.hbm, 113, rfl⟩
abbrev main_call0_c_25 : Ref sig .tc := ⟨.hbm, 114, rfl⟩
abbrev main_call0_v87 : Ref sig .tc := ⟨.hbm, 115, rfl⟩
abbrev main_call0_v88 : Ref sig .tc := ⟨.hbm, 116, rfl⟩
abbrev main_call0_c_26 : Ref sig .tc := ⟨.hbm, 117, rfl⟩
abbrev main_call0_v89 : Ref sig .tc := ⟨.hbm, 118, rfl⟩
abbrev main_call0_v90 : Ref sig .tc := ⟨.hbm, 119, rfl⟩
abbrev main_call0_v91 : Ref sig .tc := ⟨.hbm, 120, rfl⟩
abbrev main_call0_c_27 : Ref sig .tc := ⟨.hbm, 121, rfl⟩
abbrev main_call0_v92 : Ref sig .tc := ⟨.hbm, 122, rfl⟩
abbrev main_call0_v93 : Ref sig .tc := ⟨.hbm, 123, rfl⟩
abbrev main_call0_c_28 : Ref sig .tc := ⟨.hbm, 124, rfl⟩
abbrev main_call0_v94 : Ref sig .tc := ⟨.hbm, 125, rfl⟩
abbrev main_call0_v95 : Ref sig .tc := ⟨.hbm, 126, rfl⟩
abbrev main_call0_v96 : Ref sig .tc := ⟨.hbm, 127, rfl⟩
abbrev main_call0_v97 : Ref sig .tc := ⟨.hbm, 128, rfl⟩
abbrev main_call0_v98 : Ref sig .tc := ⟨.hbm, 129, rfl⟩
abbrev main_call0_c_29 : Ref sig .tc := ⟨.hbm, 130, rfl⟩
abbrev main_call0_v99 : Ref sig .tc := ⟨.hbm, 131, rfl⟩
abbrev main_call0_v100 : Ref sig .tc := ⟨.hbm, 132, rfl⟩
abbrev main_call0_c_30 : Ref sig .tc := ⟨.hbm, 133, rfl⟩
abbrev main_call0_v101 : Ref sig .tc := ⟨.hbm, 134, rfl⟩
abbrev main_call0_v102 : Ref sig .tc := ⟨.hbm, 135, rfl⟩
abbrev main_call0_v103 : Ref sig .tc := ⟨.hbm, 136, rfl⟩
abbrev main_call0_v104 : Ref sig .tc := ⟨.hbm, 137, rfl⟩
abbrev main_call0_v105 : Ref sig .tc := ⟨.hbm, 138, rfl⟩
abbrev main_call0_c_31 : Ref sig .tc := ⟨.hbm, 139, rfl⟩
abbrev main_call0_v106 : Ref sig .tc := ⟨.hbm, 140, rfl⟩
abbrev main_call0_v107 : Ref sig .tc := ⟨.hbm, 141, rfl⟩
abbrev main_call0_c_32 : Ref sig .tc := ⟨.hbm, 142, rfl⟩
abbrev main_call0_v108 : Ref sig .tc := ⟨.hbm, 143, rfl⟩
abbrev main_call0_v109 : Ref sig .tc := ⟨.hbm, 144, rfl⟩
abbrev main_call0_v110 : Ref sig .tc := ⟨.hbm, 145, rfl⟩
abbrev main_call0_v111 : Ref sig .tc := ⟨.hbm, 146, rfl⟩
abbrev main_call0_v112 : Ref sig .tc := ⟨.hbm, 147, rfl⟩
abbrev main_call0_c_33 : Ref sig .tc := ⟨.hbm, 148, rfl⟩
abbrev main_call0_v113 : Ref sig .tc := ⟨.hbm, 149, rfl⟩
abbrev main_call0_v114 : Ref sig .tc := ⟨.hbm, 150, rfl⟩
abbrev main_call0_c_34 : Ref sig .tc := ⟨.hbm, 151, rfl⟩
abbrev main_call0_v115 : Ref sig .tc := ⟨.hbm, 152, rfl⟩
abbrev main_call0_v116 : Ref sig .tc := ⟨.hbm, 153, rfl⟩
abbrev main_call0_v117 : Ref sig .tc := ⟨.hbm, 154, rfl⟩
abbrev main_call0_v118 : Ref sig .tc := ⟨.hbm, 155, rfl⟩
abbrev main_call0_c_35 : Ref sig .tc := ⟨.hbm, 156, rfl⟩
abbrev main_call0_v119 : Ref sig .tc := ⟨.hbm, 157, rfl⟩
abbrev main_call0_v120 : Ref sig .tc := ⟨.hbm, 158, rfl⟩
abbrev main_call0_c_36 : Ref sig .tc := ⟨.hbm, 159, rfl⟩
abbrev main_call0_v121 : Ref sig .tc := ⟨.hbm, 160, rfl⟩
abbrev main_call0_v122 : Ref sig .tc := ⟨.hbm, 161, rfl⟩
abbrev main_call0_c_37 : Ref sig .tc := ⟨.hbm, 162, rfl⟩
abbrev main_call0_v123 : Ref sig .tc := ⟨.hbm, 163, rfl⟩
abbrev main_call0_v124 : Ref sig .tc := ⟨.hbm, 164, rfl⟩
abbrev main_call0_v125 : Ref sig .tc := ⟨.hbm, 165, rfl⟩
abbrev main_call0_c_38 : Ref sig .tc := ⟨.hbm, 166, rfl⟩
abbrev main_call0_v126 : Ref sig .tc := ⟨.hbm, 167, rfl⟩
abbrev main_call0_v127 : Ref sig .tc := ⟨.hbm, 168, rfl⟩
abbrev main_call0_c_39 : Ref sig .tc := ⟨.hbm, 169, rfl⟩
abbrev main_call0_v128 : Ref sig .tc := ⟨.hbm, 170, rfl⟩
abbrev main_call0_v129 : Ref sig .tc := ⟨.hbm, 171, rfl⟩
abbrev main_call0_v130 : Ref sig .tc := ⟨.hbm, 172, rfl⟩
abbrev main_call0_v131 : Ref sig .tc := ⟨.hbm, 173, rfl⟩
abbrev main_call0_v132 : Ref sig .tc := ⟨.hbm, 174, rfl⟩
abbrev main_call0_c_40 : Ref sig .tc := ⟨.hbm, 175, rfl⟩
abbrev main_call0_v133 : Ref sig .tc := ⟨.hbm, 176, rfl⟩
abbrev main_call0_v134 : Ref sig .tc := ⟨.hbm, 177, rfl⟩
abbrev main_call0_c_41 : Ref sig .tc := ⟨.hbm, 178, rfl⟩
abbrev main_call0_v135 : Ref sig .tc := ⟨.hbm, 179, rfl⟩
abbrev main_call0_v136 : Ref sig .tc := ⟨.hbm, 180, rfl⟩
abbrev main_call0_v137 : Ref sig .tc := ⟨.hbm, 181, rfl⟩
abbrev main_call0_v138 : Ref sig .tc := ⟨.hbm, 182, rfl⟩
abbrev main_call0_v139 : Ref sig .tc := ⟨.hbm, 183, rfl⟩
abbrev main_call0_c_42 : Ref sig .tc := ⟨.hbm, 184, rfl⟩
abbrev main_call0_v140 : Ref sig .tc := ⟨.hbm, 185, rfl⟩
abbrev main_call0_v141 : Ref sig .tc := ⟨.hbm, 186, rfl⟩
abbrev main_call0_c_43 : Ref sig .tc := ⟨.hbm, 187, rfl⟩
abbrev main_call0_v142 : Ref sig .tc := ⟨.hbm, 188, rfl⟩
abbrev main_call0_v143 : Ref sig .tc := ⟨.hbm, 189, rfl⟩
abbrev main_call0_v144 : Ref sig .tc := ⟨.hbm, 190, rfl⟩
abbrev main_call0_v145 : Ref sig .tc := ⟨.hbm, 191, rfl⟩
abbrev main_call0_v146 : Ref sig .tc := ⟨.hbm, 192, rfl⟩
abbrev main_call0_c_44 : Ref sig .tc := ⟨.hbm, 193, rfl⟩
abbrev main_call0_v147 : Ref sig .tc := ⟨.hbm, 194, rfl⟩
abbrev main_call0_v148 : Ref sig .tc := ⟨.hbm, 195, rfl⟩
abbrev main_call0_c_45 : Ref sig .tc := ⟨.hbm, 196, rfl⟩
abbrev main_call0_v149 : Ref sig .tc := ⟨.hbm, 197, rfl⟩
abbrev main_call0_v150 : Ref sig .tc := ⟨.hbm, 198, rfl⟩
abbrev main_call0_v151 : Ref sig .tc := ⟨.hbm, 199, rfl⟩
abbrev main_call0_v152 : Ref sig .tc := ⟨.hbm, 200, rfl⟩
abbrev main_call0_c_46 : Ref sig .tc := ⟨.hbm, 201, rfl⟩
abbrev main_call0_v153 : Ref sig .tc := ⟨.hbm, 202, rfl⟩
abbrev main_call0_v154 : Ref sig .tc := ⟨.hbm, 203, rfl⟩
abbrev main_call0_v155 : Ref sig .tc := ⟨.hbm, 204, rfl⟩
abbrev main_call0_v156 : Ref sig .tc := ⟨.hbm, 205, rfl⟩
abbrev main_call0_c_47 : Ref sig .tc := ⟨.hbm, 206, rfl⟩
abbrev main_call0_v157 : Ref sig .tc := ⟨.hbm, 207, rfl⟩
abbrev main_call0_v158 : Ref sig .tc := ⟨.hbm, 208, rfl⟩
abbrev main_call0_v159 : Ref sig .tc := ⟨.hbm, 209, rfl⟩
abbrev main_call0_c_48 : Ref sig .tc := ⟨.hbm, 210, rfl⟩
abbrev main_call0_v160 : Ref sig .tc := ⟨.hbm, 211, rfl⟩
abbrev main_call0_v161 : Ref sig .tc := ⟨.hbm, 212, rfl⟩
abbrev main_call0_c_49 : Ref sig .tc := ⟨.hbm, 213, rfl⟩
abbrev main_call0_v162 : Ref sig .tc := ⟨.hbm, 214, rfl⟩
abbrev main_call0_v163 : Ref sig .tc := ⟨.hbm, 215, rfl⟩
abbrev main_call0_v164 : Ref sig .tc := ⟨.hbm, 216, rfl⟩
abbrev main_call0_v165 : Ref sig .tc := ⟨.hbm, 217, rfl⟩
abbrev main_call0_v166 : Ref sig .tc := ⟨.hbm, 218, rfl⟩
abbrev main_call0_c_50 : Ref sig .tc := ⟨.hbm, 219, rfl⟩
abbrev main_call0_v167 : Ref sig .tc := ⟨.hbm, 220, rfl⟩
abbrev main_call0_v168 : Ref sig .tc := ⟨.hbm, 221, rfl⟩
abbrev main_call0_c_51 : Ref sig .tc := ⟨.hbm, 222, rfl⟩
abbrev main_call0_v169 : Ref sig .tc := ⟨.hbm, 223, rfl⟩
abbrev main_call0_v170 : Ref sig .tc := ⟨.hbm, 224, rfl⟩
abbrev main_call0_v171 : Ref sig .tc := ⟨.hbm, 225, rfl⟩
abbrev main_call0_v172 : Ref sig .tc := ⟨.hbm, 226, rfl⟩
abbrev main_call0_v173 : Ref sig .tc := ⟨.hbm, 227, rfl⟩
abbrev main_call0_c_52 : Ref sig .tc := ⟨.hbm, 228, rfl⟩
abbrev main_call0_v174 : Ref sig .tc := ⟨.hbm, 229, rfl⟩
abbrev main_call0_v175 : Ref sig .tc := ⟨.hbm, 230, rfl⟩
abbrev main_call0_c_53 : Ref sig .tc := ⟨.hbm, 231, rfl⟩
abbrev main_call0_v176 : Ref sig .tc := ⟨.hbm, 232, rfl⟩
abbrev main_call0_v177 : Ref sig .tc := ⟨.hbm, 233, rfl⟩
abbrev main_call0_v178 : Ref sig .tc := ⟨.hbm, 234, rfl⟩
abbrev main_call0_v179 : Ref sig .tc := ⟨.hbm, 235, rfl⟩
abbrev main_call0_v180 : Ref sig .tc := ⟨.hbm, 236, rfl⟩
abbrev main_call0_c_54 : Ref sig .tc := ⟨.hbm, 237, rfl⟩
abbrev main_call0_v181 : Ref sig .tc := ⟨.hbm, 238, rfl⟩
abbrev main_call0_v182 : Ref sig .tc := ⟨.hbm, 239, rfl⟩
abbrev main_call0_c_55 : Ref sig .tc := ⟨.hbm, 240, rfl⟩
abbrev main_call0_v183 : Ref sig .tc := ⟨.hbm, 241, rfl⟩
abbrev main_call0_v184 : Ref sig .tc := ⟨.hbm, 242, rfl⟩
abbrev main_call0_v185 : Ref sig .tc := ⟨.hbm, 243, rfl⟩
abbrev main_call0_v186 : Ref sig .tc := ⟨.hbm, 244, rfl⟩
abbrev main_call0_v187 : Ref sig .tc := ⟨.hbm, 245, rfl⟩
abbrev main_call0_v188 : Ref sig .tc := ⟨.hbm, 246, rfl⟩
abbrev main_call0_c_56 : Ref sig .tc := ⟨.hbm, 247, rfl⟩
abbrev main_call0_v189 : Ref sig .tc := ⟨.hbm, 248, rfl⟩
abbrev main_call0_v190 : Ref sig .tc := ⟨.hbm, 249, rfl⟩
abbrev main_call0_c_57 : Ref sig .tc := ⟨.hbm, 250, rfl⟩
abbrev main_call0_v191 : Ref sig .tc := ⟨.hbm, 251, rfl⟩
abbrev main_call0_v192 : Ref sig .tc := ⟨.hbm, 252, rfl⟩
abbrev main_call0_v193 : Ref sig .tc := ⟨.hbm, 253, rfl⟩
abbrev main_call0_c_58 : Ref sig .tc := ⟨.hbm, 254, rfl⟩
abbrev main_call0_v194 : Ref sig .tc := ⟨.hbm, 255, rfl⟩
abbrev main_call0_v195 : Ref sig .tc := ⟨.hbm, 256, rfl⟩
abbrev main_call0_c_59 : Ref sig .tc := ⟨.hbm, 257, rfl⟩
abbrev main_call0_v196 : Ref sig .tc := ⟨.hbm, 258, rfl⟩
abbrev main_call0_v197 : Ref sig .tc := ⟨.hbm, 259, rfl⟩
abbrev main_call0_v198 : Ref sig .tc := ⟨.hbm, 260, rfl⟩
abbrev main_call0_cst : Ref sig .tc := ⟨.hbm, 261, rfl⟩
abbrev main_call0_v199 : Ref sig .tc := ⟨.hbm, 262, rfl⟩
abbrev main_call0_v200 : Ref sig .tc := ⟨.hbm, 263, rfl⟩
abbrev main_call0_cst_60 : Ref sig .tc := ⟨.hbm, 264, rfl⟩
abbrev main_call0_cst_61 : Ref sig .tc := ⟨.hbm, 265, rfl⟩
abbrev main_call0_v201 : Ref sig .tc := ⟨.hbm, 266, rfl⟩
abbrev main_call0_v202 : Ref sig .tc := ⟨.hbm, 267, rfl⟩
abbrev main_call0_v203 : Ref sig .tc := ⟨.hbm, 268, rfl⟩
abbrev main_call0_cst_62 : Ref sig .tc := ⟨.hbm, 269, rfl⟩
abbrev main_call0_v204 : Ref sig .tc := ⟨.hbm, 270, rfl⟩
abbrev main_call0_v205 : Ref sig .tc := ⟨.hbm, 271, rfl⟩
abbrev main_call0_cst_63 : Ref sig .tc := ⟨.hbm, 272, rfl⟩
abbrev main_call0_v206 : Ref sig .tc := ⟨.hbm, 273, rfl⟩
abbrev main_call0_v207 : Ref sig .tc := ⟨.hbm, 274, rfl⟩
abbrev main_call0_v208 : Ref sig .tc := ⟨.hbm, 275, rfl⟩
abbrev main_call0_v209 : Ref sig .tc := ⟨.hbm, 276, rfl⟩
abbrev main_call0_v210 : Ref sig .tc := ⟨.hbm, 277, rfl⟩
abbrev main_call0_v211 : Ref sig .tc := ⟨.hbm, 278, rfl⟩
abbrev main_v0_0 : Ref sig .tc := ⟨.hbm, 279, rfl⟩
abbrev main_call0_v212_1 : Ref sig .tc := ⟨.hbm, 280, rfl⟩
abbrev main_call0_v213 : Ref sig .tc := ⟨.hbm, 281, rfl⟩
abbrev main_v0_1 : Ref sig .tc := ⟨.hbm, 282, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x151936 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x151936 : Shape := ⟨2, ![128, 151936]⟩
abbrev S64x2x151936 : Shape := ⟨3, ![64, 2, 151936]⟩
abbrev S64x1x151936 : Shape := ⟨3, ![64, 1, 151936]⟩
abbrev S64x151936 : Shape := ⟨2, ![64, 151936]⟩
abbrev S_ : Shape := ⟨0, ![]⟩
abbrev S64x1 : Shape := ⟨2, ![64, 1]⟩
abbrev S64 : Shape := ⟨1, ![64]⟩
abbrev S151936 : Shape := ⟨1, ![151936]⟩
abbrev S1x151936 : Shape := ⟨2, ![1, 151936]⟩
abbrev S1 : Shape := ⟨1, ![1]⟩
abbrev S64x50 : Shape := ⟨2, ![64, 50]⟩
abbrev S64x151936x1 : Shape := ⟨3, ![64, 151936, 1]⟩
abbrev S1x1x1 : Shape := ⟨3, ![1, 1, 1]⟩
abbrev S64x151935 : Shape := ⟨2, ![64, 151935]⟩
abbrev S2 : Shape := ⟨1, ![2]⟩
abbrev S1x1 : Shape := ⟨2, ![1, 1]⟩

abbrev nBuf : Space → Nat
  | .hbm => 415
  | .vmem => 0
  | .smem => 0
  | _ => 0

abbrev hbmTy0_0 (i : Nat) : BufTy := match i % 128 with
  | 0 => ⟨S128x151936, .f32⟩
  | 1 => ⟨S64x2x151936, .f32⟩
  | 2 => ⟨S64x1x151936, .f32⟩
  | 3 => ⟨S64x151936, .f32⟩
  | 4 => ⟨S64x1x151936, .f32⟩
  | 5 => ⟨S64x151936, .f32⟩
  | 6 => ⟨S64x151936, .f32⟩
  | 7 => ⟨S_, .f32⟩
  | 8 => ⟨S64x151936, .f32⟩
  | 9 => ⟨S64x151936, .f32⟩
  | 10 => ⟨S64x151936, .f32⟩
  | 11 => ⟨S64x1, .f32⟩
  | 12 => ⟨S64, .f32⟩
  | 13 => ⟨S151936, .i32⟩
  | 14 => ⟨S1x151936, .i32⟩
  | 15 => ⟨S_, .i32⟩
  | 16 => ⟨S1x151936, .i32⟩
  | 17 => ⟨S1x151936, .i1⟩
  | 18 => ⟨S_, .f32⟩
  | 19 => ⟨S_, .f32⟩
  | 20 => ⟨S64x151936, .i1⟩
  | 21 => ⟨S64x151936, .f32⟩
  | 22 => ⟨S64x151936, .f32⟩
  | 23 => ⟨S_, .i32⟩
  | 24 => ⟨S1, .i32⟩
  | 25 => ⟨S64x151936, .f32⟩
  | 26 => ⟨S64x50, .f32⟩
  | 27 => ⟨S64x50, .i32⟩
  | 28 => ⟨S64x1, .f32⟩
  | 29 => ⟨S64x151936, .f32⟩
  | 30 => ⟨S64x151936, .i1⟩
  | 31 => ⟨S_, .f32⟩
  | 32 => ⟨S_, .f32⟩
  | 33 => ⟨S64x151936, .f32⟩
  | 34 => ⟨S64x151936, .f32⟩
  | 35 => ⟨S64x151936, .f32⟩
  | 36 => ⟨S64x151936, .i32⟩
  | 37 => ⟨S64x151936, .f32⟩
  | 38 => ⟨S64x151936, .i32⟩
  | 39 => ⟨S_, .i32⟩
  | 40 => ⟨S64x151936, .i32⟩
  | 41 => ⟨S64x151936, .i1⟩
  | 42 => ⟨S_, .i32⟩
  | 43 => ⟨S64x151936, .i32⟩
  | 44 => ⟨S64x151936, .i32⟩
  | 45 => ⟨S64x151936, .i32⟩
  | 46 => ⟨S64x151936x1, .i32⟩
  | 47 => ⟨S1, .i32⟩
  | 48 => ⟨S_, .i32⟩
  | 49 => ⟨S64x151936x1, .i32⟩
  | 50 => ⟨S64x151936x1, .i1⟩
  | 51 => ⟨S1x1x1, .i32⟩
  | 52 => ⟨S64x151936x1, .i32⟩
  | 53 => ⟨S64x151936x1, .i1⟩
  | 54 => ⟨S64x151936x1, .i1⟩
  | 55 => ⟨S_, .i1⟩
  | 56 => ⟨S64x151936, .i1⟩
  | 57 => ⟨S64x151936, .f32⟩
  | 58 => ⟨S_, .f32⟩
  | 59 => ⟨S64x151936, .f32⟩
  | 60 => ⟨S64x151936, .f32⟩
  | 61 => ⟨S_, .f32⟩
  | 62 => ⟨S64, .f32⟩
  | 63 => ⟨S_, .f32⟩
  | 64 => ⟨S64, .f32⟩
  | 65 => ⟨S64, .f32⟩
  | 66 => ⟨S64x1, .f32⟩
  | 67 => ⟨S64x151936, .f32⟩
  | 68 => ⟨S64x151936, .f32⟩
  | 69 => ⟨S64x151936, .f32⟩
  | 70 => ⟨S_, .f32⟩
  | 71 => ⟨S64, .f32⟩
  | 72 => ⟨S64x1, .f32⟩
  | 73 => ⟨S64x151936, .f32⟩
  | 74 => ⟨S64x151936, .f32⟩
  | 75 => ⟨S_, .f32⟩
  | 76 => ⟨S_, .f32⟩
  | 77 => ⟨S64x151936, .f32⟩
  | 78 => ⟨S_, .f32⟩
  | 79 => ⟨S64x151936, .f32⟩
  | 80 => ⟨S64x151936, .i1⟩
  | 81 => ⟨S64x1, .i1⟩
  | 82 => ⟨S_, .i1⟩
  | 83 => ⟨S64x1, .i1⟩
  | 84 => ⟨S64x151935, .i1⟩
  | 85 => ⟨S64x151936, .i1⟩
  | 86 => ⟨S64x151936, .i32⟩
  | 87 => ⟨S64x151936, .i32⟩
  | 88 => ⟨S64x151936, .i32⟩
  | 89 => ⟨S_, .i32⟩
  | 90 => ⟨S64x151936, .i32⟩
  | 91 => ⟨S64x151936, .i1⟩
  | 92 => ⟨S_, .i32⟩
  | 93 => ⟨S64x151936, .i32⟩
  | 94 => ⟨S64x151936, .i32⟩
  | 95 => ⟨S64x151936, .i32⟩
  | 96 => ⟨S64x151936x1, .i32⟩
  | 97 => ⟨S1, .i32⟩
  | 98 => ⟨S_, .i32⟩
  | 99 => ⟨S64x151936x1, .i32⟩
  | 100 => ⟨S64x151936x1, .i1⟩
  | 101 => ⟨S1x1x1, .i32⟩
  | 102 => ⟨S64x151936x1, .i32⟩
  | 103 => ⟨S64x151936x1, .i1⟩
  | 104 => ⟨S64x151936x1, .i1⟩
  | 105 => ⟨S_, .i1⟩
  | 106 => ⟨S64x151936, .i1⟩
  | 107 => ⟨S64x151936, .i1⟩
  | 108 => ⟨S_, .i1⟩
  | 109 => ⟨S64x151936, .i1⟩
  | 110 => ⟨S64x151936, .i1⟩
  | 111 => ⟨S_, .f32⟩
  | 112 => ⟨S_, .f32⟩
  | 113 => ⟨S64x151936, .f32⟩
  | 114 => ⟨S64x151936, .f32⟩
  | 115 => ⟨S_, .f32⟩
  | 116 => ⟨S64x151936, .f32⟩
  | 117 => ⟨S64x151936, .f32⟩
  | 118 => ⟨S_, .f32⟩
  | 119 => ⟨S64, .f32⟩
  | 120 => ⟨S_, .f32⟩
  | 121 => ⟨S64, .f32⟩
  | 122 => ⟨S64, .f32⟩
  | 123 => ⟨S64x1, .f32⟩
  | 124 => ⟨S64x151936, .f32⟩
  | 125 => ⟨S64x151936, .f32⟩
  | 126 => ⟨S64x151936, .f32⟩
  | 127 => ⟨S_, .f32⟩
  | _ => ⟨S128x151936, .f32⟩

abbrev hbmTy0_1 (i : Nat) : BufTy := match i % 128 with
  | 0 => ⟨S64, .f32⟩
  | 1 => ⟨S64x1, .f32⟩
  | 2 => ⟨S64x151936, .f32⟩
  | 3 => ⟨S64x151936, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S64x151936, .i64⟩
  | 24 => ⟨S64x151936, .i64⟩
  | 25 => ⟨S_, .i64⟩
  | 26 => ⟨S64x151936, .i64⟩
  | 27 => ⟨S64x151936, .i64⟩
  | 28 => ⟨S_, .i64⟩
  | 29 => ⟨S64x151936, .i64⟩
  | 30 => ⟨S64x151936, .i64⟩
  | 31 => ⟨S64x151936, .i64⟩
  | 32 => ⟨S_, .i64⟩
  | 33 => ⟨S64x151936, .i64⟩
  | 34 => ⟨S64x151936, .i64⟩
  | 35 => ⟨S64x151936, .i32⟩
  | 36 => ⟨S64x151936, .i32⟩
  | 37 => ⟨S_, .i32⟩
  | 38 => ⟨S_, .i32⟩
  | 39 => ⟨S_, .i32⟩
  | 40 => ⟨S64x151936, .i32⟩
  | 41 => ⟨S64x151936, .i32⟩
  | 42 => ⟨S64x151936, .i32⟩
  | 43 => ⟨S64x151936, .i32⟩
  | 44 => ⟨S64x151936, .i32⟩
  | 45 => ⟨S_, .i32⟩
  | 46 => ⟨S64x151936, .i32⟩
  | 47 => ⟨S64x151936, .i32⟩
  | 48 => ⟨S_, .i32⟩
  | 49 => ⟨S64x151936, .i32⟩
  | 50 => ⟨S64x151936, .i32⟩
  | 51 => ⟨S64x151936, .i32⟩
  | 52 => ⟨S64x151936, .i32⟩
  | 53 => ⟨S64x151936, .i32⟩
  | 54 => ⟨S_, .i32⟩
  | 55 => ⟨S64x151936, .i32⟩
  | 56 => ⟨S64x151936, .i32⟩
  | 57 => ⟨S_, .i32⟩
  | 58 => ⟨S64x151936, .i32⟩
  | 59 => ⟨S64x151936, .i32⟩
  | 60 => ⟨S64x151936, .i32⟩
  | 61 => ⟨S64x151936, .i32⟩
  | 62 => ⟨S64x151936, .i32⟩
  | 63 => ⟨S_, .i32⟩
  | 64 => ⟨S64x151936, .i32⟩
  | 65 => ⟨S64x151936, .i32⟩
  | 66 => ⟨S_, .i32⟩
  | 67 => ⟨S64x151936, .i32⟩
  | 68 => ⟨S64x151936, .i32⟩
  | 69 => ⟨S64x151936, .i32⟩
  | 70 => ⟨S64x151936, .i32⟩
  | 71 => ⟨S64x151936, .i32⟩
  | 72 => ⟨S_, .i32⟩
  | 73 => ⟨S64x151936, .i32⟩
  | 74 => ⟨S64x151936, .i32⟩
  | 75 => ⟨S_, .i32⟩
  | 76 => ⟨S64x151936, .i32⟩
  | 77 => ⟨S64x151936, .i32⟩
  | 78 => ⟨S64x151936, .i32⟩
  | 79 => ⟨S64x151936, .i32⟩
  | 80 => ⟨S64x151936, .i32⟩
  | 81 => ⟨S64x151936, .i32⟩
  | 82 => ⟨S64x151936, .i32⟩
  | 83 => ⟨S64x151936, .i32⟩
  | 84 => ⟨S_, .i32⟩
  | 85 => ⟨S64x151936, .i32⟩
  | 86 => ⟨S64x151936, .i32⟩
  | 87 => ⟨S64x151936, .i32⟩
  | 88 => ⟨S_, .i32⟩
  | 89 => ⟨S64x151936, .i32⟩
  | 90 => ⟨S64x151936, .i32⟩
  | 91 => ⟨S_, .i32⟩
  | 92 => ⟨S64x151936, .i32⟩
  | 93 => ⟨S64x151936, .i32⟩
  | 94 => ⟨S64x151936, .i32⟩
  | 95 => ⟨S64x151936, .i32⟩
  | 96 => ⟨S64x151936, .i32⟩
  | 97 => ⟨S_, .i32⟩
  | 98 => ⟨S64x151936, .i32⟩
  | 99 => ⟨S64x151936, .i32⟩
  | 100 => ⟨S_, .i32⟩
  | 101 => ⟨S64x151936, .i32⟩
  | 102 => ⟨S64x151936, .i32⟩
  | 103 => ⟨S64x151936, .i32⟩
  | 104 => ⟨S64x151936, .i32⟩
  | 105 => ⟨S64x151936, .i32⟩
  | 106 => ⟨S_, .i32⟩
  | 107 => ⟨S64x151936, .i32⟩
  | 108 => ⟨S64x151936, .i32⟩
  | 109 => ⟨S_, .i32⟩
  | 110 => ⟨S64x151936, .i32⟩
  | 111 => ⟨S64x151936, .i32⟩
  | 112 => ⟨S64x151936, .i32⟩
  | 113 => ⟨S64x151936, .i32⟩
  | 114 => ⟨S64x151936, .i32⟩
  | 115 => ⟨S_, .i32⟩
  | 116 => ⟨S64x151936, .i32⟩
  | 117 => ⟨S64x151936, .i32⟩
  | 118 => ⟨S_, .i32⟩
  | 119 => ⟨S64x151936, .i32⟩
  | 120 => ⟨S64x151936, .i32⟩
  | 121 => ⟨S64x151936, .i32⟩
  | 122 => ⟨S64x151936, .i32⟩
  | 123 => ⟨S64x151936, .i32⟩
  | 124 => ⟨S64x151936, .i32⟩
  | 125 => ⟨S64x151936, .i32⟩
  | 126 => ⟨S64x151936, .i32⟩
  | 127 => ⟨S_, .i32⟩
  | _ => ⟨S128x151936, .f32⟩

abbrev hbmTy0_2 (i : Nat) : BufTy := match i % 128 with
  | 0 => ⟨S64x151936, .i32⟩
  | 1 => ⟨S64x151936, .i32⟩
  | 2 => ⟨S64x151936, .i32⟩
  | 3 => ⟨S_, .i32⟩
  | 4 => ⟨S64x151936, .i32⟩
  | 5 => ⟨S64x151936, .i32⟩
  | 6 => ⟨S_, .i32⟩
  | 7 => ⟨S64x151936, .i32⟩
  | 8 => ⟨S64x151936, .i32⟩
  | 9 => ⟨S64x151936, .i32⟩
  | 10 => ⟨S64x151936, .i32⟩
  | 11 => ⟨S64x151936, .i32⟩
  | 12 => ⟨S_, .i32⟩
  | 13 => ⟨S64x151936, .i32⟩
  | 14 => ⟨S64x151936, .i32⟩
  | 15 => ⟨S_, .i32⟩
  | 16 => ⟨S64x151936, .i32⟩
  | 17 => ⟨S64x151936, .i32⟩
  | 18 => ⟨S64x151936, .i32⟩
  | 19 => ⟨S64x151936, .i32⟩
  | 20 => ⟨S64x151936, .i32⟩
  | 21 => ⟨S_, .i32⟩
  | 22 => ⟨S64x151936, .i32⟩
  | 23 => ⟨S64x151936, .i32⟩
  | 24 => ⟨S_, .i32⟩
  | 25 => ⟨S64x151936, .i32⟩
  | 26 => ⟨S64x151936, .i32⟩
  | 27 => ⟨S64x151936, .i32⟩
  | 28 => ⟨S64x151936, .i32⟩
  | 29 => ⟨S64x151936, .i32⟩
  | 30 => ⟨S_, .i32⟩
  | 31 => ⟨S64x151936, .i32⟩
  | 32 => ⟨S64x151936, .i32⟩
  | 33 => ⟨S_, .i32⟩
  | 34 => ⟨S64x151936, .i32⟩
  | 35 => ⟨S64x151936, .i32⟩
  | 36 => ⟨S64x151936, .i32⟩
  | 37 => ⟨S64x151936, .i32⟩
  | 38 => ⟨S64x151936, .i32⟩
  | 39 => ⟨S64x151936, .i32⟩
  | 40 => ⟨S64x151936, .i32⟩
  | 41 => ⟨S64x151936, .i32⟩
  | 42 => ⟨S_, .i32⟩
  | 43 => ⟨S64x151936, .i32⟩
  | 44 => ⟨S64x151936, .i32⟩
  | 45 => ⟨S64x151936, .i32⟩
  | 46 => ⟨S_, .i32⟩
  | 47 => ⟨S64x151936, .i32⟩
  | 48 => ⟨S64x151936, .i32⟩
  | 49 => ⟨S_, .i32⟩
  | 50 => ⟨S64x151936, .i32⟩
  | 51 => ⟨S64x151936, .i32⟩
  | 52 => ⟨S64x151936, .i32⟩
  | 53 => ⟨S64x151936, .i32⟩
  | 54 => ⟨S64x151936, .i32⟩
  | 55 => ⟨S_, .i32⟩
  | 56 => ⟨S64x151936, .i32⟩
  | 57 => ⟨S64x151936, .i32⟩
  | 58 => ⟨S_, .i32⟩
  | 59 => ⟨S64x151936, .i32⟩
  | 60 => ⟨S64x151936, .i32⟩
  | 61 => ⟨S64x151936, .i32⟩
  | 62 => ⟨S64x151936, .i32⟩
  | 63 => ⟨S64x151936, .i32⟩
  | 64 => ⟨S_, .i32⟩
  | 65 => ⟨S64x151936, .i32⟩
  | 66 => ⟨S64x151936, .i32⟩
  | 67 => ⟨S_, .i32⟩
  | 68 => ⟨S64x151936, .i32⟩
  | 69 => ⟨S64x151936, .i32⟩
  | 70 => ⟨S64x151936, .i32⟩
  | 71 => ⟨S64x151936, .i32⟩
  | 72 => ⟨S64x151936, .i32⟩
  | 73 => ⟨S_, .i32⟩
  | 74 => ⟨S64x151936, .i32⟩
  | 75 => ⟨S64x151936, .i32⟩
  | 76 => ⟨S_, .i32⟩
  | 77 => ⟨S64x151936, .i32⟩
  | 78 => ⟨S64x151936, .i32⟩
  | 79 => ⟨S64x151936, .i32⟩
  | 80 => ⟨S64x151936, .i32⟩
  | 81 => ⟨S64x151936, .i32⟩
  | 82 => ⟨S64x151936, .i32⟩
  | 83 => ⟨S64x151936, .i32⟩
  | 84 => ⟨S64x151936, .i32⟩
  | 85 => ⟨S_, .i32⟩
  | 86 => ⟨S64x151936, .i32⟩
  | 87 => ⟨S64x151936, .i32⟩
  | 88 => ⟨S64x151936, .i32⟩
  | 89 => ⟨S_, .i32⟩
  | 90 => ⟨S64x151936, .i32⟩
  | 91 => ⟨S64x151936, .i32⟩
  | 92 => ⟨S_, .i32⟩
  | 93 => ⟨S64x151936, .i32⟩
  | 94 => ⟨S64x151936, .i32⟩
  | 95 => ⟨S64x151936, .i32⟩
  | 96 => ⟨S64x151936, .i32⟩
  | 97 => ⟨S64x151936, .i32⟩
  | 98 => ⟨S_, .i32⟩
  | 99 => ⟨S64x151936, .i32⟩
  | 100 => ⟨S64x151936, .i32⟩
  | 101 => ⟨S_, .i32⟩
  | 102 => ⟨S64x151936, .i32⟩
  | 103 => ⟨S64x151936, .i32⟩
  | 104 => ⟨S64x151936, .i32⟩
  | 105 => ⟨S64x151936, .i32⟩
  | 106 => ⟨S64x151936, .i32⟩
  | 107 => ⟨S_, .i32⟩
  | 108 => ⟨S64x151936, .i32⟩
  | 109 => ⟨S64x151936, .i32⟩
  | 110 => ⟨S_, .i32⟩
  | 111 => ⟨S64x151936, .i32⟩
  | 112 => ⟨S64x151936, .i32⟩
  | 113 => ⟨S64x151936, .i32⟩
  | 114 => ⟨S64x151936, .i32⟩
  | 115 => ⟨S64x151936, .i32⟩
  | 116 => ⟨S_, .i32⟩
  | 117 => ⟨S64x151936, .i32⟩
  | 118 => ⟨S64x151936, .i32⟩
  | 119 => ⟨S_, .i32⟩
  | 120 => ⟨S64x151936, .i32⟩
  | 121 => ⟨S64x151936, .i32⟩
  | 122 => ⟨S64x151936, .i32⟩
  | 123 => ⟨S64x151936, .i32⟩
  | 124 => ⟨S64x151936, .i32⟩
  | 125 => ⟨S64x151936, .i32⟩
  | 126 => ⟨S64x151936, .i32⟩
  | 127 => ⟨S64x151936, .i32⟩
  | _ => ⟨S128x151936, .f32⟩

abbrev hbmTy0_3 (i : Nat) : BufTy := match i % 128 with
  | 0 => ⟨S_, .i32⟩
  | 1 => ⟨S64x151936, .i32⟩
  | 2 => ⟨S64x151936, .i32⟩
  | 3 => ⟨S64x151936, .i32⟩
  | 4 => ⟨S_, .i32⟩
  | 5 => ⟨S64x151936, .i32⟩
  | 6 => ⟨S64x151936, .i32⟩
  | 7 => ⟨S_, .i32⟩
  | 8 => ⟨S64x151936, .i32⟩
  | 9 => ⟨S64x151936, .i32⟩
  | 10 => ⟨S64x151936, .f32⟩
  | 11 => ⟨S_, .f32⟩
  | 12 => ⟨S64x151936, .f32⟩
  | 13 => ⟨S64x151936, .f32⟩
  | 14 => ⟨S1x1, .f32⟩
  | 15 => ⟨S64x151936, .f32⟩
  | 16 => ⟨S64x151936, .f32⟩
  | 17 => ⟨S64x151936, .f32⟩
  | 18 => ⟨S64x151936, .f32⟩
  | 19 => ⟨S64x151936, .f32⟩
  | 20 => ⟨S64x151936, .f32⟩
  | 21 => ⟨S64x151936, .f32⟩
  | 22 => ⟨S64x151936, .f32⟩
  | 23 => ⟨S64x151936, .f32⟩
  | 24 => ⟨S64x151936, .f32⟩
  | 25 => ⟨S64x151936, .f32⟩
  | 26 => ⟨S64x151936, .i32⟩
  | 27 => ⟨S_, .f32⟩
  | 28 => ⟨S_, .i32⟩
  | 29 => ⟨S64, .f32⟩
  | 30 => ⟨S64, .i32⟩
  | _ => ⟨S128x151936, .f32⟩

abbrev hbmTy (i : Nat) : BufTy := match i / 128 with
  | 0 => hbmTy0_0 i
  | 1 => hbmTy0_1 i
  | 2 => hbmTy0_2 i
  | 3 => hbmTy0_3 i
  | _ => ⟨S128x151936, .f32⟩

abbrev bufTy : (tb : Table) → Fin (tcTables nBuf tb) → BufTy
  | .hbm, ⟨i, _⟩ => hbmTy i
  | _, _ => ⟨S128x151936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_call2_v0 : Ref sig .tc := ⟨.hbm, 36, rfl⟩
abbrev main_call2_v1_0 : Ref sig .tc := ⟨.hbm, 37, rfl⟩
abbrev main_v23 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_cst : Ref sig .tc := ⟨.hbm, 58, rfl⟩
abbrev main_call3_v14 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call4_call0_cst : Ref sig .tc := ⟨.hbm, 75, rfl⟩
abbrev main_call4_call0_v0 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_7 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call5_v0 : Ref sig .tc := ⟨.hbm, 86, rfl⟩
abbrev main_call5_v1_0 : Ref sig .tc := ⟨.hbm, 87, rfl⟩
abbrev main_v43 : Ref sig .tc := ⟨.hbm, 88, rfl⟩
abbrev main_call6_c : Ref sig .tc := ⟨.hbm, 89, rfl⟩
abbrev main_call6_v0 : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_c_1 : Ref sig .tc := ⟨.hbm, 97, rfl⟩
abbrev main_call6_c_2 : Ref sig .tc := ⟨.hbm, 98, rfl⟩
abbrev main_call6_v6 : Ref sig .tc := ⟨.hbm, 99, rfl⟩
abbrev main_call6_v7 : Ref sig .tc := ⟨.hbm, 100, rfl⟩
abbrev main_call6_v8 : Ref sig .tc := ⟨.hbm, 101, rfl⟩
abbrev main_call6_v9 : Ref sig .tc := ⟨.hbm, 102, rfl⟩
abbrev main_call6_v10 : Ref sig .tc := ⟨.hbm, 103, rfl⟩
abbrev main_call6_v11 : Ref sig .tc := ⟨.hbm, 104, rfl⟩
abbrev main_call6_c_3 : Ref sig .tc := ⟨.hbm, 105, rfl⟩
abbrev main_call6_v12 : Ref sig .tc := ⟨.hbm, 106, rfl⟩
abbrev main_call6_v13 : Ref sig .tc := ⟨.hbm, 107, rfl⟩
abbrev main_call6_c_4 : Ref sig .tc := ⟨.hbm, 108, rfl⟩
abbrev main_call6_v14 : Ref sig .tc := ⟨.hbm, 109, rfl⟩
abbrev main_v44 : Ref sig .tc := ⟨.hbm, 110, rfl⟩
abbrev main_cst_8 : Ref sig .tc := ⟨.hbm, 111, rfl⟩
abbrev main_call7_v0 : Ref sig .tc := ⟨.hbm, 112, rfl⟩
abbrev main_call7_v1 : Ref sig .tc := ⟨.hbm, 113, rfl⟩
abbrev main_v45 : Ref sig .tc := ⟨.hbm, 114, rfl⟩
abbrev main_cst_9 : Ref sig .tc := ⟨.hbm, 115, rfl⟩
abbrev main_v46 : Ref sig .tc := ⟨.hbm, 116, rfl⟩
abbrev main_v47 : Ref sig .tc := ⟨.hbm, 117, rfl⟩
abbrev main_cst_10 : Ref sig .tc := ⟨.hbm, 118, rfl⟩
abbrev main_v48 : Ref sig .tc := ⟨.hbm, 119, rfl⟩
abbrev main_cst_11 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_12 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_c_13 : Ref sig .tc := ⟨.hbm, 132, rfl⟩
abbrev main_c_14 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_c_15 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_call8_cst : Ref sig .tc := ⟨.hbm, 142, rfl⟩
abbrev main_call8_cst_0 : Ref sig .tc := ⟨.hbm, 143, rfl⟩
abbrev main_call8_call0_v0 : Ref sig .tc := ⟨.hbm, 144, rfl⟩
abbrev main_call8_call0_v1 : Ref sig .tc := ⟨.hbm, 145, rfl⟩
abbrev main_call8_call0_v2 : Ref sig .tc := ⟨.hbm, 146, rfl⟩
abbrev main_call8_call0_v3 : Ref sig .tc := ⟨.hbm, 147, rfl⟩
abbrev main_call8_call0_v4 : Ref sig .tc := ⟨.hbm, 148, rfl⟩
abbrev main_call8_call0_v5 : Ref sig .tc := ⟨.hbm, 149, rfl⟩
abbrev main_call8_call0_v6 : Ref sig .tc := ⟨.hbm, 150, rfl⟩
abbrev main_call8_call0_v7 : Ref sig .tc := ⟨.hbm, 151, rfl⟩
abbrev main_call8_call0_v8 : Ref sig .tc := ⟨.hbm, 152, rfl⟩
abbrev main_call8_call0_c : Ref sig .tc := ⟨.hbm, 153, rfl⟩
abbrev main_call8_call0_v9 : Ref sig .tc := ⟨.hbm, 154, rfl⟩
abbrev main_call8_call0_v10 : Ref sig .tc := ⟨.hbm, 155, rfl⟩
abbrev main_call8_call0_c_0 : Ref sig .tc := ⟨.hbm, 156, rfl⟩
abbrev main_call8_call0_v11 : Ref sig .tc := ⟨.hbm, 157, rfl⟩
abbrev main_call8_call0_v12 : Ref sig .tc := ⟨.hbm, 158, rfl⟩
abbrev main_call8_call0_v13 : Ref sig .tc := ⟨.hbm, 159, rfl⟩
abbrev main_call8_call0_c_1 : Ref sig .tc := ⟨.hbm, 160, rfl⟩
abbrev main_call8_call0_v14 : Ref sig .tc := ⟨.hbm, 161, rfl⟩
abbrev main_call8_call0_v15 : Ref sig .tc := ⟨.hbm, 162, rfl⟩
abbrev main_call8_call0_v16 : Ref sig .tc := ⟨.hbm, 163, rfl⟩
abbrev main_call8_call0_v17 : Ref sig .tc := ⟨.hbm, 164, rfl⟩
abbrev main_call8_call0_call0_v0 : Ref sig .tc := ⟨.hbm, 165, rfl⟩
abbrev main_call8_call0_call0_c : Ref sig .tc := ⟨.hbm, 166, rfl⟩
abbrev main_call8_call0_call0_v1 : Ref sig .tc := ⟨.hbm, 167, rfl⟩
abbrev main_call8_call0_call0_v2 : Ref sig .tc := ⟨.hbm, 168, rfl⟩
abbrev main_call8_call0_call0_v3 : Ref sig .tc := ⟨.hbm, 169, rfl⟩
abbrev main_call8_call0_call0_v4 : Ref sig .tc := ⟨.hbm, 170, rfl⟩
abbrev main_call8_call0_call0_v5 : Ref sig .tc := ⟨.hbm, 171, rfl⟩
abbrev main_call8_call0_call0_v6 : Ref sig .tc := ⟨.hbm, 172, rfl⟩
abbrev main_call8_call0_call0_c_0 : Ref sig .tc := ⟨.hbm, 173, rfl⟩
abbrev main_call8_call0_call0_v7 : Ref sig .tc := ⟨.hbm, 174, rfl⟩
abbrev main_call8_call0_call0_v8 : Ref sig .tc := ⟨.hbm, 175, rfl⟩
abbrev main_call8_call0_call0_c_1 : Ref sig .tc := ⟨.hbm, 176, rfl⟩
abbrev main_call8_call0_call0_v9 : Ref sig .tc := ⟨.hbm, 177, rfl⟩
abbrev main_call8_call0_call0_v10 : Ref sig .tc := ⟨.hbm, 178, rfl⟩
abbrev main_call8_call0_call0_v11 : Ref sig .tc := ⟨.hbm, 179, rfl⟩
abbrev main_call8_call0_call0_v12 : Ref sig .tc := ⟨.hbm, 180, rfl⟩
abbrev main_call8_call0_call0_v13 : Ref sig .tc := ⟨.hbm, 181, rfl⟩
abbrev main_call8_call0_call0_c_2 : Ref sig .tc := ⟨.hbm, 182, rfl⟩
abbrev main_call8_call0_call0_v14 : Ref sig .tc := ⟨.hbm, 183, rfl⟩
abbrev main_call8_call0_call0_v15 : Ref sig .tc := ⟨.hbm, 184, rfl⟩
abbrev main_call8_call0_call0_c_3 : Ref sig .tc := ⟨.hbm, 185, rfl⟩
abbrev main_call8_call0_call0_v16 : Ref sig .tc := ⟨.hbm, 186, rfl⟩
abbrev main_call8_call0_call0_v17 : Ref sig .tc := ⟨.hbm, 187, rfl⟩
abbrev main_call8_call0_call0_v18 : Ref sig .tc := ⟨.hbm, 188, rfl⟩
abbrev main_call8_call0_call0_v19 : Ref sig .tc := ⟨.hbm, 189, rfl⟩
abbrev main_call8_call0_call0_v20 : Ref sig .tc := ⟨.hbm, 190, rfl⟩
abbrev main_call8_call0_call0_c_4 : Ref sig .tc := ⟨.hbm, 191, rfl⟩
abbrev main_call8_call0_call0_v21 : Ref sig .tc := ⟨.hbm, 192, rfl⟩
abbrev main_call8_call0_call0_v22 : Ref sig .tc := ⟨.hbm, 193, rfl⟩
abbrev main_call8_call0_call0_c_5 : Ref sig .tc := ⟨.hbm, 194, rfl⟩
abbrev main_call8_call0_call0_v23 : Ref sig .tc := ⟨.hbm, 195, rfl⟩
abbrev main_call8_call0_call0_v24 : Ref sig .tc := ⟨.hbm, 196, rfl⟩
abbrev main_call8_call0_call0_v25 : Ref sig .tc := ⟨.hbm, 197, rfl⟩
abbrev main_call8_call0_call0_v26 : Ref sig .tc := ⟨.hbm, 198, rfl⟩
abbrev main_call8_call0_call0_v27 : Ref sig .tc := ⟨.hbm, 199, rfl⟩
abbrev main_call8_call0_call0_c_6 : Ref sig .tc := ⟨.hbm, 200, rfl⟩
abbrev main_call8_call0_call0_v28 : Ref sig .tc := ⟨.hbm, 201, rfl⟩
abbrev main_call8_call0_call0_v29 : Ref sig .tc := ⟨.hbm, 202, rfl⟩
abbrev main_call8_call0_call0_c_7 : Ref sig .tc := ⟨.hbm, 203, rfl⟩
abbrev main_call8_call0_call0_v30 : Ref sig .tc := ⟨.hbm, 204, rfl⟩
abbrev main_call8_call0_call0_v31 : Ref sig .tc := ⟨.hbm, 205, rfl⟩
abbrev main_call8_call0_call0_v32 : Ref sig .tc := ⟨.hbm, 206, rfl⟩
abbrev main_call8_call0_call0_v33 : Ref sig .tc := ⟨.hbm, 207, rfl⟩
abbrev main_call8_call0_call0_v34 : Ref sig .tc := ⟨.hbm, 208, rfl⟩
abbrev main_call8_call0_call0_v35 : Ref sig .tc := ⟨.hbm, 209, rfl⟩
abbrev main_call8_call0_call0_v36 : Ref sig .tc := ⟨.hbm, 210, rfl⟩
abbrev main_call8_call0_call0_v37 : Ref sig .tc := ⟨.hbm, 211, rfl⟩
abbrev main_call8_call0_call0_c_8 : Ref sig .tc := ⟨.hbm, 212, rfl⟩
abbrev main_call8_call0_call0_v38 : Ref sig .tc := ⟨.hbm, 213, rfl⟩
abbrev main_call8_call0_call0_v39 : Ref sig .tc := ⟨.hbm, 214, rfl⟩
abbrev main_call8_call0_call0_v40 : Ref sig .tc := ⟨.hbm, 215, rfl⟩
abbrev main_call8_call0_call0_c_9 : Ref sig .tc := ⟨.hbm, 216, rfl⟩
abbrev main_call8_call0_call0_v41 : Ref sig .tc := ⟨.hbm, 217, rfl⟩
abbrev main_call8_call0_call0_v42 : Ref sig .tc := ⟨.hbm, 218, rfl⟩
abbrev main_call8_call0_call0_c_10 : Ref sig .tc := ⟨.hbm, 219, rfl⟩
abbrev main_call8_call0_call0_v43 : Ref sig .tc := ⟨.hbm, 220, rfl⟩
abbrev main_call8_call0_call0_v44 : Ref sig .tc := ⟨.hbm, 221, rfl⟩
abbrev main_call8_call0_call0_v45 : Ref sig .tc := ⟨.hbm, 222, rfl⟩
abbrev main_call8_call0_call0_v46 : Ref sig .tc := ⟨.hbm, 223, rfl⟩
abbrev main_call8_call0_call0_v47 : Ref sig .tc := ⟨.hbm, 224, rfl⟩
abbrev main_call8_call0_call0_c_11 : Ref sig .tc := ⟨.hbm, 225, rfl⟩
abbrev main_call8_call0_call0_v48 : Ref sig .tc := ⟨.hbm, 226, rfl⟩
abbrev main_call8_call0_call0_v49 : Ref sig .tc := ⟨.hbm, 227, rfl⟩
abbrev main_call8_call0_call0_c_12 : Ref sig .tc := ⟨.hbm, 228, rfl⟩
abbrev main_call8_call0_call0_v50 : Ref sig .tc := ⟨.hbm, 229, rfl⟩
abbrev main_call8_call0_call0_v51 : Ref sig .tc := ⟨.hbm, 230, rfl⟩
abbrev main_call8_call0_call0_v52 : Ref sig .tc := ⟨.hbm, 231, rfl⟩
abbrev main_call8_call0_call0_v53 : Ref sig .tc := ⟨.hbm, 232, rfl⟩
abbrev main_call8_call0_call0_v54 : Ref sig .tc := ⟨.hbm, 233, rfl⟩
abbrev main_call8_call0_call0_c_13 : Ref sig .tc := ⟨.hbm, 234, rfl⟩
abbrev main_call8_call0_call0_v55 : Ref sig .tc := ⟨.hbm, 235, rfl⟩
abbrev main_call8_call0_call0_v56 : Ref sig .tc := ⟨.hbm, 236, rfl⟩
abbrev main_call8_call0_call0_c_14 : Ref sig .tc := ⟨.hbm, 237, rfl⟩
abbrev main_call8_call0_call0_v57 : Ref sig .tc := ⟨.hbm, 238, rfl⟩
abbrev main_call8_call0_call0_v58 : Ref sig .tc := ⟨.hbm, 239, rfl⟩
abbrev main_call8_call0_call0_v59 : Ref sig .tc := ⟨.hbm, 240, rfl⟩
abbrev main_call8_call0_call0_v60 : Ref sig .tc := ⟨.hbm, 241, rfl⟩
abbrev main_call8_call0_call0_v61 : Ref sig .tc := ⟨.hbm, 242, rfl⟩
abbrev main_call8_call0_call0_c_15 : Ref sig .tc := ⟨.hbm, 243, rfl⟩
abbrev main_call8_call0_call0_v62 : Ref sig .tc := ⟨.hbm, 244, rfl⟩
abbrev main_call8_call0_call0_v63 : Ref sig .tc := ⟨.hbm, 245, rfl⟩
abbrev main_call8_call0_call0_c_16 : Ref sig .tc := ⟨.hbm, 246, rfl⟩
abbrev main_call8_call0_call0_v64 : Ref sig .tc := ⟨.hbm, 247, rfl⟩
abbrev main_call8_call0_call0_v65 : Ref sig .tc := ⟨.hbm, 248, rfl⟩
abbrev main_call8_call0_call0_v66 : Ref sig .tc := ⟨.hbm, 249, rfl⟩
abbrev main_call8_call0_call0_v67 : Ref sig .tc := ⟨.hbm, 250, rfl⟩
abbrev main_call8_call0_call0_v68 : Ref sig .tc := ⟨.hbm, 251, rfl⟩
abbrev main_call8_call0_call0_v69 : Ref sig .tc := ⟨.hbm, 252, rfl⟩
abbrev main_call8_call0_call0_v70 : Ref sig .tc := ⟨.hbm, 253, rfl⟩
abbrev main_call8_call0_call0_v71 : Ref sig .tc := ⟨.hbm, 254, rfl⟩
abbrev main_call8_call0_call0_c_17 : Ref sig .tc := ⟨.hbm, 255, rfl⟩
abbrev main_call8_call0_call0_v72 : Ref sig .tc := ⟨.hbm, 256, rfl⟩
abbrev main_call8_call0_call0_v73 : Ref sig .tc := ⟨.hbm, 257, rfl⟩
abbrev main_call8_call0_call0_v74 : Ref sig .tc := ⟨.hbm, 258, rfl⟩
abbrev main_call8_call0_call0_c_18 : Ref sig .tc := ⟨.hbm, 259, rfl⟩
abbrev main_call8_call0_call0_v75 : Ref sig .tc := ⟨.hbm, 260, rfl⟩
abbrev main_call8_call0_call0_v76 : Ref sig .tc := ⟨.hbm, 261, rfl⟩
abbrev main_call8_call0_call0_c_19 : Ref sig .tc := ⟨.hbm, 262, rfl⟩
abbrev main_call8_call0_call0_v77 : Ref sig .tc := ⟨.hbm, 263, rfl⟩
abbrev main_call8_call0_call0_v78 : Ref sig .tc := ⟨.hbm, 264, rfl⟩
abbrev main_call8_call0_call0_v79 : Ref sig .tc := ⟨.hbm, 265, rfl⟩
abbrev main_call8_call0_call0_v80 : Ref sig .tc := ⟨.hbm, 266, rfl⟩
abbrev main_call8_call0_call0_v81 : Ref sig .tc := ⟨.hbm, 267, rfl⟩
abbrev main_call8_call0_call0_c_20 : Ref sig .tc := ⟨.hbm, 268, rfl⟩
abbrev main_call8_call0_call0_v82 : Ref sig .tc := ⟨.hbm, 269, rfl⟩
abbrev main_call8_call0_call0_v83 : Ref sig .tc := ⟨.hbm, 270, rfl⟩
abbrev main_call8_call0_call0_c_21 : Ref sig .tc := ⟨.hbm, 271, rfl⟩
abbrev main_call8_call0_call0_v84 : Ref sig .tc := ⟨.hbm, 272, rfl⟩
abbrev main_call8_call0_call0_v85 : Ref sig .tc := ⟨.hbm, 273, rfl⟩
abbrev main_call8_call0_call0_v86 : Ref sig .tc := ⟨.hbm, 274, rfl⟩
abbrev main_call8_call0_call0_v87 : Ref sig .tc := ⟨.hbm, 275, rfl⟩
abbrev main_call8_call0_call0_v88 : Ref sig .tc := ⟨.hbm, 276, rfl⟩
abbrev main_call8_call0_call0_c_22 : Ref sig .tc := ⟨.hbm, 277, rfl⟩
abbrev main_call8_call0_call0_v89 : Ref sig .tc := ⟨.hbm, 278, rfl⟩
abbrev main_call8_call0_call0_v90 : Ref sig .tc := ⟨.hbm, 279, rfl⟩
abbrev main_call8_call0_call0_c_23 : Ref sig .tc := ⟨.hbm, 280, rfl⟩
abbrev main_call8_call0_call0_v91 : Ref sig .tc := ⟨.hbm, 281, rfl⟩
abbrev main_call8_call0_call0_v92 : Ref sig .tc := ⟨.hbm, 282, rfl⟩
abbrev main_call8_call0_call0_v93 : Ref sig .tc := ⟨.hbm, 283, rfl⟩
abbrev main_call8_call0_call0_v94 : Ref sig .tc := ⟨.hbm, 284, rfl⟩
abbrev main_call8_call0_call0_v95 : Ref sig .tc := ⟨.hbm, 285, rfl⟩
abbrev main_call8_call0_call0_c_24 : Ref sig .tc := ⟨.hbm, 286, rfl⟩
abbrev main_call8_call0_call0_v96 : Ref sig .tc := ⟨.hbm, 287, rfl⟩
abbrev main_call8_call0_call0_v97 : Ref sig .tc := ⟨.hbm, 288, rfl⟩
abbrev main_call8_call0_call0_c_25 : Ref sig .tc := ⟨.hbm, 289, rfl⟩
abbrev main_call8_call0_call0_v98 : Ref sig .tc := ⟨.hbm, 290, rfl⟩
abbrev main_call8_call0_call0_v99 : Ref sig .tc := ⟨.hbm, 291, rfl⟩
abbrev main_call8_call0_call0_v100 : Ref sig .tc := ⟨.hbm, 292, rfl⟩
abbrev main_call8_call0_call0_v101 : Ref sig .tc := ⟨.hbm, 293, rfl⟩
abbrev main_call8_call0_call0_v102 : Ref sig .tc := ⟨.hbm, 294, rfl⟩
abbrev main_call8_call0_call0_v103 : Ref sig .tc := ⟨.hbm, 295, rfl⟩
abbrev main_call8_call0_call0_v104 : Ref sig .tc := ⟨.hbm, 296, rfl⟩
abbrev main_call8_call0_call0_v105 : Ref sig .tc := ⟨.hbm, 297, rfl⟩
abbrev main_call8_call0_call0_c_26 : Ref sig .tc := ⟨.hbm, 298, rfl⟩
abbrev main_call8_call0_call0_v106 : Ref sig .tc := ⟨.hbm, 299, rfl⟩
abbrev main_call8_call0_call0_v107 : Ref sig .tc := ⟨.hbm, 300, rfl⟩
abbrev main_call8_call0_call0_v108 : Ref sig .tc := ⟨.hbm, 301, rfl⟩
abbrev main_call8_call0_call0_c_27 : Ref sig .tc := ⟨.hbm, 302, rfl⟩
abbrev main_call8_call0_call0_v109 : Ref sig .tc := ⟨.hbm, 303, rfl⟩
abbrev main_call8_call0_call0_v110 : Ref sig .tc := ⟨.hbm, 304, rfl⟩
abbrev main_call8_call0_call0_c_28 : Ref sig .tc := ⟨.hbm, 305, rfl⟩
abbrev main_call8_call0_call0_v111 : Ref sig .tc := ⟨.hbm, 306, rfl⟩
abbrev main_call8_call0_call0_v112 : Ref sig .tc := ⟨.hbm, 307, rfl⟩
abbrev main_call8_call0_call0_v113 : Ref sig .tc := ⟨.hbm, 308, rfl⟩
abbrev main_call8_call0_call0_v114 : Ref sig .tc := ⟨.hbm, 309, rfl⟩
abbrev main_call8_call0_call0_v115 : Ref sig .tc := ⟨.hbm, 310, rfl⟩
abbrev main_call8_call0_call0_c_29 : Ref sig .tc := ⟨.hbm, 311, rfl⟩
abbrev main_call8_call0_call0_v116 : Ref sig .tc := ⟨.hbm, 312, rfl⟩
abbrev main_call8_call0_call0_v117 : Ref sig .tc := ⟨.hbm, 313, rfl⟩
abbrev main_call8_call0_call0_c_30 : Ref sig .tc := ⟨.hbm, 314, rfl⟩
abbrev main_call8_call0_call0_v118 : Ref sig .tc := ⟨.hbm, 315, rfl⟩
abbrev main_call8_call0_call0_v119 : Ref sig .tc := ⟨.hbm, 316, rfl⟩
abbrev main_call8_call0_call0_v120 : Ref sig .tc := ⟨.hbm, 317, rfl⟩
abbrev main_call8_call0_call0_v121 : Ref sig .tc := ⟨.hbm, 318, rfl⟩
abbrev main_call8_call0_call0_v122 : Ref sig .tc := ⟨.hbm, 319, rfl⟩
abbrev main_call8_call0_call0_c_31 : Ref sig .tc := ⟨.hbm, 320, rfl⟩
abbrev main_call8_call0_call0_v123 : Ref sig .tc := ⟨.hbm, 321, rfl⟩
abbrev main_call8_call0_call0_v124 : Ref sig .tc := ⟨.hbm, 322, rfl⟩
abbrev main_call8_call0_call0_c_32 : Ref sig .tc := ⟨.hbm, 323, rfl⟩
abbrev main_call8_call0_call0_v125 : Ref sig .tc := ⟨.hbm, 324, rfl⟩
abbrev main_call8_call0_call0_v126 : Ref sig .tc := ⟨.hbm, 325, rfl⟩
abbrev main_call8_call0_call0_v127 : Ref sig .tc := ⟨.hbm, 326, rfl⟩
abbrev main_call8_call0_call0_v128 : Ref sig .tc := ⟨.hbm, 327, rfl⟩
abbrev main_call8_call0_call0_v129 : Ref sig .tc := ⟨.hbm, 328, rfl⟩
abbrev main_call8_call0_call0_c_33 : Ref sig .tc := ⟨.hbm, 329, rfl⟩
abbrev main_call8_call0_call0_v130 : Ref sig .tc := ⟨.hbm, 330, rfl⟩
abbrev main_call8_call0_call0_v131 : Ref sig .tc := ⟨.hbm, 331, rfl⟩
abbrev main_call8_call0_call0_c_34 : Ref sig .tc := ⟨.hbm, 332, rfl⟩
abbrev main_call8_call0_call0_v132 : Ref sig .tc := ⟨.hbm, 333, rfl⟩
abbrev main_call8_call0_call0_v133 : Ref sig .tc := ⟨.hbm, 334, rfl⟩
abbrev main_call8_call0_call0_v134 : Ref sig .tc := ⟨.hbm, 335, rfl⟩
abbrev main_call8_call0_call0_v135 : Ref sig .tc := ⟨.hbm, 336, rfl⟩
abbrev main_call8_call0_call0_v136 : Ref sig .tc := ⟨.hbm, 337, rfl⟩
abbrev main_call8_call0_call0_v137 : Ref sig .tc := ⟨.hbm, 338, rfl⟩
abbrev main_call8_call0_call0_v138 : Ref sig .tc := ⟨.hbm, 339, rfl⟩
abbrev main_call8_call0_call0_v139 : Ref sig .tc := ⟨.hbm, 340, rfl⟩
abbrev main_call8_call0_call0_c_35 : Ref sig .tc := ⟨.hbm, 341, rfl⟩
abbrev main_call8_call0_call0_v140 : Ref sig .tc := ⟨.hbm, 342, rfl⟩
abbrev main_call8_call0_call0_v141 : Ref sig .tc := ⟨.hbm, 343, rfl⟩
abbrev main_call8_call0_call0_v142 : Ref sig .tc := ⟨.hbm, 344, rfl⟩
abbrev main_call8_call0_call0_c_36 : Ref sig .tc := ⟨.hbm, 345, rfl⟩
abbrev main_call8_call0_call0_v143 : Ref sig .tc := ⟨.hbm, 346, rfl⟩
abbrev main_call8_call0_call0_v144 : Ref sig .tc := ⟨.hbm, 347, rfl⟩
abbrev main_call8_call0_call0_c_37 : Ref sig .tc := ⟨.hbm, 348, rfl⟩
abbrev main_call8_call0_call0_v145 : Ref sig .tc := ⟨.hbm, 349, rfl⟩
abbrev main_call8_call0_call0_v146 : Ref sig .tc := ⟨.hbm, 350, rfl⟩
abbrev main_call8_call0_call0_v147 : Ref sig .tc := ⟨.hbm, 351, rfl⟩
abbrev main_call8_call0_call0_v148 : Ref sig .tc := ⟨.hbm, 352, rfl⟩
abbrev main_call8_call0_call0_v149 : Ref sig .tc := ⟨.hbm, 353, rfl⟩
abbrev main_call8_call0_call0_c_38 : Ref sig .tc := ⟨.hbm, 354, rfl⟩
abbrev main_call8_call0_call0_v150 : Ref sig .tc := ⟨.hbm, 355, rfl⟩
abbrev main_call8_call0_call0_v151 : Ref sig .tc := ⟨.hbm, 356, rfl⟩
abbrev main_call8_call0_call0_c_39 : Ref sig .tc := ⟨.hbm, 357, rfl⟩
abbrev main_call8_call0_call0_v152 : Ref sig .tc := ⟨.hbm, 358, rfl⟩
abbrev main_call8_call0_call0_v153 : Ref sig .tc := ⟨.hbm, 359, rfl⟩
abbrev main_call8_call0_call0_v154 : Ref sig .tc := ⟨.hbm, 360, rfl⟩
abbrev main_call8_call0_call0_v155 : Ref sig .tc := ⟨.hbm, 361, rfl⟩
abbrev main_call8_call0_call0_v156 : Ref sig .tc := ⟨.hbm, 362, rfl⟩
abbrev main_call8_call0_call0_c_40 : Ref sig .tc := ⟨.hbm, 363, rfl⟩
abbrev main_call8_call0_call0_v157 : Ref sig .tc := ⟨.hbm, 364, rfl⟩
abbrev main_call8_call0_call0_v158 : Ref sig .tc := ⟨.hbm, 365, rfl⟩
abbrev main_call8_call0_call0_c_41 : Ref sig .tc := ⟨.hbm, 366, rfl⟩
abbrev main_call8_call0_call0_v159 : Ref sig .tc := ⟨.hbm, 367, rfl⟩
abbrev main_call8_call0_call0_v160 : Ref sig .tc := ⟨.hbm, 368, rfl⟩
abbrev main_call8_call0_call0_v161 : Ref sig .tc := ⟨.hbm, 369, rfl⟩
abbrev main_call8_call0_call0_v162 : Ref sig .tc := ⟨.hbm, 370, rfl⟩
abbrev main_call8_call0_call0_v163 : Ref sig .tc := ⟨.hbm, 371, rfl⟩
abbrev main_call8_call0_call0_c_42 : Ref sig .tc := ⟨.hbm, 372, rfl⟩
abbrev main_call8_call0_call0_v164 : Ref sig .tc := ⟨.hbm, 373, rfl⟩
abbrev main_call8_call0_call0_v165 : Ref sig .tc := ⟨.hbm, 374, rfl⟩
abbrev main_call8_call0_call0_c_43 : Ref sig .tc := ⟨.hbm, 375, rfl⟩
abbrev main_call8_call0_call0_v166 : Ref sig .tc := ⟨.hbm, 376, rfl⟩
abbrev main_call8_call0_call0_v167 : Ref sig .tc := ⟨.hbm, 377, rfl⟩
abbrev main_call8_call0_call0_v168 : Ref sig .tc := ⟨.hbm, 378, rfl⟩
abbrev main_call8_call0_call0_v169 : Ref sig .tc := ⟨.hbm, 379, rfl⟩
abbrev main_call8_call0_call0_v170 : Ref sig .tc := ⟨.hbm, 380, rfl⟩
abbrev main_call8_call0_v18_0 : Ref sig .tc := ⟨.hbm, 381, rfl⟩
abbrev main_call8_call0_call0_v172 : Ref sig .tc := ⟨.hbm, 382, rfl⟩
abbrev main_call8_call0_call0_v173 : Ref sig .tc := ⟨.hbm, 383, rfl⟩
abbrev main_call8_call0_call0_c_44 : Ref sig .tc := ⟨.hbm, 384, rfl⟩
abbrev main_call8_call0_call0_v174 : Ref sig .tc := ⟨.hbm, 385, rfl⟩
abbrev main_call8_call0_v18_1 : Ref sig .tc := ⟨.hbm, 386, rfl⟩
abbrev main_call8_call0_v19 : Ref sig .tc := ⟨.hbm, 387, rfl⟩
abbrev main_call8_call0_c_2 : Ref sig .tc := ⟨.hbm, 388, rfl⟩
abbrev main_call8_call0_v20 : Ref sig .tc := ⟨.hbm, 389, rfl⟩
abbrev main_call8_call0_v21 : Ref sig .tc := ⟨.hbm, 390, rfl⟩
abbrev main_call8_call0_c_3 : Ref sig .tc := ⟨.hbm, 391, rfl⟩
abbrev main_call8_call0_v22 : Ref sig .tc := ⟨.hbm, 392, rfl⟩
abbrev main_call8_call0_v23 : Ref sig .tc := ⟨.hbm, 393, rfl⟩
abbrev main_call8_call0_v24 : Ref sig .tc := ⟨.hbm, 394, rfl⟩
abbrev main_call8_call0_cst : Ref sig .tc := ⟨.hbm, 395, rfl⟩
abbrev main_call8_call0_v25 : Ref sig .tc := ⟨.hbm, 396, rfl⟩
abbrev main_call8_call0_v26 : Ref sig .tc := ⟨.hbm, 397, rfl⟩
abbrev main_call8_call0_v27 : Ref sig .tc := ⟨.hbm, 398, rfl⟩
abbrev main_call8_call0_v28 : Ref sig .tc := ⟨.hbm, 399, rfl⟩
abbrev main_call8_call0_v29 : Ref sig .tc := ⟨.hbm, 400, rfl⟩
abbrev main_call8_call0_v30 : Ref sig .tc := ⟨.hbm, 401, rfl⟩
abbrev main_call8_call0_v31 : Ref sig .tc := ⟨.hbm, 402, rfl⟩
abbrev main_call8_call0_v32 : Ref sig .tc := ⟨.hbm, 403, rfl⟩
abbrev main_call8_v0 : Ref sig .tc := ⟨.hbm, 404, rfl⟩
abbrev main_call8_v1 : Ref sig .tc := ⟨.hbm, 405, rfl⟩
abbrev main_call8_v2 : Ref sig .tc := ⟨.hbm, 406, rfl⟩
abbrev main_call8_v3 : Ref sig .tc := ⟨.hbm, 407, rfl⟩
abbrev main_v66 : Ref sig .tc := ⟨.hbm, 408, rfl⟩
abbrev main_v67 : Ref sig .tc := ⟨.hbm, 409, rfl⟩
abbrev main_call9_v0 : Ref sig .tc := ⟨.hbm, 410, rfl⟩
abbrev main_call9_cst : Ref sig .tc := ⟨.hbm, 411, rfl⟩
abbrev main_call9_c : Ref sig .tc := ⟨.hbm, 412, rfl⟩
abbrev main_call9_v1_0 : Ref sig .tc := ⟨.hbm, 413, rfl⟩
abbrev main_v68 : Ref sig .tc := ⟨.hbm, 414, rfl⟩

abbrev nD : Nat := 1
abbrev τ : Topo := Topo.v7x

variable {F : FTy → Type} [FloatOps F]
-- ==== Proof.RefDraw.lean ====
/- The reference's host operations that draw the noise table, in the order they run. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The two words of a key put side by side. -/
def joinWords (a b : (⟨S1, .i32⟩ : BufTy).Contents (Elt F)) : (⟨S2, .i32⟩ : BufTy).Contents (Elt F) :=
  concatenate S2 0 [⟨S1, a⟩, ⟨S1, b⟩] concatenates_S1_S1_S2_d0

set_option maxHeartbeats 4000000 in
/-- Operations computing the noise table. -/
abbrev drawOps : List (HloOp τ sig (Elt F)) :=
  ( nullary main_c_13 (constantI S_ 32 1#32)
  :: nullary main_c_14 (constantI S_ 32 32#32)
  :: binary main_c_13 main_c_14 main_v59 (Host.shrui : (⟨S_, .i32⟩ : BufTy).Contents (Elt F) → (⟨S_, .i32⟩ : BufTy).Contents (Elt F) → (⟨S_, .i32⟩ : BufTy).Contents (Elt F))
  :: unary main_v59 main_v60 (id : (⟨S_, .i32⟩ : BufTy).Contents (Elt F) → (⟨S_, .i32⟩ : BufTy).Contents (Elt F))
  :: unary main_v60 main_v61 (broadcastInDim S1 ![] bcast_S_S1 : (⟨S_, .i32⟩ : BufTy).Contents (Elt F) → (⟨S1, .i32⟩ : BufTy).Contents (Elt F))
  :: nullary main_c_15 (constantI S_ 32 4294967295#32)
  :: binary main_c_13 main_c_15 main_v62 (andi : (⟨S_, .i32⟩ : BufTy).Contents (Elt F) → (⟨S_, .i32⟩ : BufTy).Contents (Elt F) → (⟨S_, .i32⟩ : BufTy).Contents (Elt F))
  :: unary main_v62 main_v63 (id : (⟨S_, .i32⟩ : BufTy).Contents (Elt F) → (⟨S_, .i32⟩ : BufTy).Contents (Elt F))
  :: unary main_v63 main_v64 (broadcastInDim S1 ![] bcast_S_S1 : (⟨S_, .i32⟩ : BufTy).Contents (Elt F) → (⟨S1, .i32⟩ : BufTy).Contents (Elt F))
  :: binary main_v61 main_v64 main_v65 (joinWords (F := F))
  :: TRef.nullary (TRef.of (T := ⟨S_, .f32⟩) main_call8_cst) (constant S_ .f32 0x3F800000#32)
  :: TRef.nullary (TRef.of (T := ⟨S_, .f32⟩) main_call8_cst_0) (constant S_ .f32 0x00800000#32)
  :: TRef.unary (TRef.of (T := ⟨S_, .f32⟩) main_call8_cst) (TRef.of (T := ⟨S_, .f32⟩) main_call8_call0_v0) id
  :: TRef.unary (TRef.of (T := ⟨S_, .f32⟩) main_call8_cst_0) (TRef.of (T := ⟨S1x1, .f32⟩) main_call8_call0_v1) (broadcastInDim S1x1 ![] bcast_S_S1x1)
  :: TRef.unary (TRef.of (T := ⟨S_, .f32⟩) main_call8_call0_v0) (TRef.of (T := ⟨S1x1, .f32⟩) main_call8_call0_v2) (broadcastInDim S1x1 ![] bcast_S_S1x1)
  :: TRef.unary (TRef.of (T := ⟨S2, .i32⟩) main_v65) (TRef.of (T := ⟨S1, .i32⟩) main_call8_call0_v3) (extractStridedSlice S1 ![0] · slices_S2_S1_0)
  :: TRef.reshape (TRef.of (T := ⟨S1, .i32⟩) main_call8_call0_v3) (TRef.of (T := ⟨S_, .i32⟩) main_call8_call0_v4) (rfl : (.i32 : EltTy) = .i32) shapeCasts_S1_S_
  :: TRef.unary (TRef.of (T := ⟨S2, .i32⟩) main_v65) (TRef.of (T := ⟨S1, .i32⟩) main_call8_call0_v5) (extractStridedSlice S1 ![1] · slices_S2_S1_1)
  :: TRef.reshape (TRef.of (T := ⟨S1, .i32⟩) main_call8_call0_v5) (TRef.of (T := ⟨S_, .i32⟩) main_call8_call0_v6) (rfl : (.i32 : EltTy) = .i32) shapeCasts_S1_S_
  :: TRef.nullary (TRef.of (T := ⟨S64x151936, .i64⟩) main_call8_call0_v7) (iotaInDim S64x151936 64 0)
  :: TRef.nullary (TRef.of (T := ⟨S64x151936, .i64⟩) main_call8_call0_v8) (iotaInDim S64x151936 64 1)
  :: TRef.nullary (TRef.of (T := ⟨S_, .i64⟩) main_call8_call0_c) (constantI S_ 64 151936#64)
  :: TRef.unary (TRef.of (T := ⟨S_, .i64⟩) main_call8_call0_c) (TRef.of (T := ⟨S64x151936, .i64⟩) main_call8_call0_v9) (broadcastInDim S64x151936 ![] bcast_S_S64x151936)
  :: TRef.binary (TRef.of (T := ⟨S64x151936, .i64⟩) main_call8_call0_v9) (TRef.of (T := ⟨S64x151936, .i64⟩) main_call8_call0_v7) (TRef.of (T := ⟨S64x151936, .i64⟩) main_call8_call0_v10) muli
  :: TRef.nullary (TRef.of (T := ⟨S_, .i64⟩) main_call8_call0_c_0) (constantI S_ 64 1#64)
  :: TRef.unary (TRef.of (T := ⟨S_, .i64⟩) main_call8_call0_c_0) (TRef.of (T := ⟨S64x151936, .i64⟩) main_call8_call0_v11) (broadcastInDim S64x151936 ![] bcast_S_S64x151936)
  :: TRef.binary (TRef.of (T := ⟨S64x151936, .i64⟩) main_call8_call0_v11) (TRef.of (T := ⟨S64x151936, .i64⟩) main_call8_call0_v8) (TRef.of (T := ⟨S64x151936, .i64⟩) main_call8_call0_v12) muli
  :: TRef.binary (TRef.of (T := ⟨S64x151936, .i64⟩) main_call8_call0_v10) (TRef.of (T := ⟨S64x151936, .i64⟩) main_call8_call0_v12) (TRef.of (T := ⟨S64x151936, .i64⟩) main_call8_call0_v13) addi
  :: TRef.nullary (TRef.of (T := ⟨S_, .i64⟩) main_call8_call0_c_1) (constantI S_ 64 32#64)
  :: TRef.unary (TRef.of (T := ⟨S_, .i64⟩) main_call8_call0_c_1) (TRef.of (T := ⟨S64x151936, .i64⟩) main_call8_call0_v14) (broadcastInDim S64x151936 ![] bcast_S_S64x151936)
  :: TRef.binary (TRef.of (T := ⟨S64x151936, .i64⟩) main_call8_call0_v13) (TRef.of (T := ⟨S64x151936, .i64⟩) main_call8_call0_v14) (TRef.of (T := ⟨S64x151936, .i64⟩) main_call8_call0_v15) Host.shrui
  :: TRef.unary (TRef.of (T := ⟨S64x151936, .i64⟩) main_call8_call0_v13) (TRef.of (T := ⟨S64x151936, .i32⟩) main_call8_call0_v16) (trunci 32 · natLt_32_64)
  :: TRef.unary (TRef.of (T := ⟨S64x151936, .i64⟩) main_call8_call0_v15) (TRef.of (T := ⟨S64x151936, .i32⟩) main_call8_call0_v17) (trunci 32 · natLt_32_64)
  :: TRef.binary (TRef.of (T := ⟨S_, .i32⟩) main_call8_call0_v4) (TRef.of (T := ⟨S_, .i32⟩) main_call8_call0_v6) (TRef.of (T := ⟨S_, .i32⟩) main_call8_call0_call0_v0) xori
  :: TRef.nullary (TRef.of (T := ⟨S_, .i32⟩) main_call8_call0_call0_c) (constantI S_ 32 466688986#32)
  :: TRef.binary (TRef.of (T := ⟨S_, .i32⟩) main_call8_call0_call0_v0) (TRef.of (T := ⟨S_, .i32⟩) main_call8_call0_call0_c) (TRef.of (T := ⟨S_, .i32⟩) main_call8_call0_call0_v1) xori
  :: TRef.unary (TRef.of (T := ⟨S_, .i32⟩) main_call8_call0_v4) (TRef.of (T := ⟨S64x151936, .i32⟩) main_call8_call0_call0_v2) (broadcastInDim S64x151936 ![] bcast_S_S64x151936)
  :: TRef.binary (TRef.of (T := ⟨S64x151936, .i32⟩) main_call8_call0_v17) (TRef.of (T := ⟨S64x151936, .i32⟩) main_call8_call0_call0_v2) (TRef.of (T := ⟨S64x151936, .i32⟩) main_call8_call0_call0_v3) addi
  :: TRef.unary (TRef.of (T := ⟨S_, .i32⟩) main_call8_call0_v6) (TRef.of (T := ⟨S64x151936, .i32⟩) main_call8_call0_call0_v4) (broadcastInDim S64x151936 ![] bcast_S_S64x151936)
  :: TRef.binary (TRef.of (T := ⟨S64x151936, .i32⟩) main_call8_call0_v16) (TRef.of (T := ⟨S64x151936, .i32⟩) main_call8_call0_call0_v4) (TRef.of (T := ⟨S64x151936, .i32⟩) main_call8_call0_call0_v5) addi
  :: TRef.binary (TRef.of (T := ⟨S64x151936, .i32⟩) main_call8_call0_call0_v3) (TRef.of (T := ⟨S64x151936, .i32⟩) main_call8_call0_call0_v5) (TRef.of (T := ⟨S64x151936, .i32⟩) main_call8_call0_call0_v6) addi
  :: TRef.nullary (TRef.of (T := ⟨S_, .i32⟩) main_call8_call0_call0_c_0) (constantI S_ 32 13#32)
  :: TRef.unary (TRef.of (T := ⟨S_, .i32⟩) main_call8_call0_call0_c_0) (TRef.of (T := ⟨S64x151936, .i32⟩) main_call8_call0_call0_v7) (broadcastInDim S64x151936 ![] bcast_S_S64x151936)
  :: TRef.binary (TRef.of (T := ⟨S64x151936, .i32⟩) main_call8_call0_call0_v5) (TRef.of (T := ⟨S64x151936, .i32⟩) main_call8_call0_call0_v7) (TRef.of (T := ⟨S64x151936, .i32⟩) main_call8_call0_call0_v8) Host.shli
  :: TRef.nullary (TRef.of (T := ⟨S_, .i32⟩) main_call8_call0_call0_c_1) (constantI S_ 32 19#32)
  :: TRef.unary (TRef.of (T := ⟨S_, .i32⟩) main_call8_call0_call0_c_1) (TRef.of (T := ⟨S64x151936, .i32⟩) main_call8_call0_call0_v9) (broadcastInDim S64x151936 ![] bcast_S_S64x151936)
  :: TRef.binary (TRef.of (T := ⟨S64x151936, .i32⟩) main_call8_call0_call0_v5) (TRef.of (T := ⟨S64x151936, .i32⟩) main_call8_call0_call0_v9) (TRef.of (T := ⟨S64x151936, .i32⟩) main_call8_call0_call0_v10) Host.shrui
  :: TRef.binary (TRef.of (T := ⟨S64x151936, .i32⟩) main_call8_call0_call0_v8) (TRef.of (T := ⟨S64x151936, .i32⟩) main_call8_call0_call0_v10) (TRef.of (T := ⟨S64x151936, .i32⟩) main_call8_call0_call0_v11) ori
  :: TRef.binary (TRef.of (T := ⟨S64x151936, .i32⟩) main_call8_call0_call0_v6) (TRef.of (T := ⟨S64x151936, .i32⟩) main_call8_call0_call0_v11) (TRef.of (T := ⟨S64x151936, .i32⟩) main_call8_call0_call0_v12) xori
  :: TRef.binary (TRef.of (T := ⟨S64x151936, .i32⟩) main_call8_call0_call0_v6) (TRef.of (T := ⟨S64x151936, .i32⟩) main_call8_call0_call0_v12) (TRef.of (T := ⟨S64x151936, .i32⟩) main_call8_call0_call0_v13) addi
  :: TRef.nullary (TRef.of (T := ⟨S_, .i32⟩) main_call8_call0_call0_c_2) (constantI S_ 32 15#32)
  :: TRef.unary (TRef.of (T := ⟨S_, .i32⟩) main_call8_call0_call0_c_2) (TRef.of (T := ⟨S64x151936, .i32⟩) main_call8_call0_call0_v14) (broadcastInDim S64x151936 ![] bcast_S_S64x151936)
  :: TRef.binary (TRef.of (T := ⟨S64x151936, .i32⟩) main_call8_call0_call0_v12) (TRef.of (T := ⟨S64x151936, .i32⟩) main_call8_call0_call0_v14) (TRef.of (T := ⟨S64x151936, .i32⟩) main_call8_call0_call0_v15) Host.shli
  :: TRef.nullary (TRef.of (T := ⟨S_, .i32⟩) main_call8_call0_call0_c_3) (constantI S_ 32 17#32)
  :: TRef.unary (TRef.of (T := ⟨S_, .i32⟩) main_call8_call0_call0_c_3) (TRef.of (T := ⟨S64x151936, .i32⟩) main_call8_call0_call0_v16) (broadcastInDim S64x151936 ![] bcast_S_S64x151936)
  :: TRef.binary (TRef.of (T := ⟨S64x151936, .i32⟩) main_call8_call0_call0_v12) (TRef.of (T := ⟨S64x151936, .i32⟩) main_call8_call0_call0_v16) (TRef.of (T := ⟨S64x151936, .i32⟩) main_call8_call0_call0_v17) Host.shrui
  :: TRef.binary (TRef.of (T := ⟨S64x151936, .i32⟩) main_call8_call0_call0_v15) (TRef.of (T := ⟨S64x151936, .i32⟩) main_call8_call0_call0_v17) (TRef.of (T := ⟨S64x151936, .i32⟩) main_call8_call0_call0_v18) ori
  :: TRef.binary (TRef.of (T := ⟨S64x151936, .i32⟩) main_call8_call0_call0_v13) (TRef.of (T := ⟨S64x151936, .i32⟩) main_call8_call0_call0_v18) (TRef.of (T := ⟨S64x151936, .i32⟩) main_call8_call0_call0_v19) xori
  :: TRef.binary (TRef.of (T := ⟨S64x151936, .i32⟩) main_call8_call0_call0_v13) (TRef.of (T := ⟨S64x151936, .i32⟩) main_call8_call0_call0_v19) (TRef.of (T := ⟨S64x151936, .i32⟩) main_call8_call0_call0_v20) addi
  :: TRef.nullary (TRef.of (T := ⟨S_, .i32⟩) main_call8_call0_call0_c_4) (constantI S_ 32 26#32)
  :: TRef.unary (TRef.of (T := ⟨S_, .i32⟩) main_call8_call0_call0_c_4) (TRef.of (T := ⟨S64x151936, .i32⟩) main_call8_call0_call0_v21) (broadcastInDim S64x151936 ![] bcast_S_S64x151936)
  :: TRef.binary (TRef.of (T := ⟨S64x151936, .i32⟩) main_call8_call0_call0_v19) (TRef.of (T := ⟨S64x151936, .i32⟩) main_call8_call0_call0_v21) (TRef.of (T := ⟨S64x151936, .i32⟩) main_call8_call0_call0_v22) Host.shli
  :: TRef.nullary (TRef.of (T := ⟨S_, .i32⟩) main_call8_call0_call0_c_5) (constantI S_ 32 6#32)
  :: TRef.unary (TRef.of (T := ⟨S_, .i32⟩) main_call8_call0_call0_c_5) (TRef.of (T := ⟨S64x151936, .i32⟩) main_call8_call0_call0_v23) (broadcastInDim S64x151936 ![] bcast_S_S64x151936)
  :: TRef.binary (TRef.of (T := ⟨S64x151936, .i32⟩) main_call8_call0_call0_v19) (TRef.of (T := ⟨S64x151936, .i32⟩) main_call8_call0_call0_v23) (TRef.of (T := ⟨S64x151936, .i32⟩) main_call8_call0_call0_v24) Host.shrui
  :: TRef.binary (TRef.of (T := ⟨S64x151936, .i32⟩) main_call8_call0_call0_v22) (TRef.of (T := ⟨S64x151936, .i32⟩) main_call8_call0_call0_v24) (TRef.of (T := ⟨S64x151936, .i32⟩) main_call8_call0_call0_v25) ori
  :: TRef.binary (TRef.of (T := ⟨S64x151936, .i32⟩) main_call8_call0_call0_v20) (TRef.of (T := ⟨S64x151936, .i32⟩) main_call8_call0_call0_v25) (TRef.of (T := ⟨S64x151936, .i32⟩) main_call8_call0_call0_v26) xori
  :: TRef.binary (TRef.of (T := ⟨S64x151936, .i32⟩) main_call8_call0_call0_v20) (TRef.of (T := ⟨S64x151936, .i32⟩) main_call8_call0_call0_v26) (TRef.of (T := ⟨S64x151936, .i32⟩) main_call8_call0_call0_v27) addi
  :: TRef.nullary (TRef.of (T := ⟨S_, .i32⟩) main_call8_call0_call0_c_6) (constantI S_ 32 6#32)
  :: TRef.unary (TRef.of (T := ⟨S_, .i32⟩) main_call8_call0_call0_c_6) (TRef.of (T := ⟨S64x151936, .i32⟩) main_call8_call0_call0_v28) (broadcastInDim S64x151936 ![] bcast_S_S64x151936)
  :: TRef.binary (TRef.of (T := ⟨S64x151936, .i32⟩) main_call8_call0_call0_v26) (TRef.of (T := ⟨S64x151936, .i32⟩) main_call8_call0_call0_v28) (TRef.of (T := ⟨S64x151936, .i32⟩) main_call8_call0_call0_v29) Host.shli
  :: TRef.nullary (TRef.of (T := ⟨S_, .i32⟩) main_call8_call0_call0_c_7) (constantI S_ 32 26#32)
  :: TRef.unary (TRef.of (T := ⟨S_, .i32⟩) main_call8_call0_call0_c_7) (TRef.of (T := ⟨S64x151936, .i32⟩) main_call8_call0_call0_v30) (broadcastInDim S64x151936 ![] bcast_S_S64x151936)
  :: TRef.binary (TRef.of (T := ⟨S64x151936, .i32⟩) main_call8_call0_call0_v26) (TRef.of (T := ⟨S64x151936, .i32⟩) main_call8_call0_call0_v30) (TRef.of (T := ⟨S64x151936, .i32⟩) main_call8_call0_call0_v31) Host.shrui
  :: TRef.binary (TRef.of (T := ⟨S64x151936, .i32⟩) main_call8_call0_call0_v29) (TRef.of (T := ⟨S64x151936, .i32⟩) main_call8_call0_call0_v31) (TRef.of (T := ⟨S64x151936, .i32⟩) main_call8_call0_call0_v32) ori
  :: TRef.binary (TRef.of (T := ⟨S64x151936, .i32⟩) main_call8_call0_call0_v27) (TRef.of (T := ⟨S64x151936, .i32⟩) main_call8_call0_call0_v32) (TRef.of (T := ⟨S64x151936, .i32⟩) main_call8_call0_call0_v33) xori
  :: TRef.unary (TRef.of (T := ⟨S_, .i32⟩) main_call8_call0_v6) (TRef.of (T := ⟨S64x151936, .i32⟩) main_call8_call0_call0_v34) (broadcastInDim S64x151936 ![] bcast_S_S64x151936)
  :: TRef.binary (TRef.of (T := ⟨S64x151936, .i32⟩) main_call8_call0_call0_v27) (TRef.of (T := ⟨S64x151936, .i32⟩) main_call8_call0_call0_v34) (TRef.of (T := ⟨S64x151936, .i32⟩) main_call8_call0_call0_v35) addi
  :: TRef.unary (TRef.of (T := ⟨S_, .i32⟩) main_call8_call0_call0_v1) (TRef.of (T := ⟨S64x151936, .i32⟩) main_call8_call0_call0_v36) (broadcastInDim S64x151936 ![] bcast_S_S64x151936)
  :: TRef.binary (TRef.of (T := ⟨S64x151936, .i32⟩) main_call8_call0_call0_v33) (TRef.of (T := ⟨S64x151936, .i32⟩) main_call8_call0_call0_v36) (TRef.of (T := ⟨S64x151936, .i32⟩) main_call8_call0_call0_v37) addi
  :: TRef.nullary (TRef.of (T := ⟨S_, .i32⟩) main_call8_call0_call0_c_8) (constantI S_ 32 1#32)
  :: TRef.unary (TRef.of (T := ⟨S_, .i32⟩) main_call8_call0_call0_c_8) (TRef.of (T := ⟨S64x151936, .i32⟩) main_call8_call0_call0_v38) (broadcastInDim S64x151936 ![] bcast_S_S64x151936)
  :: TRef.binary (TRef.of (T := ⟨S64x151936, .i32⟩) main_call8_call0_call0_v37) (TRef.of (T := ⟨S64x151936, .i32⟩) main_call8_call0_call0_v38) (TRef.of (T := ⟨S64x151936, .i32⟩) main_call8_call0_call0_v39) addi
  :: TRef.binary (TRef.of (T := ⟨S64x151936, .i32⟩) main_call8_call0_call0_v35) (TRef.of (T := ⟨S64x151936, .i32⟩) main_call8_call0_call0_v39) (TRef.of (T := ⟨S64x151936, .i32⟩) main_call8_call0_call0_v40) addi
  :: TRef.nullary (TRef.of (T := ⟨S_, .i32⟩) main_call8_call0_call0_c_9) (constantI S_ 32 17#32)
  :: TRef.unary (TRef.of (T := ⟨S_, .i32⟩) main_call8_call0_call0_c_9) (TRef.of (T := ⟨S64x151936, .i32⟩) main_call8_call0_call0_v41) (broadcastInDim S64x151936 ![] bcast_S_S64x151936)
  :: TRef.binary (TRef.of (T := ⟨S64x151936, .i32⟩) main_call8_call0_call0_v39) (TRef.of (T := ⟨S64x151936, .i32⟩) main_call8_call0_call0_v41) (TRef.of (T := ⟨S64x151936, .i32⟩) main_call8_call0_call0_v42) Host.shli
  :: TRef.nullary (TRef.of (T := ⟨S_, .i32⟩) main_call8_call0_call0_c_10) (constantI S_ 32 15#32)
  :: TRef.unary (TRef.of (T := ⟨S_, .i32⟩) main_call8_call0_call0_c_10) (TRef.of (T := ⟨S64x151936, .i32⟩) main_call8_call0_call0_v43) (broadcastInDim S64x151936 ![] bcast_S_S64x151936)
  :: TRef.binary (TRef.of (T := ⟨S64x151936, .i32⟩) main_call8_call0_call0_v39) (TRef.of (T := ⟨S64x151936, .i32⟩) main_call8_call0_call0_v43) (TRef.of (T := ⟨S64x151936, .i32⟩) main_call8_call0_call0_v44) Host.shrui
  :: TRef.binary (TRef.of (T := ⟨S64x151936, .i32⟩) main_call8_call0_call0_v42) (TRef.of (T := ⟨S64x151936, .i32⟩) main_call8_call0_call0_v44) (TRef.of (T := ⟨S64x151936, .i32⟩) main_call8_call0_call0_v45) ori
  :: TRef.binary (TRef.of (T := ⟨S64x151936, .i32⟩) main_call8_call0_call0_v40) (TRef.of (T := ⟨S64x151936, .i32⟩) main_call8_call0_call0_v45) (TRef.of (T := ⟨S64x151936, .i32⟩) main_call8_call0_call0_v46) xori
  :: TRef.binary (TRef.of (T := ⟨S64x151936, .i32⟩) main_call8_call0_call0_v40) (TRef.of (T := ⟨S64x151936, .i32⟩) main_call8_call0_call0_v46) (TRef.of (T := ⟨S64x151936, .i32⟩) main_call8_call0_call0_v47) addi
  :: TRef.nullary (TRef.of (T := ⟨S_, .i32⟩) main_call8_call0_call0_c_11) (constantI S_ 32 29#32)
  :: TRef.unary (TRef.of (T := ⟨S_, .i32⟩) main_call8_call0_call0_c_11) (TRef.of (T := ⟨S64x151936, .i32⟩) main_call8_call0_call0_v48) (broadcastInDim S64x151936 ![] bcast_S_S64x151936)
  :: TRef.binary (TRef.of (T := ⟨S64x151936, .i32⟩) main_call8_call0_call0_v46) (TRef.of (T := ⟨S64x151936, .i32⟩) main_call8_call0_call0_v48) (TRef.of (T := ⟨S64x151936, .i32⟩) main_call8_call0_call0_v49) Host.shli
  :: TRef.nullary (TRef.of (T := ⟨S_, .i32⟩) main_call8_call0_call0_c_12) (constantI S_ 32 3#32)
  :: TRef.unary (TRef.of (T := ⟨S_, .i32⟩) main_call8_call0_call0_c_12) (TRef.of (T := ⟨S64x151936, .i32⟩) main_call8_call0_call0_v50) (broadcastInDim S64x151936 ![] bcast_S_S64x151936)
  :: TRef.binary (TRef.of (T := ⟨S64x151936, .i32⟩) main_call8_call0_call0_v46) (TRef.of (T := ⟨S64x151936, .i32⟩) main_call8_call0_call0_v50) (TRef.of (T := ⟨S64x151936, .i32⟩) main_call8_call0_call0_v51) Host.shrui
  :: TRef.binary (TRef.of (T := ⟨S64x151936, .i32⟩) main_call8_call0_call0_v49) (TRef.of (T := ⟨S64x151936, .i32⟩) main_call8_call0_call0_v51) (TRef.of (T := ⟨S64x151936, .i32⟩) main_call8_call0_call0_v52) ori
  :: TRef.binary (TRef.of (T := ⟨S64x151936, .i32⟩) main_call8_call0_call0_v47) (TRef.of (T := ⟨S64x151936, .i32⟩) main_call8_call0_call0_v52) (TRef.of (T := ⟨S64x151936, .i32⟩) main_call8_call0_call0_v53) xori
  :: TRef.binary (TRef.of (T := ⟨S64x151936, .i32⟩) main_call8_call0_call0_v47) (TRef.of (T := ⟨S64x151936, .i32⟩) main_call8_call0_call0_v53) (TRef.of (T := ⟨S64x151936, .i32⟩) main_call8_call0_call0_v54) addi
  :: TRef.nullary (TRef.of (T := ⟨S_, .i32⟩) main_call8_call0_call0_c_13) (constantI S_ 32 16#32)
  :: TRef.unary (TRef.of (T := ⟨S_, .i32⟩) main_call8_call0_call0_c_13) (TRef.of (T := ⟨S64x151936, .i32⟩) main_call8_call0_call0_v55) (broadcastInDim S64x151936 ![] bcast_S_S64x151936)
  :: TRef.binary (TRef.of (T := ⟨S64x151936, .i32⟩) main_call8_call0_call0_v53) (TRef.of (T := ⟨S64x151936, .i32⟩) main_call8_call0_call0_v55) (TRef.of (T := ⟨S64x151936, .i32⟩) main_call8_call0_call0_v56) Host.shli
  :: TRef.nullary (TRef.of (T := ⟨S_, .i32⟩) main_call8_call0_call0_c_14) (constantI S_ 32 16#32)
  :: TRef.unary (TRef.of (T := ⟨S_, .i32⟩) main_call8_call0_call0_c_14) (TRef.of (T := ⟨S64x151936, .i32⟩) main_call8_call0_call0_v57) (broadcastInDim S64x151936 ![] bcast_S_S64x151936)
  :: TRef.binary (TRef.of (T := ⟨S64x151936, .i32⟩) main_call8_call0_call0_v53) (TRef.of (T := ⟨S64x151936, .i32⟩) main_call8_call0_call0_v57) (TRef.of (T := ⟨S64x151936, .i32⟩) main_call8_call0_call0_v58) Host.shrui
  :: TRef.binary (TRef.of (T := ⟨S64x151936, .i32⟩) main_call8_call0_call0_v56) (TRef.of (T := ⟨S64x151936, .i32⟩) main_call8_call0_call0_v58) (TRef.of (T := ⟨S64x151936, .i32⟩) main_call8_call0_call0_v59) ori
  :: TRef.binary (TRef.of (T := ⟨S64x151936, .i32⟩) main_call8_call0_call0_v54) (TRef.of (T := ⟨S64x151936, .i32⟩) main_call8_call0_call0_v59) (TRef.of (T := ⟨S64x151936, .i32⟩) main_call8_call0_call0_v60) xori
  :: TRef.binary (TRef.of (T := ⟨S64x151936, .i32⟩) main_call8_call0_call0_v54) (TRef.of (T := ⟨S64x151936, .i32⟩) main_call8_call0_call0_v60) (TRef.of (T := ⟨S64x151936, .i32⟩) main_call8_call0_call0_v61) addi
  :: TRef.nullary (TRef.of (T := ⟨S_, .i32⟩) main_call8_call0_call0_c_15) (constantI S_ 32 24#32)
  :: TRef.unary (TRef.of (T := ⟨S_, .i32⟩) main_call8_call0_call0_c_15) (TRef.of (T := ⟨S64x151936, .i32⟩) main_call8_call0_call0_v62) (broadcastInDim S64x151936 ![] bcast_S_S64x151936)
  :: TRef.binary (TRef.of (T := ⟨S64x151936, .i32⟩) main_call8_call0_call0_v60) (TRef.of (T := ⟨S64x151936, .i32⟩) main_call8_call0_call0_v62) (TRef.of (T := ⟨S64x151936, .i32⟩) main_call8_call0_call0_v63) Host.shli
  :: TRef.nullary (TRef.of (T := ⟨S_, .i32⟩) main_call8_call0_call0_c_16) (constantI S_ 32 8#32)
  :: TRef.unary (TRef.of (T := ⟨S_, .i32⟩) main_call8_call0_call0_c_16) (TRef.of (T := ⟨S64x151936, .i32⟩) main_call8_call0_call0_v64) (broadcastInDim S64x151936 ![] bcast_S_S64x151936)
  :: TRef.binary (TRef.of (T := ⟨S64x151936, .i32⟩) main_call8_call0_call0_v60) (TRef.of (T := ⟨S64x151936, .i32⟩) main_call8_call0_call0_v64) (TRef.of (T := ⟨S64x151936, .i32⟩) main_call8_call0_call0_v65) Host.shrui
  :: TRef.binary (TRef.of (T := ⟨S64x151936, .i32⟩) main_call8_call0_call0_v63) (TRef.of (T := ⟨S64x151936, .i32⟩) main_call8_call0_call0_v65) (TRef.of (T := ⟨S64x151936, .i32⟩) main_call8_call0_call0_v66) ori
  :: TRef.binary (TRef.of (T := ⟨S64x151936, .i32⟩) main_call8_call0_call0_v61) (TRef.of (T := ⟨S64x151936, .i32⟩) main_call8_call0_call0_v66) (TRef.of (T := ⟨S64x151936, .i32⟩) main_call8_call0_call0_v67) xori
  :: TRef.unary (TRef.of (T := ⟨S_, .i32⟩) main_call8_call0_call0_v1) (TRef.of (T := ⟨S64x151936, .i32⟩) main_call8_call0_call0_v68) (broadcastInDim S64x151936 ![] bcast_S_S64x151936)
  :: TRef.binary (TRef.of (T := ⟨S64x151936, .i32⟩) main_call8_call0_call0_v61) (TRef.of (T := ⟨S64x151936, .i32⟩) main_call8_call0_call0_v68) (TRef.of (T := ⟨S64x151936, .i32⟩) main_call8_call0_call0_v69) addi
  :: TRef.unary (TRef.of (T := ⟨S_, .i32⟩) main_call8_call0_v4) (TRef.of (T := ⟨S64x151936, .i32⟩) main_call8_call0_call0_v70) (broadcastInDim S64x151936 ![] bcast_S_S64x151936)
  :: TRef.binary (TRef.of (T := ⟨S64x151936, .i32⟩) main_call8_call0_call0_v67) (TRef.of (T := ⟨S64x151936, .i32⟩) main_call8_call0_call0_v70) (TRef.of (T := ⟨S64x151936, .i32⟩) main_call8_call0_call0_v71) addi
  :: TRef.nullary (TRef.of (T := ⟨S_, .i32⟩) main_call8_call0_call0_c_17) (constantI S_ 32 2#32)
  :: TRef.unary (TRef.of (T := ⟨S_, .i32⟩) main_call8_call0_call0_c_17) (TRef.of (T := ⟨S64x151936, .i32⟩) main_call8_call0_call0_v72) (broadcastInDim S64x151936 ![] bcast_S_S64x151936)
  :: TRef.binary (TRef.of (T := ⟨S64x151936, .i32⟩) main_call8_call0_call0_v71) (TRef.of (T := ⟨S64x151936, .i32⟩) main_call8_call0_call0_v72) (TRef.of (T := ⟨S64x151936, .i32⟩) main_call8_call0_call0_v73) addi
  :: TRef.binary (TRef.of (T := ⟨S64x151936, .i32⟩) main_call8_call0_call0_v69) (TRef.of (T := ⟨S64x151936, .i32⟩) main_call8_call0_call0_v73) (TRef.of (T := ⟨S64x151936, .i32⟩) main_call8_call0_call0_v74) addi
  :: TRef.nullary (TRef.of (T := ⟨S_, .i32⟩) main_call8_call0_call0_c_18) (constantI S_ 32 13#32)
  :: TRef.unary (TRef.of (T := ⟨S_, .i32⟩) main_call8_call0_call0_c_18) (TRef.of (T := ⟨S64x151936, .i32⟩) main_call8_call0_call0_v75) (broadcastInDim S64x151936 ![] bcast_S_S64x151936)
  :: TRef.binary (TRef.of (T := ⟨S64x151936, .i32⟩) main_call8_call0_call0_v73) (TRef.of (T := ⟨S64x151936, .i32⟩) main_call8_call0_call0_v75) (TRef.of (T := ⟨S64x151936, .i32⟩) main_call8_call0_call0_v76) Host.shli
  :: TRef.nullary (TRef.of (T := ⟨S_, .i32⟩) main_call8_call0_call0_c_19) (constantI S_ 32 19#32)
  :: TRef.unary (TRef.of (T := ⟨S_, .i32⟩) main_call8_call0_call0_c_19) (TRef.of (T := ⟨S64x151936, .i32⟩) main_call8_call0_call0_v77) (broadcastInDim S64x151936 ![] bcast_S_S64x151936)
  :: TRef.binary (TRef.of (T := ⟨S64x151936, .i32⟩) main_call8_call0_call0_v73) (TRef.of (T := ⟨S64x151936, .i32⟩) main_call8_call0_call0_v77) (TRef.of (T := ⟨S64x151936, .i32⟩) main_call8_call0_call0_v78) Host.shrui
  :: TRef.binary (TRef.of (T := ⟨S64x151936, .i32⟩) main_call8_call0_call0_v76) (TRef.of (T := ⟨S64x151936, .i32⟩) main_call8_call0_call0_v78) (TRef.of (T := ⟨S64x151936, .i32⟩) main_call8_call0_call0_v79) ori
  :: TRef.binary (TRef.of (T := ⟨S64x151936, .i32⟩) main_call8_call0_call0_v74) (TRef.of (T := ⟨S64x151936, .i32⟩) main_call8_call0_call0_v79) (TRef.of (T := ⟨S64x151936, .i32⟩) main_call8_call0_call0_v80) xori
  :: TRef.binary (TRef.of (T := ⟨S64x151936, .i32⟩) main_call8_call0_call0_v74) (TRef.of (T := ⟨S64x151936, .i32⟩) main_call8_call0_call0_v80) (TRef.of (T := ⟨S64x151936, .i32⟩) main_call8_call0_call0_v81) addi
  :: TRef.nullary (TRef.of (T := ⟨S_, .i32⟩) main_call8_call0_call0_c_20) (constantI S_ 32 15#32)
  :: TRef.unary (TRef.of (T := ⟨S_, .i32⟩) main_call8_call0_call0_c_20) (TRef.of (T := ⟨S64x151936, .i32⟩) main_call8_call0_call0_v82) (broadcastInDim S64x151936 ![] bcast_S_S64x151936)
  :: TRef.binary (TRef.of (T := ⟨S64x151936, .i32⟩) main_call8_call0_call0_v80) (TRef.of (T := ⟨S64x151936, .i32⟩) main_call8_call0_call0_v82) (TRef.of (T := ⟨S64x151936, .i32⟩) main_call8_call0_call0_v83) Host.shli
  :: TRef.nullary (TRef.of (T := ⟨S_, .i32⟩) main_call8_call0_call0_c_21) (constantI S_ 32 17#32)
  :: TRef.unary (TRef.of (T := ⟨S_, .i32⟩) main_call8_call0_call0_c_21) (TRef.of (T := ⟨S64x151936, .i32⟩) main_call8_call0_call0_v84) (broadcastInDim S64x151936 ![] bcast_S_S64x151936)
  :: TRef.binary (TRef.of (T := ⟨S64x151936, .i32⟩) main_call8_call0_call0_v80) (TRef.of (T := ⟨S64x151936, .i32⟩) main_call8_call0_call0_v84) (TRef.of (T := ⟨S64x151936, .i32⟩) main_call8_call0_call0_v85) Host.shrui
  :: TRef.binary (TRef.of (T := ⟨S64x151936, .i32⟩) main_call8_call0_call0_v83) (TRef.of (T := ⟨S64x151936, .i32⟩) main_call8_call0_call0_v85) (TRef.of (T := ⟨S64x151936, .i32⟩) main_call8_call0_call0_v86) ori
  :: TRef.binary (TRef.of (T := ⟨S64x151936, .i32⟩) main_call8_call0_call0_v81) (TRef.of (T := ⟨S64x151936, .i32⟩) main_call8_call0_call0_v86) (TRef.of (T := ⟨S64x151936, .i32⟩) main_call8_call0_call0_v87) xori
  :: TRef.binary (TRef.of (T := ⟨S64x151936, .i32⟩) main_call8_call0_call0_v81) (TRef.of (T := ⟨S64x151936, .i32⟩) main_call8_call0_call0_v87) (TRef.of (T := ⟨S64x151936, .i32⟩) main_call8_call0_call0_v88) addi
  :: TRef.nullary (TRef.of (T := ⟨S_, .i32⟩) main_call8_call0_call0_c_22) (constantI S_ 32 26#32)
  :: TRef.unary (TRef.of (T := ⟨S_, .i32⟩) main_call8_call0_call0_c_22) (TRef.of (T := ⟨S64x151936, .i32⟩) main_call8_call0_call0_v89) (broadcastInDim S64x151936 ![] bcast_S_S64x151936)
  :: TRef.binary (TRef.of (T := ⟨S64x151936, .i32⟩) main_call8_call0_call0_v87) (TRef.of (T := ⟨S64x151936, .i32⟩) main_call8_call0_call0_v89) (TRef.of (T := ⟨S64x151936, .i32⟩) main_call8_call0_call0_v90) Host.shli
  :: TRef.nullary (TRef.of (T := ⟨S_, .i32⟩) main_call8_call0_call0_c_23) (constantI S_ 32 6#32)
  :: TRef.unary (TRef.of (T := ⟨S_, .i32⟩) main_call8_call0_call0_c_23) (TRef.of (T := ⟨S64x151936, .i32⟩) main_call8_call0_call0_v91) (broadcastInDim S64x151936 ![] bcast_S_S64x151936)
  :: TRef.binary (TRef.of (T := ⟨S64x151936, .i32⟩) main_call8_call0_call0_v87) (TRef.of (T := ⟨S64x151936, .i32⟩) main_call8_call0_call0_v91) (TRef.of (T := ⟨S64x151936, .i32⟩) main_call8_call0_call0_v92) Host.shrui
  :: TRef.binary (TRef.of (T := ⟨S64x151936, .i32⟩) main_call8_call0_call0_v90) (TRef.of (T := ⟨S64x151936, .i32⟩) main_call8_call0_call0_v92) (TRef.of (T := ⟨S64x151936, .i32⟩) main_call8_call0_call0_v93) ori
  :: TRef.binary (TRef.of (T := ⟨S64x151936, .i32⟩) main_call8_call0_call0_v88) (TRef.of (T := ⟨S64x151936, .i32⟩) main_call8_call0_call0_v93) (TRef.of (T := ⟨S64x151936, .i32⟩) main_call8_call0_call0_v94) xori
  :: TRef.binary (TRef.of (T := ⟨S64x151936, .i32⟩) main_call8_call0_call0_v88) (TRef.of (T := ⟨S64x151936, .i32⟩) main_call8_call0_call0_v94) (TRef.of (T := ⟨S64x151936, .i32⟩) main_call8_call0_call0_v95) addi
  :: TRef.nullary (TRef.of (T := ⟨S_, .i32⟩) main_call8_call0_call0_c_24) (constantI S_ 32 6#32)
  :: TRef.unary (TRef.of (T := ⟨S_, .i32⟩) main_call8_call0_call0_c_24) (TRef.of (T := ⟨S64x151936, .i32⟩) main_call8_call0_call0_v96) (broadcastInDim S64x151936 ![] bcast_S_S64x151936)
  :: TRef.binary (TRef.of (T := ⟨S64x151936, .i32⟩) main_call8_call0_call0_v94) (TRef.of (T := ⟨S64x151936, .i32⟩) main_call8_call0_call0_v96) (TRef.of (T := ⟨S64x151936, .i32⟩) main_call8_call0_call0_v97) Host.shli
  :: TRef.nullary (TRef.of (T := ⟨S_, .i32⟩) main_call8_call0_call0_c_25) (constantI S_ 32 26#32)
  :: TRef.unary (TRef.of (T := ⟨S_, .i32⟩) main_call8_call0_call0_c_25) (TRef.of (T := ⟨S64x151936, .i32⟩) main_call8_call0_call0_v98) (broadcastInDim S64x151936 ![] bcast_S_S64x151936)
  :: TRef.binary (TRef.of (T := ⟨S64x151936, .i32⟩) main_call8_call0_call0_v94) (TRef.of (T := ⟨S64x151936, .i32⟩) main_call8_call0_call0_v98) (TRef.of (T := ⟨S64x151936, .i32⟩) main_call8_call0_call0_v99) Host.shrui
  :: TRef.binary (TRef.of (T := ⟨S64x151936, .i32⟩) main_call8_call0_call0_v97) (TRef.of (T := ⟨S64x151936, .i32⟩) main_call8_call0_call0_v99) (TRef.of (T := ⟨S64x151936, .i32⟩) main_call8_call0_call0_v100) ori
  :: TRef.binary (TRef.of (T := ⟨S64x151936, .i32⟩) main_call8_call0_call0_v95) (TRef.of (T := ⟨S64x151936, .i32⟩) main_call8_call0_call0_v100) (TRef.of (T := ⟨S64x151936, .i32⟩) main_call8_call0_call0_v101) xori
  :: TRef.unary (TRef.of (T := ⟨S_, .i32⟩) main_call8_call0_v4) (TRef.of (T := ⟨S64x151936, .i32⟩) main_call8_call0_call0_v102) (broadcastInDim S64x151936 ![] bcast_S_S64x151936)
  :: TRef.binary (TRef.of (T := ⟨S64x151936, .i32⟩) main_call8_call0_call0_v95) (TRef.of (T := ⟨S64x151936, .i32⟩) main_call8_call0_call0_v102) (TRef.of (T := ⟨S64x151936, .i32⟩) main_call8_call0_call0_v103) addi
  :: TRef.unary (TRef.of (T := ⟨S_, .i32⟩) main_call8_call0_v6) (TRef.of (T := ⟨S64x151936, .i32⟩) main_call8_call0_call0_v104) (broadcastInDim S64x151936 ![] bcast_S_S64x151936)
  :: TRef.binary (TRef.of (T := ⟨S64x151936, .i32⟩) main_call8_call0_call0_v101) (TRef.of (T := ⟨S64x151936, .i32⟩) main_call8_call0_call0_v104) (TRef.of (T := ⟨S64x151936, .i32⟩) main_call8_call0_call0_v105) addi
  :: TRef.nullary (TRef.of (T := ⟨S_, .i32⟩) main_call8_call0_call0_c_26) (constantI S_ 32 3#32)
  :: TRef.unary (TRef.of (T := ⟨S_, .i32⟩) main_call8_call0_call0_c_26) (TRef.of (T := ⟨S64x151936, .i32⟩) main_call8_call0_call0_v106) (broadcastInDim S64x151936 ![] bcast_S_S64x151936)
  :: TRef.binary (TRef.of (T := ⟨S64x151936, .i32⟩) main_call8_call0_call0_v105) (TRef.of (T := ⟨S64x151936, .i32⟩) main_call8_call0_call0_v106) (TRef.of (T := ⟨S64x151936, .i32⟩) main_call8_call0_call0_v107) addi
  :: TRef.binary (TRef.of (T := ⟨S64x151936, .i32⟩) main_call8_call0_call0_v103) (TRef.of (T := ⟨S64x151936, .i32⟩) main_call8_call0_call0_v107) (TRef.of (T := ⟨S64x151936, .i32⟩) main_call8_call0_call0_v108) addi
  :: TRef.nullary (TRef.of (T := ⟨S_, .i32⟩) main_call8_call0_call0_c_27) (constantI S_ 32 17#32)
  :: TRef.unary (TRef.of (T := ⟨S_, .i32⟩) main_call8_call0_call0_c_27) (TRef.of (T := ⟨S64x151936, .i32⟩) main_call8_call0_call0_v109) (broadcastInDim S64x151936 ![] bcast_S_S64x151936)
  :: TRef.binary (TRef.of (T := ⟨S64x151936, .i32⟩) main_call8_call0_call0_v107) (TRef.of (T := ⟨S64x151936, .i32⟩) main_call8_call0_call0_v109) (TRef.of (T := ⟨S64x151936, .i32⟩) main_call8_call0_call0_v110) Host.shli
  :: TRef.nullary (TRef.of (T := ⟨S_, .i32⟩) main_call8_call0_call0_c_28) (constantI S_ 32 15#32)
  :: TRef.unary (TRef.of (T := ⟨S_, .i32⟩) main_call8_call0_call0_c_28) (TRef.of (T := ⟨S64x151936, .i32⟩) main_call8_call0_call0_v111) (broadcastInDim S64x151936 ![] bcast_S_S64x151936)
  :: TRef.binary (TRef.of (T := ⟨S64x151936, .i32⟩) main_call8_call0_call0_v107) (TRef.of (T := ⟨S64x151936, .i32⟩) main_call8_call0_call0_v111) (TRef.of (T := ⟨S64x151936, .i32⟩) main_call8_call0_call0_v112) Host.shrui
  :: TRef.binary (TRef.of (T := ⟨S64x151936, .i32⟩) main_call8_call0_call0_v110) (TRef.of (T := ⟨S64x151936, .i32⟩) main_call8_call0_call0_v112) (TRef.of (T := ⟨S64x151936, .i32⟩) main_call8_call0_call0_v113) ori
  :: TRef.binary (TRef.of (T := ⟨S64x151936, .i32⟩) main_call8_call0_call0_v108) (TRef.of (T := ⟨S64x151936, .i32⟩) main_call8_call0_call0_v113) (TRef.of (T := ⟨S64x151936, .i32⟩) main_call8_call0_call0_v114) xori
  :: TRef.binary (TRef.of (T := ⟨S64x151936, .i32⟩) main_call8_call0_call0_v108) (TRef.of (T := ⟨S64x151936, .i32⟩) main_call8_call0_call0_v114) (TRef.of (T := ⟨S64x151936, .i32⟩) main_call8_call0_call0_v115) addi
  :: TRef.nullary (TRef.of (T := ⟨S_, .i32⟩) main_call8_call0_call0_c_29) (constantI S_ 32 29#32)
  :: TRef.unary (TRef.of (T := ⟨S_, .i32⟩) main_call8_call0_call0_c_29) (TRef.of (T := ⟨S64x151936, .i32⟩) main_call8_call0_call0_v116) (broadcastInDim S64x151936 ![] bcast_S_S64x151936)
  :: TRef.binary (TRef.of (T := ⟨S64x151936, .i32⟩) main_call8_call0_call0_v114) (TRef.of (T := ⟨S64x151936, .i32⟩) main_call8_call0_call0_v116) (TRef.of (T := ⟨S64x151936, .i32⟩) main_call8_call0_call0_v117) Host.shli
  :: TRef.nullary (TRef.of (T := ⟨S_, .i32⟩) main_call8_call0_call0_c_30) (constantI S_ 32 3#32)
  :: TRef.unary (TRef.of (T := ⟨S_, .i32⟩) main_call8_call0_call0_c_30) (TRef.of (T := ⟨S64x151936, .i32⟩) main_call8_call0_call0_v118) (broadcastInDim S64x151936 ![] bcast_S_S64x151936)
  :: TRef.binary (TRef.of (T := ⟨S64x151936, .i32⟩) main_call8_call0_call0_v114) (TRef.of (T := ⟨S64x151936, .i32⟩) main_call8_call0_call0_v118) (TRef.of (T := ⟨S64x151936, .i32⟩) main_call8_call0_call0_v119) Host.shrui
  :: TRef.binary (TRef.of (T := ⟨S64x151936, .i32⟩) main_call8_call0_call0_v117) (TRef.of (T := ⟨S64x151936, .i32⟩) main_call8_call0_call0_v119) (TRef.of (T := ⟨S64x151936, .i32⟩) main_call8_call0_call0_v120) ori
  :: TRef.binary (TRef.of (T := ⟨S64x151936, .i32⟩) main_call8_call0_call0_v115) (TRef.of (T := ⟨S64x151936, .i32⟩) main_call8_call0_call0_v120) (TRef.of (T := ⟨S64x151936, .i32⟩) main_call8_call0_call0_v121) xori
  :: TRef.binary (TRef.of (T := ⟨S64x151936, .i32⟩) main_call8_call0_call0_v115) (TRef.of (T := ⟨S64x151936, .i32⟩) main_call8_call0_call0_v121) (TRef.of (T := ⟨S64x151936, .i32⟩) main_call8_call0_call0_v122) addi
  :: TRef.nullary (TRef.of (T := ⟨S_, .i32⟩) main_call8_call0_call0_c_31) (constantI S_ 32 16#32)
  :: TRef.unary (TRef.of (T := ⟨S_, .i32⟩) main_call8_call0_call0_c_31) (TRef.of (T := ⟨S64x151936, .i32⟩) main_call8_call0_call0_v123) (broadcastInDim S64x151936 ![] bcast_S_S64x151936)
  :: TRef.binary (TRef.of (T := ⟨S64x151936, .i32⟩) main_call8_call0_call0_v121) (TRef.of (T := ⟨S64x151936, .i32⟩) main_call8_call0_call0_v123) (TRef.of (T := ⟨S64x151936, .i32⟩) main_call8_call0_call0_v124) Host.shli
  :: TRef.nullary (TRef.of (T := ⟨S_, .i32⟩) main_call8_call0_call0_c_32) (constantI S_ 32 16#32)
  :: TRef.unary (TRef.of (T := ⟨S_, .i32⟩) main_call8_call0_call0_c_32) (TRef.of (T := ⟨S64x151936, .i32⟩) main_call8_call0_call0_v125) (broadcastInDim S64x151936 ![] bcast_S_S64x151936)
  :: TRef.binary (TRef.of (T := ⟨S64x151936, .i32⟩) main_call8_call0_call0_v121) (TRef.of (T := ⟨S64x151936, .i32⟩) main_call8_call0_call0_v125) (TRef.of (T := ⟨S64x151936, .i32⟩) main_call8_call0_call0_v126) Host.shrui
  :: TRef.binary (TRef.of (T := ⟨S64x151936, .i32⟩) main_call8_call0_call0_v124) (TRef.of (T := ⟨S64x151936, .i32⟩) main_call8_call0_call0_v126) (TRef.of (T := ⟨S64x151936, .i32⟩) main_call8_call0_call0_v127) ori
  :: TRef.binary (TRef.of (T := ⟨S64x151936, .i32⟩) main_call8_call0_call0_v122) (TRef.of (T := ⟨S64x151936, .i32⟩) main_call8_call0_call0_v127) (TRef.of (T := ⟨S64x151936, .i32⟩) main_call8_call0_call0_v128) xori
  :: TRef.binary (TRef.of (T := ⟨S64x151936, .i32⟩) main_call8_call0_call0_v122) (TRef.of (T := ⟨S64x151936, .i32⟩) main_call8_call0_call0_v128) (TRef.of (T := ⟨S64x151936, .i32⟩) main_call8_call0_call0_v129) addi
  :: TRef.nullary (TRef.of (T := ⟨S_, .i32⟩) main_call8_call0_call0_c_33) (constantI S_ 32 24#32)
  :: TRef.unary (TRef.of (T := ⟨S_, .i32⟩) main_call8_call0_call0_c_33) (TRef.of (T := ⟨S64x151936, .i32⟩) main_call8_call0_call0_v130) (broadcastInDim S64x151936 ![] bcast_S_S64x151936)
  :: TRef.binary (TRef.of (T := ⟨S64x151936, .i32⟩) main_call8_call0_call0_v128) (TRef.of (T := ⟨S64x151936, .i32⟩) main_call8_call0_call0_v130) (TRef.of (T := ⟨S64x151936, .i32⟩) main_call8_call0_call0_v131) Host.shli
  :: TRef.nullary (TRef.of (T := ⟨S_, .i32⟩) main_call8_call0_call0_c_34) (constantI S_ 32 8#32)
  :: TRef.unary (TRef.of (T := ⟨S_, .i32⟩) main_call8_call0_call0_c_34) (TRef.of (T := ⟨S64x151936, .i32⟩) main_call8_call0_call0_v132) (broadcastInDim S64x151936 ![] bcast_S_S64x151936)
  :: TRef.binary (TRef.of (T := ⟨S64x151936, .i32⟩) main_call8_call0_call0_v128) (TRef.of (T := ⟨S64x151936, .i32⟩) main_call8_call0_call0_v132) (TRef.of (T := ⟨S64x151936, .i32⟩) main_call8_call0_call0_v133) Host.shrui
  :: TRef.binary (TRef.of (T := ⟨S64x151936, .i32⟩) main_call8_call0_call0_v131) (TRef.of (T := ⟨S64x151936, .i32⟩) main_call8_call0_call0_v133) (TRef.of (T := ⟨S64x151936, .i32⟩) main_call8_call0_call0_v134) ori
  :: TRef.binary (TRef.of (T := ⟨S64x151936, .i32⟩) main_call8_call0_call0_v129) (TRef.of (T := ⟨S64x151936, .i32⟩) main_call8_call0_call0_v134) (TRef.of (T := ⟨S64x151936, .i32⟩) main_call8_call0_call0_v135) xori
  :: TRef.unary (TRef.of (T := ⟨S_, .i32⟩) main_call8_call0_v6) (TRef.of (T := ⟨S64x151936, .i32⟩) main_call8_call0_call0_v136) (broadcastInDim S64x151936 ![] bcast_S_S64x151936)
  :: TRef.binary (TRef.of (T := ⟨S64x151936, .i32⟩) main_call8_call0_call0_v129) (TRef.of (T := ⟨S64x151936, .i32⟩) main_call8_call0_call0_v136) (TRef.of (T := ⟨S64x151936, .i32⟩) main_call8_call0_call0_v137) addi
  :: TRef.unary (TRef.of (T := ⟨S_, .i32⟩) main_call8_call0_call0_v1) (TRef.of (T := ⟨S64x151936, .i32⟩) main_call8_call0_call0_v138) (broadcastInDim S64x151936 ![] bcast_S_S64x151936)
  :: TRef.binary (TRef.of (T := ⟨S64x151936, .i32⟩) main_call8_call0_call0_v135) (TRef.of (T := ⟨S64x151936, .i32⟩) main_call8_call0_call0_v138) (TRef.of (T := ⟨S64x151936, .i32⟩) main_call8_call0_call0_v139) addi
  :: TRef.nullary (TRef.of (T := ⟨S_, .i32⟩) main_call8_call0_call0_c_35) (constantI S_ 32 4#32)
  :: TRef.unary (TRef.of (T := ⟨S_, .i32⟩) main_call8_call0_call0_c_35) (TRef.of (T := ⟨S64x151936, .i32⟩) main_call8_call0_call0_v140) (broadcastInDim S64x151936 ![] bcast_S_S64x151936)
  :: TRef.binary (TRef.of (T := ⟨S64x151936, .i32⟩) main_call8_call0_call0_v139) (TRef.of (T := ⟨S64x151936, .i32⟩) main_call8_call0_call0_v140) (TRef.of (T := ⟨S64x151936, .i32⟩) main_call8_call0_call0_v141) addi
  :: TRef.binary (TRef.of (T := ⟨S64x151936, .i32⟩) main_call8_call0_call0_v137) (TRef.of (T := ⟨S64x151936, .i32⟩) main_call8_call0_call0_v141) (TRef.of (T := ⟨S64x151936, .i32⟩) main_call8_call0_call0_v142) addi
  :: TRef.nullary (TRef.of (T := ⟨S_, .i32⟩) main_call8_call0_call0_c_36) (constantI S_ 32 13#32)
  :: TRef.unary (TRef.of (T := ⟨S_, .i32⟩) main_call8_call0_call0_c_36) (TRef.of (T := ⟨S64x151936, .i32⟩) main_call8_call0_call0_v143) (broadcastInDim S64x151936 ![] bcast_S_S64x151936)
  :: TRef.binary (TRef.of (T := ⟨S64x151936, .i32⟩) main_call8_call0_call0_v141) (TRef.of (T := ⟨S64x151936, .i32⟩) main_call8_call0_call0_v143) (TRef.of (T := ⟨S64x151936, .i32⟩) main_call8_call0_call0_v144) Host.shli
  :: TRef.nullary (TRef.of (T := ⟨S_, .i32⟩) main_call8_call0_call0_c_37) (constantI S_ 32 19#32)
  :: TRef.unary (TRef.of (T := ⟨S_, .i32⟩) main_call8_call0_call0_c_37) (TRef.of (T := ⟨S64x151936, .i32⟩) main_call8_call0_call0_v145) (broadcastInDim S64x151936 ![] bcast_S_S64x151936)
  :: TRef.binary (TRef.of (T := ⟨S64x151936, .i32⟩) main_call8_call0_call0_v141) (TRef.of (T := ⟨S64x151936, .i32⟩) main_call8_call0_call0_v145) (TRef.of (T := ⟨S64x151936, .i32⟩) main_call8_call0_call0_v146) Host.shrui
  :: TRef.binary (TRef.of (T := ⟨S64x151936, .i32⟩) main_call8_call0_call0_v144) (TRef.of (T := ⟨S64x151936, .i32⟩) main_call8_call0_call0_v146) (TRef.of (T := ⟨S64x151936, .i32⟩) main_call8_call0_call0_v147) ori
  :: TRef.binary (TRef.of (T := ⟨S64x151936, .i32⟩) main_call8_call0_call0_v142) (TRef.of (T := ⟨S64x151936, .i32⟩) main_call8_call0_call0_v147) (TRef.of (T := ⟨S64x151936, .i32⟩) main_call8_call0_call0_v148) xori
  :: TRef.binary (TRef.of (T := ⟨S64x151936, .i32⟩) main_call8_call0_call0_v142) (TRef.of (T := ⟨S64x151936, .i32⟩) main_call8_call0_call0_v148) (TRef.of (T := ⟨S64x151936, .i32⟩) main_call8_call0_call0_v149) addi
  :: TRef.nullary (TRef.of (T := ⟨S_, .i32⟩) main_call8_call0_call0_c_38) (constantI S_ 32 15#32)
  :: TRef.unary (TRef.of (T := ⟨S_, .i32⟩) main_call8_call0_call0_c_38) (TRef.of (T := ⟨S64x151936, .i32⟩) main_call8_call0_call0_v150) (broadcastInDim S64x151936 ![] bcast_S_S64x151936)
  :: TRef.binary (TRef.of (T := ⟨S64x151936, .i32⟩) main_call8_call0_call0_v148) (TRef.of (T := ⟨S64x151936, .i32⟩) main_call8_call0_call0_v150) (TRef.of (T := ⟨S64x151936, .i32⟩) main_call8_call0_call0_v151) Host.shli
  :: TRef.nullary (TRef.of (T := ⟨S_, .i32⟩) main_call8_call0_call0_c_39) (constantI S_ 32 17#32)
  :: TRef.unary (TRef.of (T := ⟨S_, .i32⟩) main_call8_call0_call0_c_39) (TRef.of (T := ⟨S64x151936, .i32⟩) main_call8_call0_call0_v152) (broadcastInDim S64x151936 ![] bcast_S_S64x151936)
  :: TRef.binary (TRef.of (T := ⟨S64x151936, .i32⟩) main_call8_call0_call0_v148) (TRef.of (T := ⟨S64x151936, .i32⟩) main_call8_call0_call0_v152) (TRef.of (T := ⟨S64x151936, .i32⟩) main_call8_call0_call0_v153) Host.shrui
  :: TRef.binary (TRef.of (T := ⟨S64x151936, .i32⟩) main_call8_call0_call0_v151) (TRef.of (T := ⟨S64x151936, .i32⟩) main_call8_call0_call0_v153) (TRef.of (T := ⟨S64x151936, .i32⟩) main_call8_call0_call0_v154) ori
  :: TRef.binary (TRef.of (T := ⟨S64x151936, .i32⟩) main_call8_call0_call0_v149) (TRef.of (T := ⟨S64x151936, .i32⟩) main_call8_call0_call0_v154) (TRef.of (T := ⟨S64x151936, .i32⟩) main_call8_call0_call0_v155) xori
  :: TRef.binary (TRef.of (T := ⟨S64x151936, .i32⟩) main_call8_call0_call0_v149) (TRef.of (T := ⟨S64x151936, .i32⟩) main_call8_call0_call0_v155) (TRef.of (T := ⟨S64x151936, .i32⟩) main_call8_call0_call0_v156) addi
  :: TRef.nullary (TRef.of (T := ⟨S_, .i32⟩) main_call8_call0_call0_c_40) (constantI S_ 32 26#32)
  :: TRef.unary (TRef.of (T := ⟨S_, .i32⟩) main_call8_call0_call0_c_40) (TRef.of (T := ⟨S64x151936, .i32⟩) main_call8_call0_call0_v157) (broadcastInDim S64x151936 ![] bcast_S_S64x151936)
  :: TRef.binary (TRef.of (T := ⟨S64x151936, .i32⟩) main_call8_call0_call0_v155) (TRef.of (T := ⟨S64x151936, .i32⟩) main_call8_call0_call0_v157) (TRef.of (T := ⟨S64x151936, .i32⟩) main_call8_call0_call0_v158) Host.shli
  :: TRef.nullary (TRef.of (T := ⟨S_, .i32⟩) main_call8_call0_call0_c_41) (constantI S_ 32 6#32)
  :: TRef.unary (TRef.of (T := ⟨S_, .i32⟩) main_call8_call0_call0_c_41) (TRef.of (T := ⟨S64x151936, .i32⟩) main_call8_call0_call0_v159) (broadcastInDim S64x151936 ![] bcast_S_S64x151936)
  :: TRef.binary (TRef.of (T := ⟨S64x151936, .i32⟩) main_call8_call0_call0_v155) (TRef.of (T := ⟨S64x151936, .i32⟩) main_call8_call0_call0_v159) (TRef.of (T := ⟨S64x151936, .i32⟩) main_call8_call0_call0_v160) Host.shrui
  :: TRef.binary (TRef.of (T := ⟨S64x151936, .i32⟩) main_call8_call0_call0_v158) (TRef.of (T := ⟨S64x151936, .i32⟩) main_call8_call0_call0_v160) (TRef.of (T := ⟨S64x151936, .i32⟩) main_call8_call0_call0_v161) ori
  :: TRef.binary (TRef.of (T := ⟨S64x151936, .i32⟩) main_call8_call0_call0_v156) (TRef.of (T := ⟨S64x151936, .i32⟩) main_call8_call0_call0_v161) (TRef.of (T := ⟨S64x151936, .i32⟩) main_call8_call0_call0_v162) xori
  :: TRef.binary (TRef.of (T := ⟨S64x151936, .i32⟩) main_call8_call0_call0_v156) (TRef.of (T := ⟨S64x151936, .i32⟩) main_call8_call0_call0_v162) (TRef.of (T := ⟨S64x151936, .i32⟩) main_call8_call0_call0_v163) addi
  :: TRef.nullary (TRef.of (T := ⟨S_, .i32⟩) main_call8_call0_call0_c_42) (constantI S_ 32 6#32)
  :: TRef.unary (TRef.of (T := ⟨S_, .i32⟩) main_call8_call0_call0_c_42) (TRef.of (T := ⟨S64x151936, .i32⟩) main_call8_call0_call0_v164) (broadcastInDim S64x151936 ![] bcast_S_S64x151936)
  :: TRef.binary (TRef.of (T := ⟨S64x151936, .i32⟩) main_call8_call0_call0_v162) (TRef.of (T := ⟨S64x151936, .i32⟩) main_call8_call0_call0_v164) (TRef.of (T := ⟨S64x151936, .i32⟩) main_call8_call0_call0_v165) Host.shli
  :: TRef.nullary (TRef.of (T := ⟨S_, .i32⟩) main_call8_call0_call0_c_43) (constantI S_ 32 26#32)
  :: TRef.unary (TRef.of (T := ⟨S_, .i32⟩) main_call8_call0_call0_c_43) (TRef.of (T := ⟨S64x151936, .i32⟩) main_call8_call0_call0_v166) (broadcastInDim S64x151936 ![] bcast_S_S64x151936)
  :: TRef.binary (TRef.of (T := ⟨S64x151936, .i32⟩) main_call8_call0_call0_v162) (TRef.of (T := ⟨S64x151936, .i32⟩) main_call8_call0_call0_v166) (TRef.of (T := ⟨S64x151936, .i32⟩) main_call8_call0_call0_v167) Host.shrui
  :: TRef.binary (TRef.of (T := ⟨S64x151936, .i32⟩) main_call8_call0_call0_v165) (TRef.of (T := ⟨S64x151936, .i32⟩) main_call8_call0_call0_v167) (TRef.of (T := ⟨S64x151936, .i32⟩) main_call8_call0_call0_v168) ori
  :: TRef.binary (TRef.of (T := ⟨S64x151936, .i32⟩) main_call8_call0_call0_v163) (TRef.of (T := ⟨S64x151936, .i32⟩) main_call8_call0_call0_v168) (TRef.of (T := ⟨S64x151936, .i32⟩) main_call8_call0_call0_v169) xori
  :: TRef.unary (TRef.of (T := ⟨S_, .i32⟩) main_call8_call0_call0_v1) (TRef.of (T := ⟨S64x151936, .i32⟩) main_call8_call0_call0_v170) (broadcastInDim S64x151936 ![] bcast_S_S64x151936)
  :: TRef.binary (TRef.of (T := ⟨S64x151936, .i32⟩) main_call8_call0_call0_v163) (TRef.of (T := ⟨S64x151936, .i32⟩) main_call8_call0_call0_v170) (TRef.of (T := ⟨S64x151936, .i32⟩) main_call8_call0_v18_0) addi
  :: TRef.unary (TRef.of (T := ⟨S_, .i32⟩) main_call8_call0_v4) (TRef.of (T := ⟨S64x151936, .i32⟩) main_call8_call0_call0_v172) (broadcastInDim S64x151936 ![] bcast_S_S64x151936)
  :: TRef.binary (TRef.of (T := ⟨S64x151936, .i32⟩) main_call8_call0_call0_v169) (TRef.of (T := ⟨S64x151936, .i32⟩) main_call8_call0_call0_v172) (TRef.of (T := ⟨S64x151936, .i32⟩) main_call8_call0_call0_v173) addi
  :: TRef.nullary (TRef.of (T := ⟨S_, .i32⟩) main_call8_call0_call0_c_44) (constantI S_ 32 5#32)
  :: TRef.unary (TRef.of (T := ⟨S_, .i32⟩) main_call8_call0_call0_c_44) (TRef.of (T := ⟨S64x151936, .i32⟩) main_call8_call0_call0_v174) (broadcastInDim S64x151936 ![] bcast_S_S64x151936)
  :: TRef.binary (TRef.of (T := ⟨S64x151936, .i32⟩) main_call8_call0_call0_v173) (TRef.of (T := ⟨S64x151936, .i32⟩) main_call8_call0_call0_v174) (TRef.of (T := ⟨S64x151936, .i32⟩) main_call8_call0_v18_1) addi
  :: TRef.binary (TRef.of (T := ⟨S64x151936, .i32⟩) main_call8_call0_v18_0) (TRef.of (T := ⟨S64x151936, .i32⟩) main_call8_call0_v18_1) (TRef.of (T := ⟨S64x151936, .i32⟩) main_call8_call0_v19) xori
  :: TRef.nullary (TRef.of (T := ⟨S_, .i32⟩) main_call8_call0_c_2) (constantI S_ 32 9#32)
  :: TRef.unary (TRef.of (T := ⟨S_, .i32⟩) main_call8_call0_c_2) (TRef.of (T := ⟨S64x151936, .i32⟩) main_call8_call0_v20) (broadcastInDim S64x151936 ![] bcast_S_S64x151936)
  :: TRef.binary (TRef.of (T := ⟨S64x151936, .i32⟩) main_call8_call0_v19) (TRef.of (T := ⟨S64x151936, .i32⟩) main_call8_call0_v20) (TRef.of (T := ⟨S64x151936, .i32⟩) main_call8_call0_v21) Host.shrui
  :: TRef.nullary (TRef.of (T := ⟨S_, .i32⟩) main_call8_call0_c_3) (constantI S_ 32 1065353216#32)
  :: TRef.unary (TRef.of (T := ⟨S_, .i32⟩) main_call8_call0_c_3) (TRef.of (T := ⟨S64x151936, .i32⟩) main_call8_call0_v22) (broadcastInDim S64x151936 ![] bcast_S_S64x151936)
  :: TRef.binary (TRef.of (T := ⟨S64x151936, .i32⟩) main_call8_call0_v21) (TRef.of (T := ⟨S64x151936, .i32⟩) main_call8_call0_v22) (TRef.of (T := ⟨S64x151936, .i32⟩) main_call8_call0_v23) ori
  :: TRef.unary (TRef.of (T := ⟨S64x151936, .i32⟩) main_call8_call0_v23) (TRef.of (T := ⟨S64x151936, .f32⟩) main_call8_call0_v24) (bitcastToFloat .f32)
  :: TRef.nullary (TRef.of (T := ⟨S_, .f32⟩) main_call8_call0_cst) (constant S_ .f32 0x3F800000#32)
  :: TRef.unary (TRef.of (T := ⟨S_, .f32⟩) main_call8_call0_cst) (TRef.of (T := ⟨S64x151936, .f32⟩) main_call8_call0_v25) (broadcastInDim S64x151936 ![] bcast_S_S64x151936)
  :: TRef.binary (TRef.of (T := ⟨S64x151936, .f32⟩) main_call8_call0_v24) (TRef.of (T := ⟨S64x151936, .f32⟩) main_call8_call0_v25) (TRef.of (T := ⟨S64x151936, .f32⟩) main_call8_call0_v26) subf
  :: TRef.binary (TRef.of (T := ⟨S1x1, .f32⟩) main_call8_call0_v2) (TRef.of (T := ⟨S1x1, .f32⟩) main_call8_call0_v1) (TRef.of (T := ⟨S1x1, .f32⟩) main_call8_call0_v27) subf
  :: TRef.unary (TRef.of (T := ⟨S1x1, .f32⟩) main_call8_call0_v27) (TRef.of (T := ⟨S64x151936, .f32⟩) main_call8_call0_v28) (broadcastInDim S64x151936 ![0, 1] bcast_S1x1_S64x151936_0_1)
  :: TRef.binary (TRef.of (T := ⟨S64x151936, .f32⟩) main_call8_call0_v26) (TRef.of (T := ⟨S64x151936, .f32⟩) main_call8_call0_v28) (TRef.of (T := ⟨S64x151936, .f32⟩) main_call8_call0_v29) mulf
  :: TRef.unary (TRef.of (T := ⟨S1x1, .f32⟩) main_call8_call0_v1) (TRef.of (T := ⟨S64x151936, .f32⟩) main_call8_call0_v30) (broadcastInDim S64x151936 ![0, 1] bcast_S1x1_S64x151936_0_1)
  :: TRef.binary (TRef.of (T := ⟨S64x151936, .f32⟩) main_call8_call0_v29) (TRef.of (T := ⟨S64x151936, .f32⟩) main_call8_call0_v30) (TRef.of (T := ⟨S64x151936, .f32⟩) main_call8_call0_v31) addf
  :: TRef.unary (TRef.of (T := ⟨S1x1, .f32⟩) main_call8_call0_v1) (TRef.of (T := ⟨S64x151936, .f32⟩) main_call8_call0_v32) (broadcastInDim S64x151936 ![0, 1] bcast_S1x1_S64x151936_0_1)
  :: TRef.binary (TRef.of (T := ⟨S64x151936, .f32⟩) main_call8_call0_v32) (TRef.of (T := ⟨S64x151936, .f32⟩) main_call8_call0_v31) (TRef.of (T := ⟨S64x151936, .f32⟩) main_call8_v0) maximumf
  :: TRef.unary (TRef.of (T := ⟨S64x151936, .f32⟩) main_call8_v0) (TRef.of (T := ⟨S64x151936, .f32⟩) main_call8_v1) Host.log
  :: TRef.unary (TRef.of (T := ⟨S64x151936, .f32⟩) main_call8_v1) (TRef.of (T := ⟨S64x151936, .f32⟩) main_call8_v2) Host.negf
  :: TRef.unary (TRef.of (T := ⟨S64x151936, .f32⟩) main_call8_v2) (TRef.of (T := ⟨S64x151936, .f32⟩) main_call8_v3) Host.log
  :: TRef.unary (TRef.of (T := ⟨S64x151936, .f32⟩) main_call8_v3) (TRef.of (T := ⟨S64x151936, .f32⟩) main_v66) Host.negf
  :: [] )

/-- The buffers those operations write. -/
abbrev drawOpsOut : List (Ref sig .tc) := [main_c_13, main_c_14, main_v59, main_v60, main_v61, main_c_15, main_v62, main_v63, main_v64, main_v65, main_call8_cst, main_call8_cst_0,
  main_call8_call0_v0, main_call8_call0_v1, main_call8_call0_v2, main_call8_call0_v3, main_call8_call0_v4, main_call8_call0_v5, main_call8_call0_v6,
  main_call8_call0_v7, main_call8_call0_v8, main_call8_call0_c, main_call8_call0_v9, main_call8_call0_v10, main_call8_call0_c_0, main_call8_call0_v11,
  main_call8_call0_v12, main_call8_call0_v13, main_call8_call0_c_1, main_call8_call0_v14, main_call8_call0_v15, main_call8_call0_v16,
  main_call8_call0_v17, main_call8_call0_call0_v0, main_call8_call0_call0_c, main_call8_call0_call0_v1, main_call8_call0_call0_v2,
  main_call8_call0_call0_v3, main_call8_call0_call0_v4, main_call8_call0_call0_v5, main_call8_call0_call0_v6, main_call8_call0_call0_c_0,
  main_call8_call0_call0_v7, main_call8_call0_call0_v8, main_call8_call0_call0_c_1, main_call8_call0_call0_v9, main_call8_call0_call0_v10,
  main_call8_call0_call0_v11, main_call8_call0_call0_v12, main_call8_call0_call0_v13, main_call8_call0_call0_c_2, main_call8_call0_call0_v14,
  main_call8_call0_call0_v15, main_call8_call0_call0_c_3, main_call8_call0_call0_v16, main_call8_call0_call0_v17, main_call8_call0_call0_v18,
  main_call8_call0_call0_v19, main_call8_call0_call0_v20, main_call8_call0_call0_c_4, main_call8_call0_call0_v21, main_call8_call0_call0_v22,
  main_call8_call0_call0_c_5, main_call8_call0_call0_v23, main_call8_call0_call0_v24, main_call8_call0_call0_v25, main_call8_call0_call0_v26,
  main_call8_call0_call0_v27, main_call8_call0_call0_c_6, main_call8_call0_call0_v28, main_call8_call0_call0_v29, main_call8_call0_call0_c_7,
  main_call8_call0_call0_v30, main_call8_call0_call0_v31, main_call8_call0_call0_v32, main_call8_call0_call0_v33, main_call8_call0_call0_v34,
  main_call8_call0_call0_v35, main_call8_call0_call0_v36, main_call8_call0_call0_v37, main_call8_call0_call0_c_8, main_call8_call0_call0_v38,
  main_call8_call0_call0_v39, main_call8_call0_call0_v40, main_call8_call0_call0_c_9, main_call8_call0_call0_v41, main_call8_call0_call0_v42,
  main_call8_call0_call0_c_10, main_call8_call0_call0_v43, main_call8_call0_call0_v44, main_call8_call0_call0_v45, main_call8_call0_call0_v46,
  main_call8_call0_call0_v47, main_call8_call0_call0_c_11, main_call8_call0_call0_v48, main_call8_call0_call0_v49, main_call8_call0_call0_c_12,
  main_call8_call0_call0_v50, main_call8_call0_call0_v51, main_call8_call0_call0_v52, main_call8_call0_call0_v53, main_call8_call0_call0_v54,
  main_call8_call0_call0_c_13, main_call8_call0_call0_v55, main_call8_call0_call0_v56, main_call8_call0_call0_c_14, main_call8_call0_call0_v57,
  main_call8_call0_call0_v58, main_call8_call0_call0_v59, main_call8_call0_call0_v60, main_call8_call0_call0_v61, main_call8_call0_call0_c_15,
  main_call8_call0_call0_v62, main_call8_call0_call0_v63, main_call8_call0_call0_c_16, main_call8_call0_call0_v64, main_call8_call0_call0_v65,
  main_call8_call0_call0_v66, main_call8_call0_call0_v67, main_call8_call0_call0_v68, main_call8_call0_call0_v69, main_call8_call0_call0_v70,
  main_call8_call0_call0_v71, main_call8_call0_call0_c_17, main_call8_call0_call0_v72, main_call8_call0_call0_v73, main_call8_call0_call0_v74,
  main_call8_call0_call0_c_18, main_call8_call0_call0_v75, main_call8_call0_call0_v76, main_call8_call0_call0_c_19, main_call8_call0_call0_v77,
  main_call8_call0_call0_v78, main_call8_call0_call0_v79, main_call8_call0_call0_v80, main_call8_call0_call0_v81, main_call8_call0_call0_c_20,
  main_call8_call0_call0_v82, main_call8_call0_call0_v83, main_call8_call0_call0_c_21, main_call8_call0_call0_v84, main_call8_call0_call0_v85,
  main_call8_call0_call0_v86, main_call8_call0_call0_v87, main_call8_call0_call0_v88, main_call8_call0_call0_c_22, main_call8_call0_call0_v89,
  main_call8_call0_call0_v90, main_call8_call0_call0_c_23, main_call8_call0_call0_v91, main_call8_call0_call0_v92, main_call8_call0_call0_v93,
  main_call8_call0_call0_v94, main_call8_call0_call0_v95, main_call8_call0_call0_c_24, main_call8_call0_call0_v96, main_call8_call0_call0_v97,
  main_call8_call0_call0_c_25, main_call8_call0_call0_v98, main_call8_call0_call0_v99, main_call8_call0_call0_v100, main_call8_call0_call0_v101,
  main_call8_call0_call0_v102, main_call8_call0_call0_v103, main_call8_call0_call0_v104, main_call8_call0_call0_v105, main_call8_call0_call0_c_26,
  main_call8_call0_call0_v106, main_call8_call0_call0_v107, main_call8_call0_call0_v108, main_call8_call0_call0_c_27, main_call8_call0_call0_v109,
  main_call8_call0_call0_v110, main_call8_call0_call0_c_28, main_call8_call0_call0_v111, main_call8_call0_call0_v112, main_call8_call0_call0_v113,
  main_call8_call0_call0_v114, main_call8_call0_call0_v115, main_call8_call0_call0_c_29, main_call8_call0_call0_v116, main_call8_call0_call0_v117,
  main_call8_call0_call0_c_30, main_call8_call0_call0_v118, main_call8_call0_call0_v119, main_call8_call0_call0_v120, main_call8_call0_call0_v121,
  main_call8_call0_call0_v122, main_call8_call0_call0_c_31, main_call8_call0_call0_v123, main_call8_call0_call0_v124, main_call8_call0_call0_c_32,
  main_call8_call0_call0_v125, main_call8_call0_call0_v126, main_call8_call0_call0_v127, main_call8_call0_call0_v128, main_call8_call0_call0_v129,
  main_call8_call0_call0_c_33, main_call8_call0_call0_v130, main_call8_call0_call0_v131, main_call8_call0_call0_c_34, main_call8_call0_call0_v132,
  main_call8_call0_call0_v133, main_call8_call0_call0_v134, main_call8_call0_call0_v135, main_call8_call0_call0_v136, main_call8_call0_call0_v137,
  main_call8_call0_call0_v138, main_call8_call0_call0_v139, main_call8_call0_call0_c_35, main_call8_call0_call0_v140, main_call8_call0_call0_v141,
  main_call8_call0_call0_v142, main_call8_call0_call0_c_36, main_call8_call0_call0_v143, main_call8_call0_call0_v144, main_call8_call0_call0_c_37,
  main_call8_call0_call0_v145, main_call8_call0_call0_v146, main_call8_call0_call0_v147, main_call8_call0_call0_v148, main_call8_call0_call0_v149,
  main_call8_call0_call0_c_38, main_call8_call0_call0_v150, main_call8_call0_call0_v151, main_call8_call0_call0_c_39, main_call8_call0_call0_v152,
  main_call8_call0_call0_v153, main_call8_call0_call0_v154, main_call8_call0_call0_v155, main_call8_call0_call0_v156, main_call8_call0_call0_c_40,
  main_call8_call0_call0_v157, main_call8_call0_call0_v158, main_call8_call0_call0_c_41, main_call8_call0_call0_v159, main_call8_call0_call0_v160,
  main_call8_call0_call0_v161, main_call8_call0_call0_v162, main_call8_call0_call0_v163, main_call8_call0_call0_c_42, main_call8_call0_call0_v164,
  main_call8_call0_call0_v165, main_call8_call0_call0_c_43, main_call8_call0_call0_v166, main_call8_call0_call0_v167, main_call8_call0_call0_v168,
  main_call8_call0_call0_v169, main_call8_call0_call0_v170, main_call8_call0_v18_0, main_call8_call0_call0_v172, main_call8_call0_call0_v173,
  main_call8_call0_call0_c_44, main_call8_call0_call0_v174, main_call8_call0_v18_1, main_call8_call0_v19, main_call8_call0_c_2, main_call8_call0_v20,
  main_call8_call0_v21, main_call8_call0_c_3, main_call8_call0_v22, main_call8_call0_v23, main_call8_call0_v24, main_call8_call0_cst,
  main_call8_call0_v25, main_call8_call0_v26, main_call8_call0_v27, main_call8_call0_v28, main_call8_call0_v29, main_call8_call0_v30,
  main_call8_call0_v31, main_call8_call0_v32, main_call8_v0, main_call8_v1, main_call8_v2, main_call8_v3, main_v66]

set_option maxRecDepth 16384 in
theorem drawOps_writes : (drawOps : List (HloOp τ sig (Elt F))).Forall fun op => op.writes ⊆ (drawOpsOut.map (Proc.devRef (τ := τ) .tc)).toFinset :=
  forall_writes_sub_of_map rfl

set_option maxRecDepth 16384 in
theorem drawOps_fresh : (drawOps : List (HloOp τ sig (Elt F))).Forall fun op => op.fresh = ∅ :=
  forall_fresh_of_map rfl

set_option maxRecDepth 16384 in
theorem drawOps_bufs : (drawOps : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub ..,
    unary_bufs_sub .., binary_bufs_sub .., nullary_bufs_sub .., nullary_bufs_sub .., unary_bufs_sub .., unary_bufs_sub .., unary_bufs_sub .., unary_bufs_sub ..,
    reshape_bufs_sub .., unary_bufs_sub .., reshape_bufs_sub .., nullary_bufs_sub .., nullary_bufs_sub .., nullary_bufs_sub .., unary_bufs_sub .., binary_bufs_sub ..,
    nullary_bufs_sub .., unary_bufs_sub .., binary_bufs_sub .., binary_bufs_sub .., nullary_bufs_sub .., unary_bufs_sub .., binary_bufs_sub .., unary_bufs_sub ..,
    unary_bufs_sub .., binary_bufs_sub .., nullary_bufs_sub .., binary_bufs_sub .., unary_bufs_sub .., binary_bufs_sub .., unary_bufs_sub .., binary_bufs_sub ..,
    binary_bufs_sub .., nullary_bufs_sub .., unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub .., unary_bufs_sub ..,
    binary_bufs_sub .., binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., binary_bufs_sub .., unary_bufs_sub .., binary_bufs_sub ..,
    nullary_bufs_sub .., unary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub .., binary_bufs_sub .., unary_bufs_sub ..,
    binary_bufs_sub .., unary_bufs_sub .., binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub .., binary_bufs_sub ..,
    binary_bufs_sub .., nullary_bufs_sub .., unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub .., unary_bufs_sub .., binary_bufs_sub ..,
    binary_bufs_sub .., binary_bufs_sub .., unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub .., unary_bufs_sub ..,
    binary_bufs_sub .., binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub .., binary_bufs_sub .., unary_bufs_sub ..,
    binary_bufs_sub .., nullary_bufs_sub .., unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub .., binary_bufs_sub ..,
    unary_bufs_sub .., binary_bufs_sub .., unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub .., unary_bufs_sub .., nullary_bufs_sub ..,
    unary_bufs_sub .., binary_bufs_sub .., binary_bufs_sub .., unary_bufs_sub .., binary_bufs_sub .., unary_bufs_sub .., binary_bufs_sub .., unary_bufs_sub ..,
    binary_bufs_sub .., unary_bufs_sub .., unary_bufs_sub .., unary_bufs_sub .., unary_bufs_sub ..⟩

end Cert.RefRun

end
-- ==== Proof.RefOps.lean ====
/- The reference program's host operations, in the order they run, cut into the stages of the sampling algorithm,
   and what one run leaves in the two results: the composition of the stages on the arguments' launch contents. -/
module

public import proofs.«01_k».proof.Proof.RefDraw
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- One false column put before a mask that has lost its last column. -/
def joinFalse (a : (⟨S64x1, .i1⟩ : BufTy).Contents (Elt F)) (b : (⟨S64x151935, .i1⟩ : BufTy).Contents (Elt F)) :
    (⟨S64x151936, .i1⟩ : BufTy).Contents (Elt F) :=
  concatenate S64x151936 1 [⟨S64x1, a⟩, ⟨S64x151935, b⟩] concatenates_S64x1_S64x151935_S64x151936_d1

/-- Operations computing the guided scores with every column outside the candidates at −∞. -/
abbrev scoreOps : List (HloOp τ sig (Elt F)) :=
  [ reshape main_arg0 main_v0 (rfl : (.f32 : EltTy) = .f32) shapeCasts_S128x151936_S64x2x151936,
    unary main_v0 main_v1 ((extractStridedSlice S64x1x151936 ![0, 0, 0] · slices_S64x2x151936_S64x1x151936_0_0_0) : (⟨S64x2x151936, .f32⟩ : BufTy).Contents (Elt F) → (⟨S64x1x151936, .f32⟩ : BufTy).Contents (Elt F)),
    reshape main_v1 main_v2 (rfl : (.f32 : EltTy) = .f32) shapeCasts_S64x1x151936_S64x151936,
    unary main_v0 main_v3 ((extractStridedSlice S64x1x151936 ![0, 1, 0] · slices_S64x2x151936_S64x1x151936_0_1_0) : (⟨S64x2x151936, .f32⟩ : BufTy).Contents (Elt F) → (⟨S64x1x151936, .f32⟩ : BufTy).Contents (Elt F)),
    reshape main_v3 main_v4 (rfl : (.f32 : EltTy) = .f32) shapeCasts_S64x1x151936_S64x151936,
    binary main_v2 main_v4 main_v5 (subf : (⟨S64x151936, .f32⟩ : BufTy).Contents (Elt F) → (⟨S64x151936, .f32⟩ : BufTy).Contents (Elt F) → (⟨S64x151936, .f32⟩ : BufTy).Contents (Elt F)),
    nullary main_cst (constant S_ .f32 0x40000000#32),
    unary main_cst main_v6 (broadcastInDim S64x151936 ![] bcast_S_S64x151936 : (⟨S_, .f32⟩ : BufTy).Contents (Elt F) → (⟨S64x151936, .f32⟩ : BufTy).Contents (Elt F)),
    binary main_v6 main_v5 main_v7 (mulf : (⟨S64x151936, .f32⟩ : BufTy).Contents (Elt F) → (⟨S64x151936, .f32⟩ : BufTy).Contents (Elt F) → (⟨S64x151936, .f32⟩ : BufTy).Contents (Elt F)),
    binary main_v4 main_v7 main_v8 (addf : (⟨S64x151936, .f32⟩ : BufTy).Contents (Elt F) → (⟨S64x151936, .f32⟩ : BufTy).Contents (Elt F) → (⟨S64x151936, .f32⟩ : BufTy).Contents (Elt F)),
    unary main_v8 main_v9 ((extractStridedSlice S64x1 ![0, 151645] · slices_S64x151936_S64x1_0_151645) : (⟨S64x151936, .f32⟩ : BufTy).Contents (Elt F) → (⟨S64x1, .f32⟩ : BufTy).Contents (Elt F)),
    reshape main_v9 main_v10 (rfl : (.f32 : EltTy) = .f32) shapeCasts_S64x1_S64,
    nullary main_v11 (iotaInDim S151936 32 0),
    unary main_v11 main_v12 (broadcastInDim S1x151936 ![1] bcast_S151936_S1x151936_1 : (⟨S151936, .i32⟩ : BufTy).Contents (Elt F) → (⟨S1x151936, .i32⟩ : BufTy).Contents (Elt F)),
    nullary main_c (constantI S_ 32 151669#32),
    unary main_c main_v13 (broadcastInDim S1x151936 ![] bcast_S_S1x151936 : (⟨S_, .i32⟩ : BufTy).Contents (Elt F) → (⟨S1x151936, .i32⟩ : BufTy).Contents (Elt F)),
    binary main_v12 main_v13 main_v14 (cmpi .slt : (⟨S1x151936, .i32⟩ : BufTy).Contents (Elt F) → (⟨S1x151936, .i32⟩ : BufTy).Contents (Elt F) → (⟨S1x151936, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S1x151936, .i1⟩) main_v14) (TRef.of (T := ⟨S64x151936, .i1⟩) main_call0_v1) (broadcastInDim S64x151936 ![0, 1] bcast_S1x151936_S64x151936_0_1),
    TRef.unary (TRef.of (T := ⟨S_, .f32⟩) main_call0_v0) (TRef.of (T := ⟨S64x151936, .f32⟩) main_call0_v2) (broadcastInDim S64x151936 ![] bcast_S_S64x151936),
    TRef.ternary (TRef.of (T := ⟨S64x151936, .i1⟩) main_call0_v1) (TRef.of (T := ⟨S64x151936, .f32⟩) main_call0_v2) (TRef.of (T := ⟨S64x151936, .f32⟩) main_v8) (TRef.of (T := ⟨S64x151936, .f32⟩) main_v15) select,
    nullary main_c_1 (constantI S_ 32 151645#32),
    unary main_c_1 main_v16 (broadcastInDim S1 ![] bcast_S_S1 : (⟨S_, .i32⟩ : BufTy).Contents (Elt F) → (⟨S1, .i32⟩ : BufTy).Contents (Elt F)),
    ternary main_v15 main_v16 main_v10 main_v17 ((fun x i u => Host.scatter scatter_S64x151936_S1_S64_0_1_1_0 (fun _ b => b) x i u) : (⟨S64x151936, .f32⟩ : BufTy).Contents (Elt F) → (⟨S1, .i32⟩ : BufTy).Contents (Elt F) → (⟨S64, .f32⟩ : BufTy).Contents (Elt F) → (⟨S64x151936, .f32⟩ : BufTy).Contents (Elt F)) ]

/-- The buffers those operations write. -/
abbrev scoreOpsOut : List (Ref sig .tc) := [main_v0, main_v1, main_v2, main_v3, main_v4, main_v5, main_cst, main_v6, main_v7, main_v8, main_v9, main_v10, main_v11, main_v12, main_c, main_v13, main_v14, main_cst_0, main_call0_v0, main_call0_v1, main_call0_v2, main_v15, main_c_1, main_v16, main_v17]

set_option maxRecDepth 8192 in
theorem scoreOps_writes : (scoreOps : List (HloOp τ sig (Elt F))).Forall fun op => op.writes ⊆ (scoreOpsOut.map (Proc.devRef (τ := τ) .tc)).toFinset :=
  forall_writes_sub_of_map rfl

set_option maxRecDepth 8192 in
theorem scoreOps_fresh : (scoreOps : List (HloOp τ sig (Elt F))).Forall fun op => op.fresh = ∅ :=
  forall_fresh_of_map rfl

set_option maxRecDepth 8192 in
theorem scoreOps_bufs : (scoreOps : List (HloOp τ sig (Elt F))).Forall fun op => op.bufs ⊆ tcRefs τ sig :=
  ⟨reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., nullary_bufs_sub .., unary_bufs_sub .., nullary_bufs_sub .., unary_bufs_sub .., binary_bufs_sub .., nullary_bufs_sub .., unary_bufs_sub .., unary_bufs_sub .., unary_bufs_sub .., ternary_bufs_sub .., nullary_bufs_sub .., unary_bufs_sub .., ternary_bufs_sub ..⟩

/-- Operations computing the scores below the 50th largest of their row set to −∞. -/
abbrev topkOps : List (HloOp τ sig (Elt F)) :=
  [ unary main_v17 main_values ((fun x => (Host.topK S64x50 1 (FloatOps.cmpfTotal .gt) x sliceFits_S64x151936_S64x50).1) : (⟨S64x151936, .f32⟩ : BufTy).Contents (Elt F) → (⟨S64x50, .f32⟩ : BufTy).Contents (Elt F)),
    unary main_v17 main_indices ((fun x => (Host.topK S64x50 1 (FloatOps.cmpfTotal .gt) x sliceFits_S64x151936_S64x50).2) : (⟨S64x151936, .f32⟩ : BufTy).Contents (Elt F) → (⟨S64x50, .i32⟩ : BufTy).Contents (Elt F)),
    unary main_values main_v18 ((extractStridedSlice S64x1 ![0, 49] · slices_S64x50_S64x1_0_49) : (⟨S64x50, .f32⟩ : BufTy).Contents (Elt F) → (⟨S64x1, .f32⟩ : BufTy).Contents (Elt F)),
    unary main_v18 main_v19 (broadcastInDim S64x151936 ![0, 1] bcast_S64x1_S64x151936_0_1 : (⟨S64x1, .f32⟩ : BufTy).Contents (Elt F) → (⟨S64x151936, .f32⟩ : BufTy).Contents (Elt F)),
    binary main_v17 main_v19 main_v20 (cmpf .olt : (⟨S64x151936, .f32⟩ : BufTy).Contents (Elt F) → (⟨S64x151936, .f32⟩ : BufTy).Contents (Elt F) → (⟨S64x151936, .i1⟩ : BufTy).Contents (Elt F)),
    nullary main_cst_2 (constant S_ .f32 0xFF800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S64x151936, .f32⟩) main_call1_v1) (broadcastInDim S64x151936 ![] bcast_S_S64x151936),
    TRef.ternary (TRef.of (T := ⟨S64x151936, .i1⟩) main_v20) (TRef.of (T := ⟨S64x151936, .f32⟩) main_call1_v1) (TRef.of (T := ⟨S64x151936, .f32⟩) main_v17) (TRef.of (T := ⟨S64x151936, .f32⟩) main_v21) select ]

/-- The buffers those operations write. -/
abbrev topkOpsOut : List (Ref sig .tc) := [main_values, main_indices, main_v18, main_v19, main_v20, main_cst_2, main_call1_v0, main_call1_v1, main_v21]

set_option maxRecDepth 8192 in
theorem topkOps_writes : (topkOps : List (HloOp τ sig (Elt F))).Forall fun op => op.writes ⊆ (topkOpsOut.map (Proc.devRef (τ := τ) .tc)).toFinset :=
  forall_writes_sub_of_map rfl

set_option maxRecDepth 8192 in
theorem topkOps_fresh : (topkOps : List (HloOp τ sig (Elt F))).Forall fun op => op.fresh = ∅ :=
  forall_fresh_of_map rfl

set_option maxRecDepth 8192 in
theorem topkOps_bufs : (topkOps : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., ternary_bufs_sub ..⟩

/-- Operations computing the positions of the columns in descending order of score. -/
abbrev orderOps : List (HloOp τ sig (Elt F)) :=
  [ unary main_v21 main_v22 (Host.negf : (⟨S64x151936, .f32⟩ : BufTy).Contents (Elt F) → (⟨S64x151936, .f32⟩ : BufTy).Contents (Elt F)),
    TRef.nullary (TRef.of (T := ⟨S64x151936, .i32⟩) main_call2_v0) (iotaInDim S64x151936 32 1),
    TRef.binary (TRef.of (T := ⟨S64x151936, .f32⟩) main_v22) (TRef.of (T := ⟨S64x151936, .i32⟩) main_call2_v0) (TRef.of (T := ⟨S64x151936, .f32⟩) main_call2_v1_0) (fun x y => (Host.sort2 S64x151936 1 comparator_f32_i32_d1 x y).1),
    TRef.binary (TRef.of (T := ⟨S64x151936, .f32⟩) main_v22) (TRef.of (T := ⟨S64x151936, .i32⟩) main_call2_v0) (TRef.of (T := ⟨S64x151936, .i32⟩) main_v23) (fun x y => (Host.sort2 S64x151936 1 comparator_f32_i32_d1 x y).2) ]

/-- The buffers those operations write. -/
abbrev orderOpsOut : List (Ref sig .tc) := [main_v22, main_call2_v0, main_call2_v1_0, main_v23]

set_option maxRecDepth 8192 in
theorem orderOps_writes : (orderOps : List (HloOp τ sig (Elt F))).Forall fun op => op.writes ⊆ (orderOpsOut.map (Proc.devRef (τ := τ) .tc)).toFinset :=
  forall_writes_sub_of_map rfl

set_option maxRecDepth 8192 in
theorem orderOps_fresh : (orderOps : List (HloOp τ sig (Elt F))).Forall fun op => op.fresh = ∅ :=
  forall_fresh_of_map rfl

set_option maxRecDepth 8192 in
theorem orderOps_bufs : (orderOps : List (HloOp τ sig (Elt F))).Forall fun op => op.bufs ⊆ tcRefs τ sig :=
  ⟨unary_bufs_sub .., nullary_bufs_sub .., binary_bufs_sub .., binary_bufs_sub ..⟩

/-- Operations computing the scores read in that order. -/
abbrev sortedOps : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S64x151936, .i32⟩) main_call3_v0) (broadcastInDim S64x151936 ![] bcast_S_S64x151936),
    TRef.binary (TRef.of (T := ⟨S64x151936, .i32⟩) main_v23) (TRef.of (T := ⟨S64x151936, .i32⟩) main_call3_v0) (TRef.of (T := ⟨S64x151936, .i1⟩) main_call3_v1) (cmpi .slt),
    TRef.nullary (TRef.of (T := ⟨S_, .i32⟩) main_call3_c_0) (constantI S_ 32 151936#32),
    TRef.unary (TRef.of (T := ⟨S_, .i32⟩) main_call3_c_0) (TRef.of (T := ⟨S64x151936, .i32⟩) main_call3_v2) (broadcastInDim S64x151936 ![] bcast_S_S64x151936),
    TRef.binary (TRef.of (T := ⟨S64x151936, .i32⟩) main_v23) (TRef.of (T := ⟨S64x151936, .i32⟩) main_call3_v2) (TRef.of (T := ⟨S64x151936, .i32⟩) main_call3_v3) addi,
    TRef.ternary (TRef.of (T := ⟨S64x151936, .i1⟩) main_call3_v1) (TRef.of (T := ⟨S64x151936, .i32⟩) main_call3_v3) (TRef.of (T := ⟨S64x151936, .i32⟩) main_v23) (TRef.of (T := ⟨S64x151936, .i32⟩) main_call3_v4) select,
    TRef.reshape (TRef.of (T := ⟨S64x151936, .i32⟩) main_call3_v4) (TRef.of (T := ⟨S64x151936x1, .i32⟩) main_call3_v5) (rfl : (.i32 : EltTy) = .i32) shapeCasts_S64x151936_S64x151936x1,
    TRef.nullary (TRef.of (T := ⟨S1, .i32⟩) main_call3_c_1) (constantI S1 32 151935#32),
    TRef.nullary (TRef.of (T := ⟨S_, .i32⟩) main_call3_c_2) (constantI S_ 32 0#32),
    TRef.unary (TRef.of (T := ⟨S_, .i32⟩) main_call3_c_2) (TRef.of (T := ⟨S64x151936x1, .i32⟩) main_call3_v6) (broadcastInDim S64x151936x1 ![] bcast_S_S64x151936x1),
    TRef.binary (TRef.of (T := ⟨S64x151936x1, .i32⟩) main_call3_v5) (TRef.of (T := ⟨S64x151936x1, .i32⟩) main_call3_v6) (TRef.of (T := ⟨S64x151936x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S64x151936x1, .i32⟩) main_call3_v9) (broadcastInDim S64x151936x1 ![0, 1, 2] bcast_S1x1x1_S64x151936x1_0_1_2),
    TRef.binary (TRef.of (T := ⟨S64x151936x1, .i32⟩) main_call3_v5) (TRef.of (T := ⟨S64x151936x1, .i32⟩) main_call3_v9) (TRef.of (T := ⟨S64x151936x1, .i1⟩) main_call3_v10) (cmpi .sle),
    TRef.binary (TRef.of (T := ⟨S64x151936x1, .i1⟩) main_call3_v7) (TRef.of (T := ⟨S64x151936x1, .i1⟩) main_call3_v10) (TRef.of (T := ⟨S64x151936x1, .i1⟩) main_call3_v11) andi,
    TRef.nullary (TRef.of (T := ⟨S_, .i1⟩) main_call3_c_3) (constantI S_ 1 1#1),
    TRef.binary (TRef.of (T := ⟨S64x151936x1, .i1⟩) main_call3_v11) (TRef.of (T := ⟨S_, .i1⟩) main_call3_c_3) (TRef.of (T := ⟨S64x151936, .i1⟩) main_call3_v12) (fun x v => Host.reduce IntOp.andi x v reducesTo_S64x151936x1_S64x151936_d2 h_S_),
    TRef.binary (TRef.of (T := ⟨S64x151936, .f32⟩) main_v21) (TRef.of (T := ⟨S64x151936x1, .i32⟩) main_call3_v5) (TRef.of (T := ⟨S64x151936, .f32⟩) main_call3_v13) (fun x i => Host.gather gather_S64x151936_S64x151936x1_S64x151936_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S64x151936, .f32⟩) main_call3_v14) (broadcastInDim S64x151936 ![] bcast_S_S64x151936),
    TRef.ternary (TRef.of (T := ⟨S64x151936, .i1⟩) main_call3_v12) (TRef.of (T := ⟨S64x151936, .f32⟩) main_call3_v13) (TRef.of (T := ⟨S64x151936, .f32⟩) main_call3_v14) (TRef.of (T := ⟨S64x151936, .f32⟩) main_v24) select ]

/-- The buffers those operations write. -/
abbrev sortedOpsOut : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v24]

set_option maxRecDepth 8192 in
theorem sortedOps_writes : (sortedOps : List (HloOp τ sig (Elt F))).Forall fun op => op.writes ⊆ (sortedOpsOut.map (Proc.devRef (τ := τ) .tc)).toFinset :=
  forall_writes_sub_of_map rfl

set_option maxRecDepth 8192 in
theorem sortedOps_fresh : (sortedOps : List (HloOp τ sig (Elt F))).Forall fun op => op.fresh = ∅ :=
  forall_fresh_of_map rfl

set_option maxRecDepth 8192 in
theorem sortedOps_bufs : (sortedOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations computing the whether the running mass of the softmax exceeds 0.9. -/
abbrev massOps : List (HloOp τ sig (Elt F)) :=
  [ nullary main_cst_3 (constant S_ .f32 0xFF800000#32),
    binary main_v24 main_cst_3 main_v25 ((fun x v => Host.reduce FloatOps.maximumf x v reducesTo_S64x151936_S64_d1 h_S_) : (⟨S64x151936, .f32⟩ : BufTy).Contents (Elt F) → (⟨S_, .f32⟩ : BufTy).Contents (Elt F) → (⟨S64, .f32⟩ : BufTy).Contents (Elt F)),
    nullary main_cst_4 (constant S_ .f32 0xFF800000#32),
    unary main_cst_4 main_v26 (broadcastInDim S64 ![] bcast_S_S64 : (⟨S_, .f32⟩ : BufTy).Contents (Elt F) → (⟨S64, .f32⟩ : BufTy).Contents (Elt F)),
    binary main_v26 main_v25 main_v27 (maximumf : (⟨S64, .f32⟩ : BufTy).Contents (Elt F) → (⟨S64, .f32⟩ : BufTy).Contents (Elt F) → (⟨S64, .f32⟩ : BufTy).Contents (Elt F)),
    unary main_v27 main_v28 (broadcastInDim S64x1 ![0] bcast_S64_S64x1_0 : (⟨S64, .f32⟩ : BufTy).Contents (Elt F) → (⟨S64x1, .f32⟩ : BufTy).Contents (Elt F)),
    unary main_v28 main_v29 (broadcastInDim S64x151936 ![0, 1] bcast_S64x1_S64x151936_0_1 : (⟨S64x1, .f32⟩ : BufTy).Contents (Elt F) → (⟨S64x151936, .f32⟩ : BufTy).Contents (Elt F)),
    binary main_v24 main_v29 main_v30 (subf : (⟨S64x151936, .f32⟩ : BufTy).Contents (Elt F) → (⟨S64x151936, .f32⟩ : BufTy).Contents (Elt F) → (⟨S64x151936, .f32⟩ : BufTy).Contents (Elt F)),
    unary main_v30 main_v31 (Host.exp : (⟨S64x151936, .f32⟩ : BufTy).Contents (Elt F) → (⟨S64x151936, .f32⟩ : BufTy).Contents (Elt F)),
    nullary main_cst_5 (constant S_ .f32 0x00000000#32),
    binary main_v31 main_cst_5 main_v32 ((fun x v => Host.reduceAdd x v reducesTo_S64x151936_S64_d1 h_S_) : (⟨S64x151936, .f32⟩ : BufTy).Contents (Elt F) → (⟨S_, .f32⟩ : BufTy).Contents (Elt F) → (⟨S64, .f32⟩ : BufTy).Contents (Elt F)),
    unary main_v32 main_v33 (broadcastInDim S64x1 ![0] bcast_S64_S64x1_0 : (⟨S64, .f32⟩ : BufTy).Contents (Elt F) → (⟨S64x1, .f32⟩ : BufTy).Contents (Elt F)),
    unary main_v33 main_v34 (broadcastInDim S64x151936 ![0, 1] bcast_S64x1_S64x151936_0_1 : (⟨S64x1, .f32⟩ : BufTy).Contents (Elt F) → (⟨S64x151936, .f32⟩ : BufTy).Contents (Elt F)),
    binary main_v31 main_v34 main_v35 (Host.divf : (⟨S64x151936, .f32⟩ : BufTy).Contents (Elt F) → (⟨S64x151936, .f32⟩ : BufTy).Contents (Elt F) → (⟨S64x151936, .f32⟩ : BufTy).Contents (Elt F)),
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S64x151936, .f32⟩) main_v35) (TRef.of (T := ⟨S_, .f32⟩) main_call4_call0_v0) (TRef.of (T := ⟨S64x151936, .f32⟩) main_v36) (fun x v => Host.reduceWindowAdd ![1, 151936] ![1, 1] ![0, 151935] ![0, 0] x v reduceWindows_S64x151936_S64x151936_w1s1p0_0_w151936s1p151935_0 h_S_),
    nullary main_cst_6 (constant S_ .f32 0x3F666666#32),
    unary main_cst_6 main_v37 (broadcastInDim S64x151936 ![] bcast_S_S64x151936 : (⟨S_, .f32⟩ : BufTy).Contents (Elt F) → (⟨S64x151936, .f32⟩ : BufTy).Contents (Elt F)),
    binary main_v36 main_v37 main_v38 (cmpf .ogt : (⟨S64x151936, .f32⟩ : BufTy).Contents (Elt F) → (⟨S64x151936, .f32⟩ : BufTy).Contents (Elt F) → (⟨S64x151936, .i1⟩ : BufTy).Contents (Elt F)) ]

/-- The buffers those operations write. -/
abbrev massOpsOut : List (Ref sig .tc) := [main_cst_3, main_v25, main_cst_4, main_v26, main_v27, main_v28, main_v29, main_v30, main_v31, main_cst_5, main_v32, main_v33, main_v34, main_v35, main_call4_call0_cst, main_call4_call0_v0, main_v36, main_cst_6, main_v37, main_v38]

set_option maxRecDepth 8192 in
theorem massOps_writes : (massOps : List (HloOp τ sig (Elt F))).Forall fun op => op.writes ⊆ (massOpsOut.map (Proc.devRef (τ := τ) .tc)).toFinset :=
  forall_writes_sub_of_map rfl

set_option maxRecDepth 8192 in
theorem massOps_fresh : (massOps : List (HloOp τ sig (Elt F))).Forall fun op => op.fresh = ∅ :=
  forall_fresh_of_map rfl

set_option maxRecDepth 8192 in
theorem massOps_bufs : (massOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

/-- Operations computing the that mask moved right by one place. -/
abbrev shiftOps : List (HloOp τ sig (Elt F)) :=
  [ unary main_v38 main_v39 ((extractStridedSlice S64x1 ![0, 0] · slices_S64x151936_S64x1_0_0) : (⟨S64x151936, .i1⟩ : BufTy).Contents (Elt F) → (⟨S64x1, .i1⟩ : BufTy).Contents (Elt F)),
    nullary main_c_7 (constantI S_ 1 0#1),
    unary main_c_7 main_v40 (broadcastInDim S64x1 ![] bcast_S_S64x1 : (⟨S_, .i1⟩ : BufTy).Contents (Elt F) → (⟨S64x1, .i1⟩ : BufTy).Contents (Elt F)),
    unary main_v38 main_v41 ((extractStridedSlice S64x151935 ![0, 0] · slices_S64x151936_S64x151935_0_0) : (⟨S64x151936, .i1⟩ : BufTy).Contents (Elt F) → (⟨S64x151935, .i1⟩ : BufTy).Contents (Elt F)),
    binary main_v40 main_v41 main_v42 (joinFalse (F := F)) ]

/-- The buffers those operations write. -/
abbrev shiftOpsOut : List (Ref sig .tc) := [main_v39, main_c_7, main_v40, main_v41, main_v42]

set_option maxRecDepth 8192 in
theorem shiftOps_writes : (shiftOps : List (HloOp τ sig (Elt F))).Forall fun op => op.writes ⊆ (shiftOpsOut.map (Proc.devRef (τ := τ) .tc)).toFinset :=
  forall_writes_sub_of_map rfl

set_option maxRecDepth 8192 in
theorem shiftOps_fresh : (shiftOps : List (HloOp τ sig (Elt F))).Forall fun op => op.fresh = ∅ :=
  forall_fresh_of_map rfl

set_option maxRecDepth 8192 in
theorem shiftOps_bufs : (shiftOps : List (HloOp τ sig (Elt F))).Forall fun op => op.bufs ⊆ tcRefs τ sig :=
  ⟨unary_bufs_sub .., nullary_bufs_sub .., unary_bufs_sub .., unary_bufs_sub .., binary_bufs_sub ..⟩

/-- Operations computing the the inverse of the order. -/
abbrev inverseOps : List (HloOp τ sig (Elt F)) :=
  [ TRef.nullary (TRef.of (T := ⟨S64x151936, .i32⟩) main_call5_v0) (iotaInDim S64x151936 32 1),
    TRef.binary (TRef.of (T := ⟨S64x151936, .i32⟩) main_v23) (TRef.of (T := ⟨S64x151936, .i32⟩) main_call5_v0) (TRef.of (T := ⟨S64x151936, .i32⟩) main_call5_v1_0) (fun x y => (Host.sort2 S64x151936 1 comparator_i32_i32_d1 x y).1),
    TRef.binary (TRef.of (T := ⟨S64x151936, .i32⟩) main_v23) (TRef.of (T := ⟨S64x151936, .i32⟩) main_call5_v0) (TRef.of (T := ⟨S64x151936, .i32⟩) main_v43) (fun x y => (Host.sort2 S64x151936 1 comparator_i32_i32_d1 x y).2) ]

/-- The buffers those operations write. -/
abbrev inverseOpsOut : List (Ref sig .tc) := [main_call5_v0, main_call5_v1_0, main_v43]

set_option maxRecDepth 8192 in
theorem inverseOps_writes : (inverseOps : List (HloOp τ sig (Elt F))).Forall fun op => op.writes ⊆ (inverseOpsOut.map (Proc.devRef (τ := τ) .tc)).toFinset :=
  forall_writes_sub_of_map rfl

set_option maxRecDepth 8192 in
theorem inverseOps_fresh : (inverseOps : List (HloOp τ sig (Elt F))).Forall fun op => op.fresh = ∅ :=
  forall_fresh_of_map rfl

set_option maxRecDepth 8192 in
theorem inverseOps_bufs : (inverseOps : List (HloOp τ sig (Elt F))).Forall fun op => op.bufs ⊆ tcRefs τ sig :=
  ⟨nullary_bufs_sub .., binary_bufs_sub .., binary_bufs_sub ..⟩

/-- Operations computing the the mask read at the columns. -/
abbrev removeOps : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S64x151936, .i32⟩) main_call6_v0) (broadcastInDim S64x151936 ![] bcast_S_S64x151936),
    TRef.binary (TRef.of (T := ⟨S64x151936, .i32⟩) main_v43) (TRef.of (T := ⟨S64x151936, .i32⟩) main_call6_v0) (TRef.of (T := ⟨S64x151936, .i1⟩) main_call6_v1) (cmpi .slt),
    TRef.nullary (TRef.of (T := ⟨S_, .i32⟩) main_call6_c_0) (constantI S_ 32 151936#32),
    TRef.unary (TRef.of (T := ⟨S_, .i32⟩) main_call6_c_0) (TRef.of (T := ⟨S64x151936, .i32⟩) main_call6_v2) (broadcastInDim S64x151936 ![] bcast_S_S64x151936),
    TRef.binary (TRef.of (T := ⟨S64x151936, .i32⟩) main_v43) (TRef.of (T := ⟨S64x151936, .i32⟩) main_call6_v2) (TRef.of (T := ⟨S64x151936, .i32⟩) main_call6_v3) addi,
    TRef.ternary (TRef.of (T := ⟨S64x151936, .i1⟩) main_call6_v1) (TRef.of (T := ⟨S64x151936, .i32⟩) main_call6_v3) (TRef.of (T := ⟨S64x151936, .i32⟩) main_v43) (TRef.of (T := ⟨S64x151936, .i32⟩) main_call6_v4) select,
    TRef.reshape (TRef.of (T := ⟨S64x151936, .i32⟩) main_call6_v4) (TRef.of (T := ⟨S64x151936x1, .i32⟩) main_call6_v5) (rfl : (.i32 : EltTy) = .i32) shapeCasts_S64x151936_S64x151936x1,
    TRef.nullary (TRef.of (T := ⟨S1, .i32⟩) main_call6_c_1) (constantI S1 32 151935#32),
    TRef.nullary (TRef.of (T := ⟨S_, .i32⟩) main_call6_c_2) (constantI S_ 32 0#32),
    TRef.unary (TRef.of (T := ⟨S_, .i32⟩) main_call6_c_2) (TRef.of (T := ⟨S64x151936x1, .i32⟩) main_call6_v6) (broadcastInDim S64x151936x1 ![] bcast_S_S64x151936x1),
    TRef.binary (TRef.of (T := ⟨S64x151936x1, .i32⟩) main_call6_v5) (TRef.of (T := ⟨S64x151936x1, .i32⟩) main_call6_v6) (TRef.of (T := ⟨S64x151936x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S64x151936x1, .i32⟩) main_call6_v9) (broadcastInDim S64x151936x1 ![0, 1, 2] bcast_S1x1x1_S64x151936x1_0_1_2),
    TRef.binary (TRef.of (T := ⟨S64x151936x1, .i32⟩) main_call6_v5) (TRef.of (T := ⟨S64x151936x1, .i32⟩) main_call6_v9) (TRef.of (T := ⟨S64x151936x1, .i1⟩) main_call6_v10) (cmpi .sle),
    TRef.binary (TRef.of (T := ⟨S64x151936x1, .i1⟩) main_call6_v7) (TRef.of (T := ⟨S64x151936x1, .i1⟩) main_call6_v10) (TRef.of (T := ⟨S64x151936x1, .i1⟩) main_call6_v11) andi,
    TRef.nullary (TRef.of (T := ⟨S_, .i1⟩) main_call6_c_3) (constantI S_ 1 1#1),
    TRef.binary (TRef.of (T := ⟨S64x151936x1, .i1⟩) main_call6_v11) (TRef.of (T := ⟨S_, .i1⟩) main_call6_c_3) (TRef.of (T := ⟨S64x151936, .i1⟩) main_call6_v12) (fun x v => Host.reduce IntOp.andi x v reducesTo_S64x151936x1_S64x151936_d2 h_S_),
    TRef.binary (TRef.of (T := ⟨S64x151936, .i1⟩) main_v42) (TRef.of (T := ⟨S64x151936x1, .i32⟩) main_call6_v5) (TRef.of (T := ⟨S64x151936, .i1⟩) main_call6_v13) (fun x i => Host.gather gather_S64x151936_S64x151936x1_S64x151936_n_1_0_0_1_2_11 x i),
    TRef.nullary (TRef.of (T := ⟨S_, .i1⟩) main_call6_c_4) (constantI S_ 1 1#1),
    TRef.unary (TRef.of (T := ⟨S_, .i1⟩) main_call6_c_4) (TRef.of (T := ⟨S64x151936, .i1⟩) main_call6_v14) (broadcastInDim S64x151936 ![] bcast_S_S64x151936),
    TRef.ternary (TRef.of (T := ⟨S64x151936, .i1⟩) main_call6_v12) (TRef.of (T := ⟨S64x151936, .i1⟩) main_call6_v13) (TRef.of (T := ⟨S64x151936, .i1⟩) main_call6_v14) (TRef.of (T := ⟨S64x151936, .i1⟩) main_v44) select ]

/-- The buffers those operations write. -/
abbrev removeOpsOut : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_c_4, main_call6_v14, main_v44]

set_option maxRecDepth 8192 in
theorem removeOps_writes : (removeOps : List (HloOp τ sig (Elt F))).Forall fun op => op.writes ⊆ (removeOpsOut.map (Proc.devRef (τ := τ) .tc)).toFinset :=
  forall_writes_sub_of_map rfl

set_option maxRecDepth 8192 in
theorem removeOps_fresh : (removeOps : List (HloOp τ sig (Elt F))).Forall fun op => op.fresh = ∅ :=
  forall_fresh_of_map rfl

set_option maxRecDepth 8192 in
theorem removeOps_bufs : (removeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations computing the scores outside the nucleus set to −∞. -/
abbrev keepOps : List (HloOp τ sig (Elt F)) :=
  [ nullary main_cst_8 (constant S_ .f32 0xFF800000#32),
    TRef.unary (TRef.of (T := ⟨S_, .f32⟩) main_cst_8) (TRef.of (T := ⟨S_, .f32⟩) main_call7_v0) id,
    TRef.unary (TRef.of (T := ⟨S_, .f32⟩) main_call7_v0) (TRef.of (T := ⟨S64x151936, .f32⟩) main_call7_v1) (broadcastInDim S64x151936 ![] bcast_S_S64x151936),
    TRef.ternary (TRef.of (T := ⟨S64x151936, .i1⟩) main_v44) (TRef.of (T := ⟨S64x151936, .f32⟩) main_call7_v1) (TRef.of (T := ⟨S64x151936, .f32⟩) main_v21) (TRef.of (T := ⟨S64x151936, .f32⟩) main_v45) select,
    nullary main_cst_9 (constant S_ .f32 0x3F59999A#32) ]

/-- The buffers those operations write. -/
abbrev keepOpsOut : List (Ref sig .tc) := [main_cst_8, main_call7_v0, main_call7_v1, main_v45, main_cst_9]

set_option maxRecDepth 8192 in
theorem keepOps_writes : (keepOps : List (HloOp τ sig (Elt F))).Forall fun op => op.writes ⊆ (keepOpsOut.map (Proc.devRef (τ := τ) .tc)).toFinset :=
  forall_writes_sub_of_map rfl

set_option maxRecDepth 8192 in
theorem keepOps_fresh : (keepOps : List (HloOp τ sig (Elt F))).Forall fun op => op.fresh = ∅ :=
  forall_fresh_of_map rfl

set_option maxRecDepth 8192 in
theorem keepOps_bufs : (keepOps : List (HloOp τ sig (Elt F))).Forall fun op => op.bufs ⊆ tcRefs τ sig :=
  ⟨nullary_bufs_sub .., unary_bufs_sub .., unary_bufs_sub .., ternary_bufs_sub .., nullary_bufs_sub ..⟩

/-- Operations computing the scores divided by the temperature. -/
abbrev tempOps : List (HloOp τ sig (Elt F)) :=
  [ unary main_cst_9 main_v46 (broadcastInDim S64x151936 ![] bcast_S_S64x151936 : (⟨S_, .f32⟩ : BufTy).Contents (Elt F) → (⟨S64x151936, .f32⟩ : BufTy).Contents (Elt F)),
    binary main_v45 main_v46 main_v47 (Host.divf : (⟨S64x151936, .f32⟩ : BufTy).Contents (Elt F) → (⟨S64x151936, .f32⟩ : BufTy).Contents (Elt F) → (⟨S64x151936, .f32⟩ : BufTy).Contents (Elt F)) ]

/-- The buffers those operations write. -/
abbrev tempOpsOut : List (Ref sig .tc) := [main_v46, main_v47]

set_option maxRecDepth 8192 in
theorem tempOps_writes : (tempOps : List (HloOp τ sig (Elt F))).Forall fun op => op.writes ⊆ (tempOpsOut.map (Proc.devRef (τ := τ) .tc)).toFinset :=
  forall_writes_sub_of_map rfl

set_option maxRecDepth 8192 in
theorem tempOps_fresh : (tempOps : List (HloOp τ sig (Elt F))).Forall fun op => op.fresh = ∅ :=
  forall_fresh_of_map rfl

set_option maxRecDepth 8192 in
theorem tempOps_bufs : (tempOps : List (HloOp τ sig (Elt F))).Forall fun op => op.bufs ⊆ tcRefs τ sig :=
  ⟨unary_bufs_sub .., binary_bufs_sub ..⟩

/-- Operations computing the softmax of the scaled scores. -/
abbrev probOps : List (HloOp τ sig (Elt F)) :=
  [ nullary main_cst_10 (constant S_ .f32 0xFF800000#32),
    binary main_v47 main_cst_10 main_v48 ((fun x v => Host.reduce FloatOps.maximumf x v reducesTo_S64x151936_S64_d1 h_S_) : (⟨S64x151936, .f32⟩ : BufTy).Contents (Elt F) → (⟨S_, .f32⟩ : BufTy).Contents (Elt F) → (⟨S64, .f32⟩ : BufTy).Contents (Elt F)),
    nullary main_cst_11 (constant S_ .f32 0xFF800000#32),
    unary main_cst_11 main_v49 (broadcastInDim S64 ![] bcast_S_S64 : (⟨S_, .f32⟩ : BufTy).Contents (Elt F) → (⟨S64, .f32⟩ : BufTy).Contents (Elt F)),
    binary main_v49 main_v48 main_v50 (maximumf : (⟨S64, .f32⟩ : BufTy).Contents (Elt F) → (⟨S64, .f32⟩ : BufTy).Contents (Elt F) → (⟨S64, .f32⟩ : BufTy).Contents (Elt F)),
    unary main_v50 main_v51 (broadcastInDim S64x1 ![0] bcast_S64_S64x1_0 : (⟨S64, .f32⟩ : BufTy).Contents (Elt F) → (⟨S64x1, .f32⟩ : BufTy).Contents (Elt F)),
    unary main_v51 main_v52 (broadcastInDim S64x151936 ![0, 1] bcast_S64x1_S64x151936_0_1 : (⟨S64x1, .f32⟩ : BufTy).Contents (Elt F) → (⟨S64x151936, .f32⟩ : BufTy).Contents (Elt F)),
    binary main_v47 main_v52 main_v53 (subf : (⟨S64x151936, .f32⟩ : BufTy).Contents (Elt F) → (⟨S64x151936, .f32⟩ : BufTy).Contents (Elt F) → (⟨S64x151936, .f32⟩ : BufTy).Contents (Elt F)),
    unary main_v53 main_v54 (Host.exp : (⟨S64x151936, .f32⟩ : BufTy).Contents (Elt F) → (⟨S64x151936, .f32⟩ : BufTy).Contents (Elt F)),
    nullary main_cst_12 (constant S_ .f32 0x00000000#32),
    binary main_v54 main_cst_12 main_v55 ((fun x v => Host.reduceAdd x v reducesTo_S64x151936_S64_d1 h_S_) : (⟨S64x151936, .f32⟩ : BufTy).Contents (Elt F) → (⟨S_, .f32⟩ : BufTy).Contents (Elt F) → (⟨S64, .f32⟩ : BufTy).Contents (Elt F)),
    unary main_v55 main_v56 (broadcastInDim S64x1 ![0] bcast_S64_S64x1_0 : (⟨S64, .f32⟩ : BufTy).Contents (Elt F) → (⟨S64x1, .f32⟩ : BufTy).Contents (Elt F)),
    unary main_v56 main_v57 (broadcastInDim S64x151936 ![0, 1] bcast_S64x1_S64x151936_0_1 : (⟨S64x1, .f32⟩ : BufTy).Contents (Elt F) → (⟨S64x151936, .f32⟩ : BufTy).Contents (Elt F)),
    binary main_v54 main_v57 main_v58 (Host.divf : (⟨S64x151936, .f32⟩ : BufTy).Contents (Elt F) → (⟨S64x151936, .f32⟩ : BufTy).Contents (Elt F) → (⟨S64x151936, .f32⟩ : BufTy).Contents (Elt F)) ]

/-- The buffers those operations write. -/
abbrev probOpsOut : List (Ref sig .tc) := [main_cst_10, main_v48, main_cst_11, main_v49, main_v50, main_v51, main_v52, main_v53, main_v54, main_cst_12, main_v55, main_v56, main_v57, main_v58]

set_option maxRecDepth 8192 in
theorem probOps_writes : (probOps : List (HloOp τ sig (Elt F))).Forall fun op => op.writes ⊆ (probOpsOut.map (Proc.devRef (τ := τ) .tc)).toFinset :=
  forall_writes_sub_of_map rfl

set_option maxRecDepth 8192 in
theorem probOps_fresh : (probOps : List (HloOp τ sig (Elt F))).Forall fun op => op.fresh = ∅ :=
  forall_fresh_of_map rfl

set_option maxRecDepth 8192 in
theorem probOps_bufs : (probOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Operations computing the position of the largest scaled score plus noise. -/
abbrev tokenOps : List (HloOp τ sig (Elt F)) :=
  [ binary main_v66 main_v47 main_v67 (addf : (⟨S64x151936, .f32⟩ : BufTy).Contents (Elt F) → (⟨S64x151936, .f32⟩ : BufTy).Contents (Elt F) → (⟨S64x151936, .f32⟩ : BufTy).Contents (Elt F)),
    TRef.nullary (TRef.of (T := ⟨S64x151936, .i32⟩) main_call9_v0) (iotaInDim S64x151936 32 1),
    TRef.nullary (TRef.of (T := ⟨S_, .f32⟩) main_call9_cst) (constant S_ .f32 0xFF800000#32),
    TRef.nullary (TRef.of (T := ⟨S_, .i32⟩) main_call9_c) (constantI S_ 32 0#32),
    TRef.quaternary (TRef.of (T := ⟨S64x151936, .f32⟩) main_v67) (TRef.of (T := ⟨S64x151936, .i32⟩) main_call9_v0) (TRef.of (T := ⟨S_, .f32⟩) main_call9_cst) (TRef.of (T := ⟨S_, .i32⟩) main_call9_c) (TRef.of (T := ⟨S64, .f32⟩) main_call9_v1_0) (fun x y u v j => (Host.argReduce reducer_argmax_f32_i32 x y u v reducesTo_S64x151936_S64_d1 h_S_ j).1),
    TRef.quaternary (TRef.of (T := ⟨S64x151936, .f32⟩) main_v67) (TRef.of (T := ⟨S64x151936, .i32⟩) main_call9_v0) (TRef.of (T := ⟨S_, .f32⟩) main_call9_cst) (TRef.of (T := ⟨S_, .i32⟩) main_call9_c) (TRef.of (T := ⟨S64, .i32⟩) main_v68) (fun x y u v j => (Host.argReduce reducer_argmax_f32_i32 x y u v reducesTo_S64x151936_S64_d1 h_S_ j).2) ]

/-- The buffers those operations write. -/
abbrev tokenOpsOut : List (Ref sig .tc) := [main_v67, main_call9_v0, main_call9_cst, main_call9_c, main_call9_v1_0, main_v68]

set_option maxRecDepth 8192 in
theorem tokenOps_writes : (tokenOps : List (HloOp τ sig (Elt F))).Forall fun op => op.writes ⊆ (tokenOpsOut.map (Proc.devRef (τ := τ) .tc)).toFinset :=
  forall_writes_sub_of_map rfl

set_option maxRecDepth 8192 in
theorem tokenOps_fresh : (tokenOps : List (HloOp τ sig (Elt F))).Forall fun op => op.fresh = ∅ :=
  forall_fresh_of_map rfl

set_option maxRecDepth 8192 in
theorem tokenOps_bufs : (tokenOps : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩

/-- The first printed part of the program. -/
def opsHead : List (HloOp τ sig (Elt F)) :=
  scoreOps ++ (topkOps ++ (orderOps ++ (sortedOps ++ (massOps ++ (shiftOps ++ (inverseOps ++ (removeOps ++ (keepOps))))))))

/-- The second printed part of the program. -/
def opsTail : List (HloOp τ sig (Elt F)) :=
  tempOps ++ (probOps ++ (drawOps ++ (tokenOps)))

/-- All operations. -/
abbrev allOps : List (HloOp τ sig (Elt F)) := opsHead ++ opsTail

set_option maxRecDepth 8192 in
set_option maxHeartbeats 4000000 in
theorem head_eq (c : Dev nD) : main_part0 (F := F) c = seq opsHead := rfl
set_option maxRecDepth 16384 in
set_option maxHeartbeats 40000000 in
theorem tail_eq (c : Dev nD) : main_part1 (F := F) c = seq opsTail := rfl
set_option maxRecDepth 8192 in
theorem whole_eq (c : Dev nD) : main (F := F) c = seq allOps := by
  simp only [allOps, seq_append, ← head_eq c, ← tail_eq c]
  rfl
theorem no_scoped_refs : (Finset.univ.filter fun b : Ref sig .tc => b.isScoped) = ∅ := by decide
theorem no_scoped_sems : (Finset.univ.filter fun sm : SemLoc sig => sm.isScoped .tc) = ∅ := by decide

theorem allOps_bufs : (allOps : List (HloOp τ sig (Elt F))).Forall fun op => op.bufs ⊆ tcRefs τ sig :=
  List.forall_iff_forall_mem.mpr fun op h => by
    simp only [allOps, opsHead, opsTail, List.mem_append, or_assoc] at h
    rcases h with h | h | h | h | h | h | h | h | h | h | h | h | h
    exacts [List.forall_iff_forall_mem.mp scoreOps_bufs op h, List.forall_iff_forall_mem.mp topkOps_bufs op h, List.forall_iff_forall_mem.mp orderOps_bufs op h, List.forall_iff_forall_mem.mp sortedOps_bufs op h, List.forall_iff_forall_mem.mp massOps_bufs op h, List.forall_iff_forall_mem.mp shiftOps_bufs op h, List.forall_iff_forall_mem.mp inverseOps_bufs op h, List.forall_iff_forall_mem.mp removeOps_bufs op h, List.forall_iff_forall_mem.mp keepOps_bufs op h, List.forall_iff_forall_mem.mp tempOps_bufs op h, List.forall_iff_forall_mem.mp probOps_bufs op h, List.forall_iff_forall_mem.mp drawOps_bufs op h, List.forall_iff_forall_mem.mp tokenOps_bufs op h]

theorem allOps_fresh : ∀ op ∈ (allOps : List (HloOp τ sig (Elt F))), op.fresh = ∅ := fun op h => by
    simp only [allOps, opsHead, opsTail, List.mem_append, or_assoc] at h
    rcases h with h | h | h | h | h | h | h | h | h | h | h | h | h
    exacts [List.forall_iff_forall_mem.mp scoreOps_fresh op h, List.forall_iff_forall_mem.mp topkOps_fresh op h, List.forall_iff_forall_mem.mp orderOps_fresh op h, List.forall_iff_forall_mem.mp sortedOps_fresh op h, List.forall_iff_forall_mem.mp massOps_fresh op h, List.forall_iff_forall_mem.mp shiftOps_fresh op h, List.forall_iff_forall_mem.mp inverseOps_fresh op h, List.forall_iff_forall_mem.mp removeOps_fresh op h, List.forall_iff_forall_mem.mp keepOps_fresh op h, List.forall_iff_forall_mem.mp tempOps_fresh op h, List.forall_iff_forall_mem.mp probOps_fresh op h, List.forall_iff_forall_mem.mp drawOps_fresh op h, List.forall_iff_forall_mem.mp tokenOps_fresh op h]

end Cert.RefRun

end
-- ==== Proof.Noise.lean ====
/- The counter-based noise both programs draw: a counter of two words goes through twenty rounds in five groups of four,
   with the words of a key added between the groups; the two words met, nine places down, are the fraction of a float in
   [1, 2), and −log(−log u) of the uniform value it gives is the noise. -/
module

public import Idealize.ShloMosaic.PureOps

@[expose] public section

noncomputable section

namespace Cert.Noise

open Idealize.ShloMosaic

abbrev Word := BitVec 32

/-- A word turned: up by `d` places, and its upper part, down by `e` places, put back below. -/
def turn (d e x : Word) : Word := IntOp.ori (IntOp.shli .host x d) (IntOp.shrui .host x e)

/-- One round; `f` joins the turned word with the sum. -/
def round (f : Word → Word → Word) (d e : Word) (s : Word × Word) : Word × Word :=
  (IntOp.addi s.1 s.2, f (turn d e s.2) (IntOp.addi s.1 s.2))

/-- What is added after a group: two words of the key, and the group's number to the second. -/
def inject (k l n : Word) (s : Word × Word) : Word × Word := (IntOp.addi s.1 k, IntOp.addi (IntOp.addi s.2 l) n)

/-- The groups of odd number, and of even number. -/
def odd (f : Word → Word → Word) (k l n : Word) (s : Word × Word) : Word × Word :=
  inject k l n (round f 6#32 26#32 (round f 26#32 6#32 (round f 15#32 17#32 (round f 13#32 19#32 s))))
def even (f : Word → Word → Word) (k l n : Word) (s : Word × Word) : Word × Word :=
  inject k l n (round f 24#32 8#32 (round f 16#32 16#32 (round f 29#32 3#32 (round f 17#32 15#32 s))))

/-- The third word of a key. -/
def third (k l : Word) : Word := IntOp.xori (IntOp.xori k l) 466688986#32

/-- All twenty rounds on a counter, under a key. -/
def scramble (f : Word → Word → Word) (k l : Word) (s : Word × Word) : Word × Word :=
  odd f (third k l) k 5#32 (even f l (third k l) 4#32 (odd f k l 3#32 (even f (third k l) k 2#32 (odd f l (third k l) 1#32
    (IntOp.addi s.1 k, IntOp.addi s.2 l)))))

/-- The random word of a counter below 2³², under the key (0, 1). -/
def bits (n : Word) : Word :=
  IntOp.xori (scramble IntOp.xori 0#32 1#32 (0#32, n)).1 (scramble IntOp.xori 0#32 1#32 (0#32, n)).2

theorem xori_comm : (fun a b : Word => IntOp.xori b a) = IntOp.xori := by
  funext a b
  exact BitVec.xor_comm b a

variable {F : FTy → Type} [FloatOps F]

/-- The noise of an array of random words. -/
def values {S : Shape} (b : IVec S 32) : FVec F S .f32 :=
  Host.negf (Host.log (Host.negf (Host.log (maximumf (constant S .f32 0x00800000#32)
    (addf (mulf (subf (bitcastToFloat .f32 (ori (Host.shrui b (constantI S 32 9#32)) (constantI S 32 1065353216#32))) (constant S .f32 0x3F800000#32))
        (subf (constant S .f32 0x3F800000#32) (constant S .f32 0x00800000#32)))
      (constant S .f32 0x00800000#32))))))

/-- The noise table: at row `r` and column `k` the noise of the counter `151936 r + k`. -/
def table : FVec F ⟨2, ![64, 151936]⟩ .f32 := values fun j => bits (BitVec.ofNat 32 ((j 0).val * 151936 + (j 1).val))

end Cert.Noise

end
-- ==== Proof.RefDrawValue.lean ====
/- The noise table the reference draws: its operations in stages — the key and the counters, five groups of rounds, the
   noise — leave the table of the counter-based noise. -/
module

public import proofs.«01_k».proof.Proof.RefDraw
public import proofs.«01_k».proof.Proof.Noise
public import Idealize.ShloMosaic.Lib.Pipeline.Value
public import Idealize.ShloMosaic.Lib.ValueIdxCore

@[expose] public section

set_option maxRecDepth 16384

noncomputable section

namespace Cert.RefRun

open Cert.ReferenceIdeal Cert.ReferenceIdeal.Gen Idealize.ShloMosaic Idealize.ShloMosaic.TcCoe Idealize.ShloMosaic.ValueIdx Idealize.SL.Sem Idealize.ShloMosaic.StableHlo

variable {F : FTy → Type} [FloatOps F]

/-- The `n` operations from number `a` on. -/
def drawStage (a n : ℕ) : List (HloOp τ sig (Elt F)) := (drawOps.drop a).take n

/-- The joining the reference's rounds use: the sum first. -/
abbrev flip (a b : Noise.Word) : Noise.Word := IntOp.xori b a

/-- The counter of an index in 64 bits. -/
def wide (i : S64x151936.Idx) : BitVec 64 :=
  IntOp.addi (IntOp.muli 151936#64 (BitVec.ofNat 64 (i 0).val)) (IntOp.muli 1#64 (BitVec.ofNat 64 (i 1).val))

/-- Its upper and lower word, as the reference cuts them out. -/
def split (i : S64x151936.Idx) : Noise.Word × Noise.Word :=
  (BitVec.truncate 32 (IntOp.shrui .host (wide i) 32#64), BitVec.truncate 32 (wide i))

theorem upper_zero (r k : ℕ) (hr : r < 64) (hk : k < 151936) : (r * 151936 + k) / 4294967296 % 2 ^ 32 = 0 := by
  rw [Nat.div_eq_of_lt (by omega), Nat.zero_mod]

theorem wide_toNat (i : S64x151936.Idx) : (wide i).toNat = (i 0).val * 151936 + (i 1).val := by
  have h0 : (i 0).val < 64 := (i 0).isLt
  have h1 : (i 1).val < 151936 := (i 1).isLt
  simp only [wide, IntOp.addi, IntOp.muli, BitVec.toNat_add, BitVec.toNat_mul, BitVec.toNat_ofNat]
  omega

theorem split_eq (i : S64x151936.Idx) : split i = (0#32, BitVec.ofNat 32 ((i 0).val * 151936 + (i 1).val)) := by
  have h0 : (i 0).val < 64 := (i 0).isLt
  have h1 : (i 1).val < 151936 := (i 1).isLt
  have hw := wide_toNat i
  refine Prod.ext ?_ ?_
  · apply BitVec.eq_of_toNat_eq
    show (BitVec.truncate 32 (IntOp.shrui .host (wide i) 32#64)).toNat = 0
    have : IntOp.shrui .host (wide i) 32#64 = wide i >>> 32#64 := if_pos (by decide)
    rw [this]
    simp only [BitVec.toNat_setWidth, BitVec.ushiftRight_eq', BitVec.toNat_ushiftRight, BitVec.toNat_ofNat, hw, Nat.shiftRight_eq_div_pow]
    rw [show 2 ^ (32 % 2 ^ 64) = 4294967296 from by norm_num]
    exact upper_zero _ _ h0 h1
  · apply BitVec.eq_of_toNat_eq
    show (BitVec.truncate 32 (wide i)).toNat = _
    simp only [BitVec.toNat_setWidth, BitVec.toNat_ofNat, hw]

variable (V : Valuation τ sig (Elt F))

/-- The key: the seed 1 in two words. -/
theorem draw_key : after (drawStage 0 10) V (Proc.devRef .tc main_v65)
    = joinWords (F := F) (fun _ => 0#32) (fun _ => 1#32) := by
  simp only [drawStage, drawOps, List.drop_succ_cons, List.drop_zero, List.take_succ_cons, List.take_zero]
  after_results
  exact congrArg₂ (joinWords (F := F)) (funext fun _ => (by decide : IntOp.shrui .host 1#32 32#32 = 0#32))
    (funext fun _ => (by decide : IntOp.andi 1#32 4294967295#32 = 1#32))

/-- The two words read back out of the key. -/
theorem key_first (a b : S1.Idx → BitVec 32) : shapeCast S_ (extractStridedSlice S1 ![0] (joinWords (F := F) a b) slices_S2_S1_0) shapeCasts_S1_S_
    = fun _ => a (ix1 (0 : Fin 1)) := by
  funext i
  refine (shapeCast_apply _ _ _ (ix1 (0 : Fin 1)) ?_).trans ((extractStridedSlice_apply _ _ _ _ (ix1 (0 : Fin 2)) fun c => ?_).trans ?_)
  · rw [Shape.rowMajor_val_one]
    exact (Nat.lt_one_iff.mp (S_.rowMajor i).isLt).symm
  · match c with
    | ⟨0, _⟩ => rfl
  · refine concatenate_pair_apply_left (t := S2) (s₁ := S1) (s₂ := S1) 0 a b concatenates_S1_S1_S2_d0 _ rfl (ix1 (0 : Fin 1)) fun c => ?_
    match c with
    | ⟨0, _⟩ => rfl
theorem key_second (a b : S1.Idx → BitVec 32) : shapeCast S_ (extractStridedSlice S1 ![1] (joinWords (F := F) a b) slices_S2_S1_1) shapeCasts_S1_S_
    = fun _ => b (ix1 (0 : Fin 1)) := by
  funext i
  refine (shapeCast_apply _ _ _ (ix1 (0 : Fin 1)) ?_).trans ((extractStridedSlice_apply _ _ _ _ (ix1 (1 : Fin 2)) fun c => ?_).trans ?_)
  · rw [Shape.rowMajor_val_one]
    exact (Nat.lt_one_iff.mp (S_.rowMajor i).isLt).symm
  · match c with
    | ⟨0, _⟩ => rfl
  · refine concatenate_pair_apply_right (t := S2) (s₁ := S1) (s₂ := S1) 0 a b concatenates_S1_S1_S2_d0 _ rfl rfl (ix1 (0 : Fin 1)) (fun c hc => ?_) rfl
    match c, hc with
    | ⟨0, _⟩, hc => exact absurd rfl hc

theorem draw_words (h : V (Proc.devRef .tc main_v65) = joinWords (F := F) (fun _ => 0#32) (fun _ => 1#32)) :
    after (drawStage 10 9) V (Proc.devRef .tc main_call8_call0_v4) = (fun _ => 0#32)
    ∧ after (drawStage 10 9) V (Proc.devRef .tc main_call8_call0_v6) = (fun _ => 1#32)
    ∧ after (drawStage 10 9) V (Proc.devRef .tc main_call8_call0_v1) = constant S1x1 .f32 0x00800000#32
    ∧ after (drawStage 10 9) V (Proc.devRef .tc main_call8_call0_v2) = constant S1x1 .f32 0x3F800000#32 := by
  simp only [drawStage, drawOps, List.drop_succ_cons, List.drop_zero, List.take_succ_cons, List.take_zero]
  refine ⟨?_, ?_, ?_, ?_⟩
  · after_results
    simp only [h]
    exact key_first (F := F) (fun _ => 0#32) (fun _ => 1#32)
  · after_results
    simp only [h]
    exact key_second (F := F) (fun _ => 0#32) (fun _ => 1#32)
  all_goals
    after_results
    rfl

theorem draw_counters (h0 : V (Proc.devRef .tc main_call8_call0_v4) = fun _ => 0#32) (h1 : V (Proc.devRef .tc main_call8_call0_v6) = fun _ => 1#32) (a b : FVec F S1x1 .f32)
    (h2 : V (Proc.devRef .tc main_call8_call0_v1) = a) (h3 : V (Proc.devRef .tc main_call8_call0_v2) = b) :
    after (drawStage 19 21) V (Proc.devRef .tc main_call8_call0_call0_v3) = (fun i => IntOp.addi (split i).1 0#32)
    ∧ after (drawStage 19 21) V (Proc.devRef .tc main_call8_call0_call0_v5) = (fun i => IntOp.addi (split i).2 1#32)
    ∧ after (drawStage 19 21) V (Proc.devRef .tc main_call8_call0_v4) = (fun _ => 0#32)
    ∧ after (drawStage 19 21) V (Proc.devRef .tc main_call8_call0_v6) = (fun _ => 1#32)
    ∧ after (drawStage 19 21) V (Proc.devRef .tc main_call8_call0_call0_v1) = (fun _ => Noise.third 0#32 1#32)
    ∧ after (drawStage 19 21) V (Proc.devRef .tc main_call8_call0_v1) = a
    ∧ after (drawStage 19 21) V (Proc.devRef .tc main_call8_call0_v2) = b := by
  simp only [drawStage, drawOps, List.drop_succ_cons, List.drop_zero, List.take_succ_cons, List.take_zero]
  refine ⟨?_, ?_, ?_, ?_, ?_, ?_, ?_⟩
  all_goals
    after_results
    try simp only [h0, h1, h2, h3]
    try rfl

theorem draw_group1 (s : S64x151936.Idx → Noise.Word × Noise.Word) (k l t : Noise.Word) (a b : FVec F S1x1 .f32)
    (h0 : V (Proc.devRef .tc main_call8_call0_call0_v3) = fun i => (s i).1) (h1 : V (Proc.devRef .tc main_call8_call0_call0_v5) = fun i => (s i).2)
    (g0 : V (Proc.devRef .tc main_call8_call0_v4) = fun _ => k)
    (g1 : V (Proc.devRef .tc main_call8_call0_v6) = fun _ => l)
    (g2 : V (Proc.devRef .tc main_call8_call0_call0_v1) = fun _ => t)
    (g3 : V (Proc.devRef .tc main_call8_call0_v1) = a)
    (g4 : V (Proc.devRef .tc main_call8_call0_v2) = b) :
    after (drawStage 40 43) V (Proc.devRef .tc main_call8_call0_call0_v35) = (fun i => (Noise.odd flip l t 1#32 (s i)).1)
    ∧ after (drawStage 40 43) V (Proc.devRef .tc main_call8_call0_call0_v39) = (fun i => (Noise.odd flip l t 1#32 (s i)).2)
    ∧ after (drawStage 40 43) V (Proc.devRef .tc main_call8_call0_v4) = (fun _ => k)
    ∧ after (drawStage 40 43) V (Proc.devRef .tc main_call8_call0_v6) = (fun _ => l)
    ∧ after (drawStage 40 43) V (Proc.devRef .tc main_call8_call0_call0_v1) = (fun _ => t)
    ∧ after (drawStage 40 43) V (Proc.devRef .tc main_call8_call0_v1) = (a)
    ∧ after (drawStage 40 43) V (Proc.devRef .tc main_call8_call0_v2) = (b) := by
  simp only [drawStage, drawOps, List.drop_succ_cons, List.drop_zero, List.take_succ_cons, List.take_zero]
  refine ⟨?_, ?_, ?_, ?_, ?_, ?_, ?_⟩
  all_goals
    after_results
    simp only [h0, h1, g0, g1, g2, g3, g4]
    try rfl

theorem draw_group2 (s : S64x151936.Idx → Noise.Word × Noise.Word) (k l t : Noise.Word) (a b : FVec F S1x1 .f32)
    (h0 : V (Proc.devRef .tc main_call8_call0_call0_v35) = fun i => (s i).1) (h1 : V (Proc.devRef .tc main_call8_call0_call0_v39) = fun i => (s i).2)
    (g0 : V (Proc.devRef .tc main_call8_call0_v4) = fun _ => k)
    (g1 : V (Proc.devRef .tc main_call8_call0_v6) = fun _ => l)
    (g2 : V (Proc.devRef .tc main_call8_call0_call0_v1) = fun _ => t)
    (g3 : V (Proc.devRef .tc main_call8_call0_v1) = a)
    (g4 : V (Proc.devRef .tc main_call8_call0_v2) = b) :
    after (drawStage 83 43) V (Proc.devRef .tc main_call8_call0_call0_v69) = (fun i => (Noise.even flip t k 2#32 (s i)).1)
    ∧ after (drawStage 83 43) V (Proc.devRef .tc main_call8_call0_call0_v73) = (fun i => (Noise.even flip t k 2#32 (s i)).2)
    ∧ after (drawStage 83 43) V (Proc.devRef .tc main_call8_call0_v4) = (fun _ => k)
    ∧ after (drawStage 83 43) V (Proc.devRef .tc main_call8_call0_v6) = (fun _ => l)
    ∧ after (drawStage 83 43) V (Proc.devRef .tc main_call8_call0_call0_v1) = (fun _ => t)
    ∧ after (drawStage 83 43) V (Proc.devRef .tc main_call8_call0_v1) = (a)
    ∧ after (drawStage 83 43) V (Proc.devRef .tc main_call8_call0_v2) = (b) := by
  simp only [drawStage, drawOps, List.drop_succ_cons, List.drop_zero, List.take_succ_cons, List.take_zero]
  refine ⟨?_, ?_, ?_, ?_, ?_, ?_, ?_⟩
  all_goals
    after_results
    simp only [h0, h1, g0, g1, g2, g3, g4]
    try rfl

theorem draw_group3 (s : S64x151936.Idx → Noise.Word × Noise.Word) (k l t : Noise.Word) (a b : FVec F S1x1 .f32)
    (h0 : V (Proc.devRef .tc main_call8_call0_call0_v69) = fun i => (s i).1) (h1 : V (Proc.devRef .tc main_call8_call0_call0_v73) = fun i => (s i).2)
    (g0 : V (Proc.devRef .tc main_call8_call0_v4) = fun _ => k)
    (g1 : V (Proc.devRef .tc main_call8_call0_v6) = fun _ => l)
    (g2 : V (Proc.devRef .tc main_call8_call0_call0_v1) = fun _ => t)
    (g3 : V (Proc.devRef .tc main_call8_call0_v1) = a)
    (g4 : V (Proc.devRef .tc main_call8_call0_v2) = b) :
    after (drawStage 126 43) V (Proc.devRef .tc main_call8_call0_call0_v103) = (fun i => (Noise.odd flip k l 3#32 (s i)).1)
    ∧ after (drawStage 126 43) V (Proc.devRef .tc main_call8_call0_call0_v107) = (fun i => (Noise.odd flip k l 3#32 (s i)).2)
    ∧ after (drawStage 126 43) V (Proc.devRef .tc main_call8_call0_v4) = (fun _ => k)
    ∧ after (drawStage 126 43) V (Proc.devRef .tc main_call8_call0_v6) = (fun _ => l)
    ∧ after (drawStage 126 43) V (Proc.devRef .tc main_call8_call0_call0_v1) = (fun _ => t)
    ∧ after (drawStage 126 43) V (Proc.devRef .tc main_call8_call0_v1) = (a)
    ∧ after (drawStage 126 43) V (Proc.devRef .tc main_call8_call0_v2) = (b) := by
  simp only [drawStage, drawOps, List.drop_succ_cons, List.drop_zero, List.take_succ_cons, List.take_zero]
  refine ⟨?_, ?_, ?_, ?_, ?_, ?_, ?_⟩
  all_goals
    after_results
    simp only [h0, h1, g0, g1, g2, g3, g4]
    try rfl

theorem draw_group4 (s : S64x151936.Idx → Noise.Word × Noise.Word) (k l t : Noise.Word) (a b : FVec F S1x1 .f32)
    (h0 : V (Proc.devRef .tc main_call8_call0_call0_v103) = fun i => (s i).1) (h1 : V (Proc.devRef .tc main_call8_call0_call0_v107) = fun i => (s i).2)
    (g0 : V (Proc.devRef .tc main_call8_call0_v4) = fun _ => k)
    (g1 : V (Proc.devRef .tc main_call8_call0_v6) = fun _ => l)
    (g2 : V (Proc.devRef .tc main_call8_call0_call0_v1) = fun _ => t)
    (g3 : V (Proc.devRef .tc main_call8_call0_v1) = a)
    (g4 : V (Proc.devRef .tc main_call8_call0_v2) = b) :
    after (drawStage 169 43) V (Proc.devRef .tc main_call8_call0_call0_v137) = (fun i => (Noise.even flip l t 4#32 (s i)).1)
    ∧ after (drawStage 169 43) V (Proc.devRef .tc main_call8_call0_call0_v141) = (fun i => (Noise.even flip l t 4#32 (s i)).2)
    ∧ after (drawStage 169 43) V (Proc.devRef .tc main_call8_call0_v4) = (fun _ => k)
    ∧ after (drawStage 169 43) V (Proc.devRef .tc main_call8_call0_v6) = (fun _ => l)
    ∧ after (drawStage 169 43) V (Proc.devRef .tc main_call8_call0_call0_v1) = (fun _ => t)
    ∧ after (drawStage 169 43) V (Proc.devRef .tc main_call8_call0_v1) = (a)
    ∧ after (drawStage 169 43) V (Proc.devRef .tc main_call8_call0_v2) = (b) := by
  simp only [drawStage, drawOps, List.drop_succ_cons, List.drop_zero, List.take_succ_cons, List.take_zero]
  refine ⟨?_, ?_, ?_, ?_, ?_, ?_, ?_⟩
  all_goals
    after_results
    simp only [h0, h1, g0, g1, g2, g3, g4]
    try rfl

theorem draw_group5 (s : S64x151936.Idx → Noise.Word × Noise.Word) (k l t : Noise.Word) (a b : FVec F S1x1 .f32)
    (h0 : V (Proc.devRef .tc main_call8_call0_call0_v137) = fun i => (s i).1) (h1 : V (Proc.devRef .tc main_call8_call0_call0_v141) = fun i => (s i).2)
    (g0 : V (Proc.devRef .tc main_call8_call0_v4) = fun _ => k)
    (g1 : V (Proc.devRef .tc main_call8_call0_v6) = fun _ => l)
    (g2 : V (Proc.devRef .tc main_call8_call0_call0_v1) = fun _ => t)
    (g3 : V (Proc.devRef .tc main_call8_call0_v1) = a)
    (g4 : V (Proc.devRef .tc main_call8_call0_v2) = b) :
    after (drawStage 212 43) V (Proc.devRef .tc main_call8_call0_v18_0) = (fun i => (Noise.odd flip t k 5#32 (s i)).1)
    ∧ after (drawStage 212 43) V (Proc.devRef .tc main_call8_call0_v18_1) = (fun i => (Noise.odd flip t k 5#32 (s i)).2)
    ∧ after (drawStage 212 43) V (Proc.devRef .tc main_call8_call0_v4) = (fun _ => k)
    ∧ after (drawStage 212 43) V (Proc.devRef .tc main_call8_call0_v6) = (fun _ => l)
    ∧ after (drawStage 212 43) V (Proc.devRef .tc main_call8_call0_call0_v1) = (fun _ => t)
    ∧ after (drawStage 212 43) V (Proc.devRef .tc main_call8_call0_v1) = (a)
    ∧ after (drawStage 212 43) V (Proc.devRef .tc main_call8_call0_v2) = (b) := by
  simp only [drawStage, drawOps, List.drop_succ_cons, List.drop_zero, List.take_succ_cons, List.take_zero]
  refine ⟨?_, ?_, ?_, ?_, ?_, ?_, ?_⟩
  all_goals
    after_results
    simp only [h0, h1, g0, g1, g2, g3, g4]
    try rfl

theorem draw_finish (s : S64x151936.Idx → Noise.Word × Noise.Word)
    (h0 : V (Proc.devRef .tc main_call8_call0_v18_0) = fun i => (s i).1) (h1 : V (Proc.devRef .tc main_call8_call0_v18_1) = fun i => (s i).2)
    (g3 : V (Proc.devRef .tc main_call8_call0_v1) = constant S1x1 .f32 0x00800000#32) (g4 : V (Proc.devRef .tc main_call8_call0_v2) = constant S1x1 .f32 0x3F800000#32) :
    after (drawStage 255 22) V (Proc.devRef .tc main_v66) = Noise.values (F := F) fun i => IntOp.xori (s i).1 (s i).2 := by
  simp only [drawStage, drawOps, List.drop_succ_cons, List.drop_zero, List.take_succ_cons, List.take_zero]
  after_results
  simp only [h0, h1, g3, g4]
  rfl

/-- The stages are the whole stretch. -/
theorem draw_stages : (drawOps : List (HloOp τ sig (Elt F)))
    = drawStage 0 10 ++ (drawStage 10 9 ++ (drawStage 19 21 ++ (drawStage 40 43 ++ (drawStage 83 43 ++ (drawStage 126 43 ++ (drawStage 169 43 ++ (drawStage 212 43 ++ (drawStage 255 22)))))))) := by
  simp only [drawStage, drawOps, List.drop_succ_cons, List.drop_zero, List.take_succ_cons, List.take_zero, List.cons_append, List.nil_append]

/-- The pair of words of an index before the rounds and after each group of them. -/
def pair0 (i : S64x151936.Idx) : Noise.Word × Noise.Word := (IntOp.addi (split i).1 0#32, IntOp.addi (split i).2 1#32)

def pair1 (i : S64x151936.Idx) := Noise.odd flip 1#32 (Noise.third 0#32 1#32) 1#32 (pair0 i)
def pair2 (i : S64x151936.Idx) := Noise.even flip (Noise.third 0#32 1#32) 0#32 2#32 (pair1 i)
def pair3 (i : S64x151936.Idx) := Noise.odd flip 0#32 1#32 3#32 (pair2 i)
def pair4 (i : S64x151936.Idx) := Noise.even flip 1#32 (Noise.third 0#32 1#32) 4#32 (pair3 i)
def pair5 (i : S64x151936.Idx) := Noise.odd flip (Noise.third 0#32 1#32) 0#32 5#32 (pair4 i)

theorem pair5_eq (i : S64x151936.Idx) : pair5 i = Noise.scramble IntOp.xori 0#32 1#32 (0#32, BitVec.ofNat 32 ((i 0).val * 151936 + (i 1).val)) := by
  show Noise.scramble (fun a b => IntOp.xori b a) 0#32 1#32 (split i) = _
  rw [Noise.xori_comm, split_eq]

/-- The drawn table. -/
theorem drawOps_main_v66 : after drawOps V (no_index (Proc.devRef .tc main_v66)) = Noise.table (F := F) := by
  rw [draw_stages]
  simp only [after_append]
  obtain ⟨a, b, c, d⟩ := draw_words _ (draw_key V)
  obtain ⟨a, b, c, d, e, f, g⟩ := draw_counters _ a b _ _ c d
  obtain ⟨a, b, c, d, e, f, g⟩ := draw_group1 _ (fun i => pair0 i) _ _ _ _ _ a b c d e f g
  obtain ⟨a, b, c, d, e, f, g⟩ := draw_group2 _ (fun i => pair1 i) _ _ _ _ _ a b c d e f g
  obtain ⟨a, b, c, d, e, f, g⟩ := draw_group3 _ (fun i => pair2 i) _ _ _ _ _ a b c d e f g
  obtain ⟨a, b, c, d, e, f, g⟩ := draw_group4 _ (fun i => pair3 i) _ _ _ _ _ a b c d e f g
  obtain ⟨a, b, c, d, e, f, g⟩ := draw_group5 _ (fun i => pair4 i) _ _ _ _ _ a b c d e f g
  rw [draw_finish _ (fun i => pair5 i) a b f g]
  refine congrArg Noise.values (funext fun i => ?_)
  rw [pair5_eq]
  rfl

end Cert.RefRun

end
-- ==== Proof.RefRun.lean ====
/- What one run of the reference program leaves in its two results, as a composition of the algorithm's stages. -/
module

public import proofs.«01_k».proof.Proof.RefOps
public import proofs.«01_k».proof.Proof.RefDrawValue

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A full table of floats: one row per sample, one column per token. -/
abbrev Tab (F : FTy → Type) := (⟨S64x151936, .f32⟩ : BufTy).Contents (Elt F)
/-- A full table of 32-bit integers. -/
abbrev ITab (F : FTy → Type) := (⟨S64x151936, .i32⟩ : BufTy).Contents (Elt F)
/-- A full table of bits. -/
abbrev BTab (F : FTy → Type) := (⟨S64x151936, .i1⟩ : BufTy).Contents (Elt F)

/-- One of the two rows of each sample. -/
def pairRow (o : Fin 2) (x : (⟨S128x151936, .f32⟩ : BufTy).Contents (Elt F)) : Tab F :=
  if o = 0 then
    shapeCast _ (extractStridedSlice S64x1x151936 ![0, 0, 0] (shapeCast S64x2x151936 x shapeCasts_S128x151936_S64x2x151936) slices_S64x2x151936_S64x1x151936_0_0_0) shapeCasts_S64x1x151936_S64x151936
  else
    shapeCast _ (extractStridedSlice S64x1x151936 ![0, 1, 0] (shapeCast S64x2x151936 x shapeCasts_S128x151936_S64x2x151936) slices_S64x2x151936_S64x1x151936_0_1_0) shapeCasts_S64x1x151936_S64x151936

/-- The guided scores. -/
def guided (x : (⟨S128x151936, .f32⟩ : BufTy).Contents (Elt F)) : Tab F :=
  addf (pairRow 1 x) (mulf (broadcastInDim S64x151936 ![] bcast_S_S64x151936 (constant S_ .f32 0x40000000#32)) (subf (pairRow 0 x) (pairRow 1 x)))

/-- A table constant everywhere −∞. -/
def negInf : Tab F := broadcastInDim S64x151936 ![] bcast_S_S64x151936 (constant S_ .f32 0xFF800000#32)

/-- The guided scores with the columns that are no candidates at −∞. -/
def masked (g : Tab F) : Tab F :=
  Host.scatter scatter_S64x151936_S1_S64_0_1_1_0 (fun _ b => b)
    (select (broadcastInDim S64x151936 ![0, 1] bcast_S1x151936_S64x151936_0_1 (cmpi .slt (broadcastInDim S1x151936 ![1] bcast_S151936_S1x151936_1 (iotaInDim S151936 32 0)) (broadcastInDim S1x151936 ![] bcast_S_S1x151936 (constantI S_ 32 151669#32)))) negInf g)
    (broadcastInDim S1 ![] bcast_S_S1 (constantI S_ 32 151645#32))
    (shapeCast _ (extractStridedSlice S64x1 ![0, 151645] g slices_S64x151936_S64x1_0_151645) shapeCasts_S64x1_S64)

/-- The 50th largest score of each row, in one column. -/
def fiftieth (s : Tab F) : (⟨S64x1, .f32⟩ : BufTy).Contents (Elt F) :=
  extractStridedSlice S64x1 ![0, 49] (Host.topK S64x50 1 (FloatOps.cmpfTotal .gt) s sliceFits_S64x151936_S64x50).1 slices_S64x50_S64x1_0_49

/-- Scores below the row's 50th largest set to −∞. -/
def topk (s : Tab F) : Tab F :=
  select (cmpf .olt s (broadcastInDim S64x151936 ![0, 1] bcast_S64x1_S64x151936_0_1 (fiftieth s))) negInf s

/-- The columns of each row in descending order of score. -/
def order (t : Tab F) : ITab F :=
  (Host.sort2 S64x151936 1 comparator_f32_i32_d1 (Host.negf t) (iotaInDim S64x151936 32 1)).2

/-- A table of positions made ready for reading: a negative one counted from the end, one axis added. -/
def wrapPos (o : ITab F) : (⟨S64x151936x1, .i32⟩ : BufTy).Contents (Elt F) :=
  shapeCast _ (select (cmpi .slt o (broadcastInDim S64x151936 ![] bcast_S_S64x151936 (constantI S_ 32 0#32))) (addi o (broadcastInDim S64x151936 ![] bcast_S_S64x151936 (constantI S_ 32 151936#32))) o) shapeCasts_S64x151936_S64x151936x1

/-- Whether each position lies inside the row. -/
def inRow (w : (⟨S64x151936x1, .i32⟩ : BufTy).Contents (Elt F)) : BTab F :=
  Host.reduce IntOp.andi (andi (cmpi .sge w (broadcastInDim S64x151936x1 ![] bcast_S_S64x151936x1 (constantI S_ 32 0#32))) (cmpi .sle w (broadcastInDim S64x151936x1 ![0, 1, 2] bcast_S1x1x1_S64x151936x1_0_1_2 (broadcastInDim S1x1x1 ![2] bcast_S1_S1x1x1_2 (constantI S1 32 151935#32))))) (constantI S_ 1 1#1) reducesTo_S64x151936x1_S64x151936_d2 h_S_

/-- Scores read at the given positions. -/
def readAt (t : Tab F) (o : ITab F) : Tab F :=
  select (inRow (F := F) (wrapPos (F := F) o)) (Host.gather gather_S64x151936_S64x151936x1_S64x151936_n_1_0_0_1_2_11 t (wrapPos (F := F) o)) (broadcastInDim S64x151936 ![] bcast_S_S64x151936 (constant S_ .f32 0x7FC00000#32))

/-- Mask bits read at the given positions. -/
def readBit (t : BTab F) (o : ITab F) : BTab F :=
  select (inRow (F := F) (wrapPos (F := F) o)) (Host.gather gather_S64x151936_S64x151936x1_S64x151936_n_1_0_0_1_2_11 t (wrapPos (F := F) o)) (broadcastInDim S64x151936 ![] bcast_S_S64x151936 (constantI S_ 1 1#1))

/-- A row's numbers spread over its columns. -/
def spread (v : (⟨S64, .f32⟩ : BufTy).Contents (Elt F)) : Tab F :=
  broadcastInDim S64x151936 ![0, 1] bcast_S64x1_S64x151936_0_1 (broadcastInDim S64x1 ![0] bcast_S64_S64x1_0 v)

/-- The largest score of each row. -/
def rowMax (t : Tab F) : (⟨S64, .f32⟩ : BufTy).Contents (Elt F) :=
  maximumf (broadcastInDim S64 ![] bcast_S_S64 (constant S_ .f32 0xFF800000#32)) (Host.reduce FloatOps.maximumf t (constant S_ .f32 0xFF800000#32) reducesTo_S64x151936_S64_d1 h_S_)

/-- The exponentials of a softmax. -/
def expo (t : Tab F) : Tab F := Host.exp (subf t (spread (rowMax t)))

/-- The softmax of each row. -/
def softmax (t : Tab F) : Tab F :=
  Host.divf (expo t) (spread (Host.reduceAdd (expo t) (constant S_ .f32 0x00000000#32) reducesTo_S64x151936_S64_d1 h_S_))

/-- Whether the running mass of each row has passed 0.9. -/
def over (t : Tab F) : BTab F :=
  cmpf .ogt (Host.reduceWindowAdd ![1, 151936] ![1, 1] ![0, 151935] ![0, 0] (softmax t) (broadcastInDim S_ ![] bcast_S_S_ (constant S_ .f32 0x00000000#32)) reduceWindows_S64x151936_S64x151936_w1s1p0_0_w151936s1p151935_0 h_S_) (broadcastInDim S64x151936 ![] bcast_S_S64x151936 (constant S_ .f32 0x3F666666#32))

/-- A mask moved right by one column. -/
def shifted (b : BTab F) : BTab F :=
  joinFalse (F := F) (broadcastInDim S64x1 ![] bcast_S_S64x1 (constantI S_ 1 0#1)) (extractStridedSlice S64x151935 ![0, 0] b slices_S64x151936_S64x151935_0_0)

/-- The inverse of an order of the columns. -/
def inverse (o : ITab F) : ITab F := (Host.sort2 S64x151936 1 comparator_i32_i32_d1 o (iotaInDim S64x151936 32 1)).2

/-- Removed scores set to −∞. -/
def drop (r : BTab F) (t : Tab F) : Tab F := select r negInf t

/-- Scores divided by the temperature. -/
def tempered (t : Tab F) : Tab F := Host.divf t (broadcastInDim S64x151936 ![] bcast_S_S64x151936 (constant S_ .f32 0x3F59999A#32))

/-- The column of the largest score plus noise. -/
def token (t n : Tab F) : (⟨S64, .i32⟩ : BufTy).Contents (Elt F) :=
  fun j => (Host.argReduce reducer_argmax_f32_i32 (addf t n) (iotaInDim S64x151936 32 1 : ITab F) (constant S_ .f32 0xFF800000#32) (constantI S_ 32 0#32) reducesTo_S64x151936_S64_d1 h_S_ j).2

/-- The scores after both filters and the temperature. -/
def filtered (x : (⟨S128x151936, .f32⟩ : BufTy).Contents (Elt F)) : Tab F :=
  let t := topk (masked (guided x))
  let o := order t
  tempered (drop (readBit (F := F) (shifted (F := F) (over (readAt t o))) (inverse (F := F) o)) t)

set_option maxRecDepth 8192 in
set_option maxHeartbeats 2000000 in
theorem scoreOps_main_v17 (V : Valuation τ sig (Elt F)) :
    after scoreOps V (no_index (Proc.devRef .tc main_v17)) = masked (guided (V (Proc.devRef .tc main_arg0))) := by
  simp only [scoreOps, TRef.ternary, TRef.unary, TRef.toBuf, TRef.ofBuf, cast_eq]
  after_results_simp
  try rfl

set_option maxRecDepth 8192 in
set_option maxHeartbeats 2000000 in
theorem topkOps_main_v21 (V : Valuation τ sig (Elt F)) :
    after topkOps V (no_index (Proc.devRef .tc main_v21)) = topk (V (Proc.devRef .tc main_v17)) := by
  simp only [topkOps, TRef.ternary, TRef.unary, TRef.toBuf, TRef.ofBuf, cast_eq]
  after_results_simp
  try rfl

set_option maxRecDepth 8192 in
set_option maxHeartbeats 2000000 in
theorem orderOps_main_v23 (V : Valuation τ sig (Elt F)) :
    after orderOps V (no_index (Proc.devRef .tc main_v23)) = order (V (Proc.devRef .tc main_v21)) := by
  simp only [orderOps, TRef.binary, TRef.nullary, TRef.toBuf, TRef.ofBuf, cast_eq]
  after_results_simp
  try rfl

set_option maxRecDepth 8192 in
set_option maxHeartbeats 2000000 in
theorem sortedOps_main_v24 (V : Valuation τ sig (Elt F)) :
    after sortedOps V (no_index (Proc.devRef .tc main_v24)) = readAt (V (Proc.devRef .tc main_v21)) (V (Proc.devRef .tc main_v23)) := by
  simp only [sortedOps, TRef.binary, TRef.nullary, TRef.reshape, TRef.ternary, TRef.unary, TRef.toBuf, TRef.ofBuf, cast_eq]
  after_results_simp
  try rfl

set_option maxRecDepth 8192 in
set_option maxHeartbeats 2000000 in
theorem massOps_main_v38 (V : Valuation τ sig (Elt F)) :
    after massOps V (no_index (Proc.devRef .tc main_v38)) = over (V (Proc.devRef .tc main_v24)) := by
  simp only [massOps, TRef.binary, TRef.nullary, TRef.unary, TRef.toBuf, TRef.ofBuf, cast_eq]
  after_results_simp
  try rfl

set_option maxRecDepth 8192 in
set_option maxHeartbeats 2000000 in
theorem shiftOps_main_v42 (V : Valuation τ sig (Elt F)) :
    after shiftOps V (no_index (Proc.devRef .tc main_v42)) = shifted (F := F) (V (Proc.devRef .tc main_v38)) := by
  simp only [shiftOps]
  after_results_simp
  try rfl

set_option maxRecDepth 8192 in
set_option maxHeartbeats 2000000 in
theorem inverseOps_main_v43 (V : Valuation τ sig (Elt F)) :
    after inverseOps V (no_index (Proc.devRef .tc main_v43)) = inverse (F := F) (V (Proc.devRef .tc main_v23)) := by
  simp only [inverseOps, TRef.binary, TRef.nullary, TRef.toBuf, TRef.ofBuf, cast_eq]
  after_results_simp
  try rfl

set_option maxRecDepth 8192 in
set_option maxHeartbeats 2000000 in
theorem removeOps_main_v44 (V : Valuation τ sig (Elt F)) :
    after removeOps V (no_index (Proc.devRef .tc main_v44)) = readBit (F := F) (V (Proc.devRef .tc main_v42)) (V (Proc.devRef .tc main_v43)) := by
  simp only [removeOps, TRef.binary, TRef.nullary, TRef.reshape, TRef.ternary, TRef.unary, TRef.toBuf, TRef.ofBuf, cast_eq]
  after_results_simp
  try rfl

set_option maxRecDepth 8192 in
set_option maxHeartbeats 2000000 in
theorem keepOps_main_v45 (V : Valuation τ sig (Elt F)) :
    after keepOps V (no_index (Proc.devRef .tc main_v45)) = drop (F := F) (V (Proc.devRef .tc main_v44)) (V (Proc.devRef .tc main_v21)) := by
  simp only [keepOps, TRef.ternary, TRef.unary, TRef.toBuf, TRef.ofBuf, cast_eq]
  after_results_simp
  try rfl

set_option maxRecDepth 8192 in
set_option maxHeartbeats 2000000 in
theorem keepOps_main_cst_9 (V : Valuation τ sig (Elt F)) :
    after keepOps V (no_index (Proc.devRef .tc main_cst_9)) = constant S_ .f32 0x3F59999A#32 := by
  simp only [keepOps, TRef.ternary, TRef.unary, TRef.toBuf, TRef.ofBuf, cast_eq]
  after_results_simp
  try rfl

set_option maxRecDepth 8192 in
set_option maxHeartbeats 2000000 in
theorem tempOps_main_v47 (V : Valuation τ sig (Elt F)) :
    after tempOps V (no_index (Proc.devRef .tc main_v47)) = Host.divf (V (Proc.devRef .tc main_v45)) (broadcastInDim S64x151936 ![] bcast_S_S64x151936 (V (Proc.devRef .tc main_cst_9))) := by
  simp only [tempOps]
  after_results_simp
  try rfl

set_option maxRecDepth 8192 in
set_option maxHeartbeats 2000000 in
theorem probOps_main_v58 (V : Valuation τ sig (Elt F)) :
    after probOps V (no_index (Proc.devRef .tc main_v58)) = softmax (V (Proc.devRef .tc main_v47)) := by
  simp only [probOps]
  after_results_simp
  try rfl

set_option maxRecDepth 8192 in
set_option maxHeartbeats 2000000 in
theorem tokenOps_main_v68 (V : Valuation τ sig (Elt F)) :
    after tokenOps V (no_index (Proc.devRef .tc main_v68)) = token (V (Proc.devRef .tc main_v66)) (V (Proc.devRef .tc main_v47)) := by
  simp only [tokenOps, TRef.nullary, TRef.quaternary, TRef.toBuf, TRef.ofBuf, cast_eq]
  after_results_simp
  try rfl

/-- The buffers after the first 1 stages. -/
def at1 (V : Valuation τ sig (Elt F)) : Valuation τ sig (Elt F) := after scoreOps V

theorem at1_keep (V : Valuation τ sig (Elt F)) (r : Ref sig .tc) (h : r ∉ scoreOpsOut) :
    at1 V (Proc.devRef .tc r) = V (Proc.devRef .tc r) :=
  after_of_writes_sub scoreOps _ scoreOps_writes h

/-- The buffers after the first 2 stages. -/
def at2 (V : Valuation τ sig (Elt F)) : Valuation τ sig (Elt F) := after topkOps (at1 V)

theorem at2_keep (V : Valuation τ sig (Elt F)) (r : Ref sig .tc) (h : r ∉ topkOpsOut) :
    at2 V (Proc.devRef .tc r) = (at1 V) (Proc.devRef .tc r) :=
  after_of_writes_sub topkOps _ topkOps_writes h

/-- The buffers after the first 3 stages. -/
def at3 (V : Valuation τ sig (Elt F)) : Valuation τ sig (Elt F) := after orderOps (at2 V)

theorem at3_keep (V : Valuation τ sig (Elt F)) (r : Ref sig .tc) (h : r ∉ orderOpsOut) :
    at3 V (Proc.devRef .tc r) = (at2 V) (Proc.devRef .tc r) :=
  after_of_writes_sub orderOps _ orderOps_writes h

/-- The buffers after the first 4 stages. -/
def at4 (V : Valuation τ sig (Elt F)) : Valuation τ sig (Elt F) := after sortedOps (at3 V)

theorem at4_keep (V : Valuation τ sig (Elt F)) (r : Ref sig .tc) (h : r ∉ sortedOpsOut) :
    at4 V (Proc.devRef .tc r) = (at3 V) (Proc.devRef .tc r) :=
  after_of_writes_sub sortedOps _ sortedOps_writes h

/-- The buffers after the first 5 stages. -/
def at5 (V : Valuation τ sig (Elt F)) : Valuation τ sig (Elt F) := after massOps (at4 V)

theorem at5_keep (V : Valuation τ sig (Elt F)) (r : Ref sig .tc) (h : r ∉ massOpsOut) :
    at5 V (Proc.devRef .tc r) = (at4 V) (Proc.devRef .tc r) :=
  after_of_writes_sub massOps _ massOps_writes h

/-- The buffers after the first 6 stages. -/
def at6 (V : Valuation τ sig (Elt F)) : Valuation τ sig (Elt F) := after shiftOps (at5 V)

theorem at6_keep (V : Valuation τ sig (Elt F)) (r : Ref sig .tc) (h : r ∉ shiftOpsOut) :
    at6 V (Proc.devRef .tc r) = (at5 V) (Proc.devRef .tc r) :=
  after_of_writes_sub shiftOps _ shiftOps_writes h

/-- The buffers after the first 7 stages. -/
def at7 (V : Valuation τ sig (Elt F)) : Valuation τ sig (Elt F) := after inverseOps (at6 V)

theorem at7_keep (V : Valuation τ sig (Elt F)) (r : Ref sig .tc) (h : r ∉ inverseOpsOut) :
    at7 V (Proc.devRef .tc r) = (at6 V) (Proc.devRef .tc r) :=
  after_of_writes_sub inverseOps _ inverseOps_writes h

/-- The buffers after the first 8 stages. -/
def at8 (V : Valuation τ sig (Elt F)) : Valuation τ sig (Elt F) := after removeOps (at7 V)

theorem at8_keep (V : Valuation τ sig (Elt F)) (r : Ref sig .tc) (h : r ∉ removeOpsOut) :
    at8 V (Proc.devRef .tc r) = (at7 V) (Proc.devRef .tc r) :=
  after_of_writes_sub removeOps _ removeOps_writes h

/-- The buffers after the first 9 stages. -/
def at9 (V : Valuation τ sig (Elt F)) : Valuation τ sig (Elt F) := after keepOps (at8 V)

theorem at9_keep (V : Valuation τ sig (Elt F)) (r : Ref sig .tc) (h : r ∉ keepOpsOut) :
    at9 V (Proc.devRef .tc r) = (at8 V) (Proc.devRef .tc r) :=
  after_of_writes_sub keepOps _ keepOps_writes h

/-- The buffers after the first 10 stages. -/
def at10 (V : Valuation τ sig (Elt F)) : Valuation τ sig (Elt F) := after tempOps (at9 V)

theorem at10_keep (V : Valuation τ sig (Elt F)) (r : Ref sig .tc) (h : r ∉ tempOpsOut) :
    at10 V (Proc.devRef .tc r) = (at9 V) (Proc.devRef .tc r) :=
  after_of_writes_sub tempOps _ tempOps_writes h

/-- The buffers after the first 11 stages. -/
def at11 (V : Valuation τ sig (Elt F)) : Valuation τ sig (Elt F) := after probOps (at10 V)

theorem at11_keep (V : Valuation τ sig (Elt F)) (r : Ref sig .tc) (h : r ∉ probOpsOut) :
    at11 V (Proc.devRef .tc r) = (at10 V) (Proc.devRef .tc r) :=
  after_of_writes_sub probOps _ probOps_writes h

/-- The buffers after the first 12 stages. -/
def at12 (V : Valuation τ sig (Elt F)) : Valuation τ sig (Elt F) := after drawOps (at11 V)

theorem at12_keep (V : Valuation τ sig (Elt F)) (r : Ref sig .tc) (h : r ∉ drawOpsOut) :
    at12 V (Proc.devRef .tc r) = (at11 V) (Proc.devRef .tc r) :=
  after_of_writes_sub drawOps _ drawOps_writes h

/-- The buffers after the first 13 stages. -/
def at13 (V : Valuation τ sig (Elt F)) : Valuation τ sig (Elt F) := after tokenOps (at12 V)

theorem at13_keep (V : Valuation τ sig (Elt F)) (r : Ref sig .tc) (h : r ∉ tokenOpsOut) :
    at13 V (Proc.devRef .tc r) = (at12 V) (Proc.devRef .tc r) :=
  after_of_writes_sub tokenOps _ tokenOps_writes h

theorem at1_main_arg0 (V : Valuation τ sig (Elt F)) : at1 V (Proc.devRef .tc main_arg0) = (V (Proc.devRef .tc main_arg0)) :=
  (at1_keep V main_arg0 (by decide)).trans rfl

theorem at1_main_v17 (V : Valuation τ sig (Elt F)) : at1 V (Proc.devRef .tc main_v17) = (masked (guided (V (Proc.devRef .tc main_arg0)))) := by
  rw [at1, scoreOps_main_v17]

theorem at2_main_arg0 (V : Valuation τ sig (Elt F)) : at2 V (Proc.devRef .tc main_arg0) = (V (Proc.devRef .tc main_arg0)) :=
  (at2_keep V main_arg0 (by decide)).trans (at1_main_arg0 V)

theorem at2_main_v21 (V : Valuation τ sig (Elt F)) : at2 V (Proc.devRef .tc main_v21) = (topk (masked (guided (V (Proc.devRef .tc main_arg0))))) := by
  rw [at2, topkOps_main_v21, at1_main_v17]

theorem at3_main_arg0 (V : Valuation τ sig (Elt F)) : at3 V (Proc.devRef .tc main_arg0) = (V (Proc.devRef .tc main_arg0)) :=
  (at3_keep V main_arg0 (by decide)).trans (at2_main_arg0 V)

theorem at3_main_v23 (V : Valuation τ sig (Elt F)) : at3 V (Proc.devRef .tc main_v23) = (order (topk (masked (guided (V (Proc.devRef .tc main_arg0)))))) := by
  rw [at3, orderOps_main_v23, at2_main_v21]

theorem at3_main_v21 (V : Valuation τ sig (Elt F)) : at3 V (Proc.devRef .tc main_v21) = (topk (masked (guided (V (Proc.devRef .tc main_arg0))))) :=
  (at3_keep V main_v21 (by decide)).trans (at2_main_v21 V)

theorem at4_main_arg0 (V : Valuation τ sig (Elt F)) : at4 V (Proc.devRef .tc main_arg0) = (V (Proc.devRef .tc main_arg0)) :=
  (at4_keep V main_arg0 (by decide)).trans (at3_main_arg0 V)

theorem at4_main_v24 (V : Valuation τ sig (Elt F)) : at4 V (Proc.devRef .tc main_v24) = (readAt (topk (masked (guided (V (Proc.devRef .tc main_arg0))))) (order (topk (masked (guided (V (Proc.devRef .tc main_arg0))))))) := by
  rw [at4, sortedOps_main_v24, at3_main_v21, at3_main_v23]

theorem at4_main_v21 (V : Valuation τ sig (Elt F)) : at4 V (Proc.devRef .tc main_v21) = (topk (masked (guided (V (Proc.devRef .tc main_arg0))))) :=
  (at4_keep V main_v21 (by decide)).trans (at3_main_v21 V)

theorem at4_main_v23 (V : Valuation τ sig (Elt F)) : at4 V (Proc.devRef .tc main_v23) = (order (topk (masked (guided (V (Proc.devRef .tc main_arg0)))))) :=
  (at4_keep V main_v23 (by decide)).trans (at3_main_v23 V)

theorem at5_main_arg0 (V : Valuation τ sig (Elt F)) : at5 V (Proc.devRef .tc main_arg0) = (V (Proc.devRef .tc main_arg0)) :=
  (at5_keep V main_arg0 (by decide)).trans (at4_main_arg0 V)

theorem at5_main_v38 (V : Valuation τ sig (Elt F)) : at5 V (Proc.devRef .tc main_v38) = (over (readAt (topk (masked (guided (V (Proc.devRef .tc main_arg0))))) (order (topk (masked (guided (V (Proc.devRef .tc main_arg0)))))))) := by
  rw [at5, massOps_main_v38, at4_main_v24]

theorem at5_main_v21 (V : Valuation τ sig (Elt F)) : at5 V (Proc.devRef .tc main_v21) = (topk (masked (guided (V (Proc.devRef .tc main_arg0))))) :=
  (at5_keep V main_v21 (by decide)).trans (at4_main_v21 V)

theorem at5_main_v23 (V : Valuation τ sig (Elt F)) : at5 V (Proc.devRef .tc main_v23) = (order (topk (masked (guided (V (Proc.devRef .tc main_arg0)))))) :=
  (at5_keep V main_v23 (by decide)).trans (at4_main_v23 V)

theorem at6_main_arg0 (V : Valuation τ sig (Elt F)) : at6 V (Proc.devRef .tc main_arg0) = (V (Proc.devRef .tc main_arg0)) :=
  (at6_keep V main_arg0 (by decide)).trans (at5_main_arg0 V)

theorem at6_main_v42 (V : Valuation τ sig (Elt F)) : at6 V (Proc.devRef .tc main_v42) = (shifted (F := F) (over (readAt (topk (masked (guided (V (Proc.devRef .tc main_arg0))))) (order (topk (masked (guided (V (Proc.devRef .tc main_arg0))))))))) := by
  rw [at6, shiftOps_main_v42, at5_main_v38]

theorem at6_main_v21 (V : Valuation τ sig (Elt F)) : at6 V (Proc.devRef .tc main_v21) = (topk (masked (guided (V (Proc.devRef .tc main_arg0))))) :=
  (at6_keep V main_v21 (by decide)).trans (at5_main_v21 V)

theorem at6_main_v23 (V : Valuation τ sig (Elt F)) : at6 V (Proc.devRef .tc main_v23) = (order (topk (masked (guided (V (Proc.devRef .tc main_arg0)))))) :=
  (at6_keep V main_v23 (by decide)).trans (at5_main_v23 V)

theorem at7_main_arg0 (V : Valuation τ sig (Elt F)) : at7 V (Proc.devRef .tc main_arg0) = (V (Proc.devRef .tc main_arg0)) :=
  (at7_keep V main_arg0 (by decide)).trans (at6_main_arg0 V)

theorem at7_main_v43 (V : Valuation τ sig (Elt F)) : at7 V (Proc.devRef .tc main_v43) = (inverse (F := F) (order (topk (masked (guided (V (Proc.devRef .tc main_arg0))))))) := by
  rw [at7, inverseOps_main_v43, at6_main_v23]

theorem at7_main_v21 (V : Valuation τ sig (Elt F)) : at7 V (Proc.devRef .tc main_v21) = (topk (masked (guided (V (Proc.devRef .tc main_arg0))))) :=
  (at7_keep V main_v21 (by decide)).trans (at6_main_v21 V)

theorem at7_main_v42 (V : Valuation τ sig (Elt F)) : at7 V (Proc.devRef .tc main_v42) = (shifted (F := F) (over (readAt (topk (masked (guided (V (Proc.devRef .tc main_arg0))))) (order (topk (masked (guided (V (Proc.devRef .tc main_arg0))))))))) :=
  (at7_keep V main_v42 (by decide)).trans (at6_main_v42 V)

theorem at8_main_arg0 (V : Valuation τ sig (Elt F)) : at8 V (Proc.devRef .tc main_arg0) = (V (Proc.devRef .tc main_arg0)) :=
  (at8_keep V main_arg0 (by decide)).trans (at7_main_arg0 V)

theorem at8_main_v44 (V : Valuation τ sig (Elt F)) : at8 V (Proc.devRef .tc main_v44) = (readBit (F := F) (shifted (F := F) (over (readAt (topk (masked (guided (V (Proc.devRef .tc main_arg0))))) (order (topk (masked (guided (V (Proc.devRef .tc main_arg0))))))))) (inverse (F := F) (order (topk (masked (guided (V (Proc.devRef .tc main_arg0)))))))) := by
  rw [at8, removeOps_main_v44, at7_main_v42, at7_main_v43]

theorem at8_main_v21 (V : Valuation τ sig (Elt F)) : at8 V (Proc.devRef .tc main_v21) = (topk (masked (guided (V (Proc.devRef .tc main_arg0))))) :=
  (at8_keep V main_v21 (by decide)).trans (at7_main_v21 V)

theorem at9_main_arg0 (V : Valuation τ sig (Elt F)) : at9 V (Proc.devRef .tc main_arg0) = (V (Proc.devRef .tc main_arg0)) :=
  (at9_keep V main_arg0 (by decide)).trans (at8_main_arg0 V)

theorem at9_main_v45 (V : Valuation τ sig (Elt F)) : at9 V (Proc.devRef .tc main_v45) = (drop (F := F) (readBit (F := F) (shifted (F := F) (over (readAt (topk (masked (guided (V (Proc.devRef .tc main_arg0))))) (order (topk (masked (guided (V (Proc.devRef .tc main_arg0))))))))) (inverse (F := F) (order (topk (masked (guided (V (Proc.devRef .tc main_arg0)))))))) (topk (masked (guided (V (Proc.devRef .tc main_arg0)))))) := by
  rw [at9, keepOps_main_v45, at8_main_v44, at8_main_v21]

theorem at9_main_cst_9 (V : Valuation τ sig (Elt F)) : at9 V (Proc.devRef .tc main_cst_9) = constant S_ .f32 0x3F59999A#32 := by
  rw [at9, keepOps_main_cst_9]

theorem at10_main_arg0 (V : Valuation τ sig (Elt F)) : at10 V (Proc.devRef .tc main_arg0) = (V (Proc.devRef .tc main_arg0)) :=
  (at10_keep V main_arg0 (by decide)).trans (at9_main_arg0 V)

theorem at10_main_v47 (V : Valuation τ sig (Elt F)) : at10 V (Proc.devRef .tc main_v47) = (filtered (V (Proc.devRef .tc main_arg0))) := by
  rw [at10, tempOps_main_v47, at9_main_v45, at9_main_cst_9]
  rfl

theorem at11_main_arg0 (V : Valuation τ sig (Elt F)) : at11 V (Proc.devRef .tc main_arg0) = (V (Proc.devRef .tc main_arg0)) :=
  (at11_keep V main_arg0 (by decide)).trans (at10_main_arg0 V)

theorem at11_main_v58 (V : Valuation τ sig (Elt F)) : at11 V (Proc.devRef .tc main_v58) = (softmax (filtered (V (Proc.devRef .tc main_arg0)))) := by
  rw [at11, probOps_main_v58, at10_main_v47]

theorem at11_main_v47 (V : Valuation τ sig (Elt F)) : at11 V (Proc.devRef .tc main_v47) = (filtered (V (Proc.devRef .tc main_arg0))) :=
  (at11_keep V main_v47 (by decide)).trans (at10_main_v47 V)

theorem at12_main_arg0 (V : Valuation τ sig (Elt F)) : at12 V (Proc.devRef .tc main_arg0) = (V (Proc.devRef .tc main_arg0)) :=
  (at12_keep V main_arg0 (by decide)).trans (at11_main_arg0 V)

theorem at12_main_v66 (V : Valuation τ sig (Elt F)) : at12 V (Proc.devRef .tc main_v66) = Noise.table (F := F) := by
  rw [at12, drawOps_main_v66]

theorem at12_main_v58 (V : Valuation τ sig (Elt F)) : at12 V (Proc.devRef .tc main_v58) = (softmax (filtered (V (Proc.devRef .tc main_arg0)))) :=
  (at12_keep V main_v58 (by decide)).trans (at11_main_v58 V)

theorem at12_main_v47 (V : Valuation τ sig (Elt F)) : at12 V (Proc.devRef .tc main_v47) = (filtered (V (Proc.devRef .tc main_arg0))) :=
  (at12_keep V main_v47 (by decide)).trans (at11_main_v47 V)

theorem at13_main_arg0 (V : Valuation τ sig (Elt F)) : at13 V (Proc.devRef .tc main_arg0) = (V (Proc.devRef .tc main_arg0)) :=
  (at13_keep V main_arg0 (by decide)).trans (at12_main_arg0 V)

theorem at13_main_v68 (V : Valuation τ sig (Elt F)) : at13 V (Proc.devRef .tc main_v68) = (token (Noise.table (F := F)) (filtered (V (Proc.devRef .tc main_arg0)))) := by
  rw [at13, tokenOps_main_v68, at12_main_v66, at12_main_v47]

theorem at13_main_v58 (V : Valuation τ sig (Elt F)) : at13 V (Proc.devRef .tc main_v58) = (softmax (filtered (V (Proc.devRef .tc main_arg0)))) :=
  (at13_keep V main_v58 (by decide)).trans (at12_main_v58 V)

theorem after_all (V : Valuation τ sig (Elt F)) : after allOps V = at13 V := by
  simp only [allOps, opsHead, opsTail, after_append]
  rfl

set_option maxRecDepth 8192 in
/-- On every device, for any float values, from any memory with zero counters: every weakly fair execution terminates
    with the two results at the filtered softmax and the sampled token, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = softmax (filtered (m ((c.tc : Thread nD τ).loc main_arg0)))
      ∧ r.2.mem ((c.tc : Thread nD τ).loc main_v68) = token (Noise.table (F := F)) (filtered (m ((c.tc : Thread nD τ).loc main_arg0)))
      ∧ r.2.mem ((c.tc : Thread nD τ).loc main_arg0) = m ((c.tc : Thread nD τ).loc main_arg0) :=
  (θ_run defs _ _).mono (fun _ h c => ⟨(h c main_v58).trans ((congrFun (after_all (launchContents m c)) (Proc.devRef .tc main_v58)).trans (at13_main_v58 (launchContents m c))),
      (h c main_v68).trans ((congrFun (after_all (launchContents m c)) (Proc.devRef .tc main_v68)).trans (at13_main_v68 (launchContents m c))),
      (h c main_arg0).trans ((congrFun (after_all (launchContents m c)) (Proc.devRef .tc main_arg0)).trans (at13_main_arg0 (launchContents m c)))⟩)
    (run_seq no_scoped_refs no_scoped_sems defs main (fun _ => allOps) whole_eq (fun _ => allOps_bufs) m ρ fun _ => allOps_fresh)

end Cert.RefRun

end
-- ==== Proof.BlockOps.lean ====
/- The kernel's block as a composition of its stages: the guided scores of the last 384 columns, the rank of each
   score in its row, the two bitwise searches for a threshold, the softmax of what is kept and the sampled column. -/
module

public import proofs.«01_k».proof.Proof.Gen.KernelIdeal.Frame

@[expose] public section

set_option maxRecDepth 16384

noncomputable section

namespace Cert.BlockOps

open Cert.KernelIdeal Cert.KernelIdeal.Gen Idealize.ShloMosaic Idealize.ShloMosaic.TcCoe

variable {F : FTy → Type} [FloatOps F]

/-- The 32 one-bit words, highest first. -/
def words : List (BitVec 32) := [2147483648#32, 1073741824#32, 536870912#32, 268435456#32, 134217728#32, 67108864#32, 33554432#32, 16777216#32, 8388608#32, 4194304#32, 2097152#32, 1048576#32, 524288#32, 262144#32, 131072#32, 65536#32, 32768#32, 16384#32, 8192#32, 4096#32, 2048#32, 1024#32, 512#32, 256#32, 128#32, 64#32, 32#32, 16#32, 8#32, 4#32, 2#32, 1#32]

/-- The guided scores of the block's columns, −∞ on the columns that are no candidates. -/
def scores (x0 x1 : Vec F S64x384 .f32) : FVec F S64x384 .f32 := k0_pay5 x0 x1

/-- How many scores of the row are no larger. -/
def rank (v : FVec F S64x384 .f32) : IVec S64x384 32 :=
  multiReductionI .add [1] S64x384
    (extui 32 (cmpf .ole (broadcastTo S64x384x384 (shapeCast S64x384x1 v shapeCasts_S64x384_S64x384x1) broadcasts_S64x384x1_S64x384x384)
      (broadcastTo S64x384x384 (shapeCast S64x1x384 v shapeCasts_S64x384_S64x1x384) broadcasts_S64x1x384_S64x384x384)) natLt_1_32)
    0#32 reduces_S64x384x384_S64x384 rfl

/-- How many keys of the row are at least the threshold. -/
def countAt (key : IVec S64x384 32) (u : IVec S64x1 32) : IVec S64x1 32 :=
  shapeCast S64x1 (multiReductionI .add [1] S64 (extui 32 (cmpi .uge key (broadcastTo S64x384 u broadcasts_S64x1_S64x384)) natLt_1_32) 0#32 reduces_S64x384_S64 rfl) shapeCasts_S64_S64x1

/-- The tried threshold if fifty keys reach it, else the old one. -/
def pickCount (key : IVec S64x384 32) (u t : IVec S64x1 32) : IVec S64x1 32 :=
  select (cmpi .sge (countAt key u) (broadcast S64x1 50#32)) u t

/-- One step of the first search. -/
def stepCount (key : IVec S64x384 32) (t : IVec S64x1 32) (w : BitVec 32) : IVec S64x1 32 :=
  pickCount key (ori t (broadcast S64x1 w)) t

/-- The first search after the words `ws`. -/
def countFrom (key : IVec S64x384 32) (ws : List (BitVec 32)) : IVec S64x1 32 :=
  ws.foldl (stepCount key) (broadcast S64x1 0#32)

/-- Which keys reach the first threshold. -/
def reach (key : IVec S64x384 32) : IVec S64x384 1 :=
  cmpi .uge key (broadcastTo S64x384 (countFrom key words) broadcasts_S64x1_S64x384)

/-- The largest score of each row. -/
def top (v : FVec F S64x384 .f32) : FVec F S64x1 .f32 :=
  shapeCast S64x1 (multiReduction .maximumf [1] S64 v 0xFF800000#32 reduces_S64x384_S64 (.inl rfl) rfl) shapeCasts_S64_S64x1

/-- A row's total, in one column. -/
def rowSum (q : FVec F S64x384 .f32) : FVec F S64x1 .f32 :=
  shapeCast S64x1 (multiReduction .add [1] S64 q 0x00000000#32 reduces_S64x384_S64 (.inl rfl) rfl) shapeCasts_S64_S64x1

/-- A table of zeros. -/
def zeros : FVec F S64x384 .f32 := broadcast S64x384 (Scalar.ofBits .f32 0x00000000#32)

/-- The unnormalised mass of the columns that pass the first threshold. -/
def mass (v : FVec F S64x384 .f32) (key : IVec S64x384 32) : FVec F S64x384 .f32 :=
  select (reach key) (exp (subf v (broadcastTo S64x384 (top v) broadcasts_S64x1_S64x384))) zeros

/-- 0.9 of a row's mass. -/
def limit (q : FVec F S64x384 .f32) : FVec F S64x1 .f32 :=
  mulf (broadcast S64x1 (Scalar.ofBits .f32 0x3F666666#32)) (rowSum q)

/-- The tried threshold if the mass above it exceeds the limit, else the old one. -/
def pickMass (key : IVec S64x384 32) (q : FVec F S64x384 .f32) (l : FVec F S64x1 .f32) (u t : IVec S64x1 32) : IVec S64x1 32 :=
  select (cmpf .ogt (rowSum (select (cmpi .ugt key (broadcastTo S64x384 u broadcasts_S64x1_S64x384)) q zeros)) l) u t

/-- One step of the second search. -/
def stepMass (key : IVec S64x384 32) (q : FVec F S64x384 .f32) (l : FVec F S64x1 .f32) (t : IVec S64x1 32) (w : BitVec 32) : IVec S64x1 32 :=
  pickMass key q l (ori t (broadcast S64x1 w)) t

/-- The second search after the words `ws`. -/
def massFrom (key : IVec S64x384 32) (q : FVec F S64x384 .f32) (l : FVec F S64x1 .f32) (ws : List (BitVec 32)) : IVec S64x1 32 :=
  ws.foldl (stepMass key q l) (broadcast S64x1 0#32)

/-- The columns kept by both thresholds. -/
def keptBits (key : IVec S64x384 32) (q : FVec F S64x384 .f32) (l : FVec F S64x1 .f32) : IVec S64x384 1 :=
  andi (reach key) (cmpi .ugt key (broadcastTo S64x384 (massFrom key q l words) broadcasts_S64x1_S64x384))

/-- The columns of the block kept by both thresholds, from the scores. -/
def kept (v : FVec F S64x384 .f32) : IVec S64x384 1 :=
  keptBits (rank v) (mass v (rank v)) (limit (mass v (rank v)))

/-- The block's probabilities. -/
def probs (v : FVec F S64x384 .f32) : FVec F S64x384 .f32 := k0_pay2 (kept v) (k0_pay51 v (top v))

/-- The block's sampled column, along 128 lanes. -/
def tokens (v g : FVec F S64x384 .f32) : IVec S64x128 32 :=
  k0_pay3 g (iota .tc S64x384 32 [1] iota_S64x384_d1_w32) (kept v) (k0_pay50 v)

variable (key : IVec S64x384 32) (q : FVec F S64x384 .f32) (l : FVec F S64x1 .f32) (t u : IVec S64x1 32)

/-! Each stretch of a search is its steps in order. -/

theorem part10 : k0_pay10 key t u (countAt key u) = (stepCount key (stepCount key (stepCount key (stepCount key (pickCount key u t) 536870912#32) 268435456#32) 134217728#32) 67108864#32) := rfl

theorem part13 : k0_pay13 key t u (broadcastTo S64x384 u broadcasts_S64x1_S64x384) = (stepCount key (stepCount key (stepCount key (pickCount key u t) 16777216#32) 8388608#32) 4194304#32) := rfl

theorem part16 : k0_pay16 key t u (cmpi .sge (countAt key u) (broadcast S64x1 50#32)) = (stepCount key (stepCount key (stepCount key (stepCount key (pickCount key u t) 1048576#32) 524288#32) 262144#32) 131072#32) := rfl

theorem part19 : k0_pay19 key t u (extui 32 (cmpi .uge key (broadcastTo S64x384 u broadcasts_S64x1_S64x384)) natLt_1_32) = (stepCount key (stepCount key (stepCount key (stepCount key (pickCount key u t) 32768#32) 16384#32) 8192#32) 4096#32) := rfl

theorem part21 : k0_pay21 key t (broadcast S64x1 2048#32) = (stepCount key (stepCount key (stepCount key (stepCount key t 2048#32) 1024#32) 512#32) 256#32) := rfl

theorem part24 : k0_pay24 key t u (countAt key u) 50#32 = (stepCount key (stepCount key (stepCount key (stepCount key (pickCount key u t) 64#32) 32#32) 16#32) 8#32) := rfl

theorem part27 : k0_pay27 key t u (cmpi .uge key (broadcastTo S64x384 u broadcasts_S64x1_S64x384)) = cmpi .uge key (broadcastTo S64x384 (stepCount key (stepCount key (pickCount key u t) 2#32) 1#32) broadcasts_S64x1_S64x384) := rfl

theorem part35 : k0_pay35 key q l t u (cmpi .ugt key (broadcastTo S64x384 u broadcasts_S64x1_S64x384)) zeros = (stepMass key q l (stepMass key q l (stepMass key q l (stepMass key q l (pickMass key q l u t) 1073741824#32) 536870912#32) 268435456#32) 134217728#32) := rfl

theorem part37 : k0_pay37 key q l t (broadcast S64x1 67108864#32) = (stepMass key q l (stepMass key q l (stepMass key q l (stepMass key q l t 67108864#32) 33554432#32) 16777216#32) 8388608#32) := rfl

theorem part40 : k0_pay40 key q l t u (multiReduction .add [1] S64 (select (cmpi .ugt key (broadcastTo S64x384 u broadcasts_S64x1_S64x384)) q zeros) 0x00000000#32 reduces_S64x384_S64 (.inl rfl) rfl) = (stepMass key q l (stepMass key q l (stepMass key q l (stepMass key q l (pickMass key q l u t) 2097152#32) 1048576#32) 524288#32) 262144#32) := rfl

theorem part43 : k0_pay43 key q l t u (cmpi .ugt key (broadcastTo S64x384 u broadcasts_S64x1_S64x384)) = (stepMass key q l (stepMass key q l (stepMass key q l (stepMass key q l (pickMass key q l u t) 65536#32) 32768#32) 16384#32) 8192#32) := rfl

theorem part44 : k0_pay44 key q l t = (stepMass key q l (stepMass key q l (stepMass key q l (stepMass key q l t 4096#32) 2048#32) 1024#32) 512#32) := rfl

theorem part47 : k0_pay47 key q l t u (select (cmpi .ugt key (broadcastTo S64x384 u broadcasts_S64x1_S64x384)) q zeros) = (stepMass key q l (stepMass key q l (stepMass key q l (stepMass key q l (pickMass key q l u t) 128#32) 64#32) 32#32) 16#32) := rfl

theorem part49 (k : IVec S64x384 1) : k0_pay49 key k q l t u = andi k (cmpi .ugt key (broadcastTo S64x384 (stepMass key q l (stepMass key q l (stepMass key q l (pickMass key q l u t) 4#32) 2#32) 1#32) broadcasts_S64x1_S64x384)) := rfl

end Cert.BlockOps
-- ==== Proof.BlockRun.lean ====
/- What the kernel's body stores, as the stages of its block (BlockOps): each value the body carries from one stretch
   of a search to the next is the search so far. -/
module

public import proofs.«01_k».proof.Proof.BlockOps
public import Idealize.ShloMosaic.Lib.Pipeline.Value

@[expose] public section

set_option maxRecDepth 16384

noncomputable section

namespace Cert.BlockOps

open Cert.KernelIdeal Cert.KernelIdeal.Gen Idealize.ShloMosaic Idealize.ShloMosaic.TcCoe

variable {F : FTy → Type} [FloatOps F]

theorem origin : (![0, 0] : Fin 2 → Nat) = fun _ => 0 := funext fun a => by fin_cases a <;> rfl

/-- A load of a whole staging buffer reads what it holds. -/
theorem load_whole (a : Memref sig .tc .vmem S64x384 .f32) (h : a.IsWhole) (x : Vec F S64x384 .f32) :
    View.readAt (Elt F) a.view (Rect.unit ![0, 0] S64x384.size inb_S64x384_S64x384_0_0).toLoadRect (h.unread x) = x := by
  rw [View.readAt_eq_ld, h.read_unread, View.ld_unit_zero (S := S64x384) origin]

variable (c : Dev nD) (a1 : Memref sig .tc .vmem S64x384 .f32) (h1 : a1.IsWhole) (a2 : Memref sig .tc .vmem S64x384 .f32)
  (h2 : a2.IsWhole) (x0 x1 : Vec F S64x384 .f32)

/-! The searches at the points where the body carries them from one stretch to the next. -/

/-- The first search after 1 words. -/
def T1 (key : IVec S64x384 32) : IVec S64x1 32 := (stepCount key (broadcast S64x1 0#32) 2147483648#32)

/-- The first search after 6 words. -/
def T6 (key : IVec S64x384 32) : IVec S64x1 32 := (stepCount key (stepCount key (stepCount key (stepCount key (stepCount key (T1 key) 1073741824#32) 536870912#32) 268435456#32) 134217728#32) 67108864#32)

/-- The first search after 10 words. -/
def T10 (key : IVec S64x384 32) : IVec S64x1 32 := (stepCount key (stepCount key (stepCount key (stepCount key (T6 key) 33554432#32) 16777216#32) 8388608#32) 4194304#32)

/-- The first search after 15 words. -/
def T15 (key : IVec S64x384 32) : IVec S64x1 32 := (stepCount key (stepCount key (stepCount key (stepCount key (stepCount key (T10 key) 2097152#32) 1048576#32) 524288#32) 262144#32) 131072#32)

/-- The first search after 20 words. -/
def T20 (key : IVec S64x384 32) : IVec S64x1 32 := (stepCount key (stepCount key (stepCount key (stepCount key (stepCount key (T15 key) 65536#32) 32768#32) 16384#32) 8192#32) 4096#32)

/-- The first search after 24 words. -/
def T24 (key : IVec S64x384 32) : IVec S64x1 32 := (stepCount key (stepCount key (stepCount key (stepCount key (T20 key) 2048#32) 1024#32) 512#32) 256#32)

/-- The first search after 29 words. -/
def T29 (key : IVec S64x384 32) : IVec S64x1 32 := (stepCount key (stepCount key (stepCount key (stepCount key (stepCount key (T24 key) 128#32) 64#32) 32#32) 16#32) 8#32)

/-- The first search after 32 words. -/
def T32 (key : IVec S64x384 32) : IVec S64x1 32 := (stepCount key (stepCount key (stepCount key (T29 key) 4#32) 2#32) 1#32)

/-- The second search after 5 words. -/
def M5 (key : IVec S64x384 32) (q : FVec F S64x384 .f32) (l : FVec F S64x1 .f32) : IVec S64x1 32 := (stepMass key q l (stepMass key q l (stepMass key q l (stepMass key q l (stepMass key q l (broadcast S64x1 0#32) 2147483648#32) 1073741824#32) 536870912#32) 268435456#32) 134217728#32)

/-- The second search after 9 words. -/
def M9 (key : IVec S64x384 32) (q : FVec F S64x384 .f32) (l : FVec F S64x1 .f32) : IVec S64x1 32 := (stepMass key q l (stepMass key q l (stepMass key q l (stepMass key q l (M5 key q l) 67108864#32) 33554432#32) 16777216#32) 8388608#32)

/-- The second search after 14 words. -/
def M14 (key : IVec S64x384 32) (q : FVec F S64x384 .f32) (l : FVec F S64x1 .f32) : IVec S64x1 32 := (stepMass key q l (stepMass key q l (stepMass key q l (stepMass key q l (stepMass key q l (M9 key q l) 4194304#32) 2097152#32) 1048576#32) 524288#32) 262144#32)

/-- The second search after 19 words. -/
def M19 (key : IVec S64x384 32) (q : FVec F S64x384 .f32) (l : FVec F S64x1 .f32) : IVec S64x1 32 := (stepMass key q l (stepMass key q l (stepMass key q l (stepMass key q l (stepMass key q l (M14 key q l) 131072#32) 65536#32) 32768#32) 16384#32) 8192#32)

/-- The second search after 23 words. -/
def M23 (key : IVec S64x384 32) (q : FVec F S64x384 .f32) (l : FVec F S64x1 .f32) : IVec S64x1 32 := (stepMass key q l (stepMass key q l (stepMass key q l (stepMass key q l (M19 key q l) 4096#32) 2048#32) 1024#32) 512#32)

/-- The second search after 28 words. -/
def M28 (key : IVec S64x384 32) (q : FVec F S64x384 .f32) (l : FVec F S64x1 .f32) : IVec S64x1 32 := (stepMass key q l (stepMass key q l (stepMass key q l (stepMass key q l (stepMass key q l (M23 key q l) 256#32) 128#32) 64#32) 32#32) 16#32)

/-- The second search after 32 words. -/
def M32 (key : IVec S64x384 32) (q : FVec F S64x384 .f32) (l : FVec F S64x1 .f32) : IVec S64x1 32 := (stepMass key q l (stepMass key q l (stepMass key q l (stepMass key q l (M28 key q l) 8#32) 4#32) 2#32) 1#32)

theorem search_count (key : IVec S64x384 32) : countFrom key words = T32 key := by
  simp only [countFrom, words, List.foldl_cons, List.foldl_nil, T32, T29, T24, T20, T15, T10, T6, T1]

theorem search_mass (key : IVec S64x384 32) (q : FVec F S64x384 .f32) (l : FVec F S64x1 .f32) : massFrom key q l words = M32 key q l := by
  simp only [massFrom, words, List.foldl_cons, List.foldl_nil, M32, M28, M23, M19, M14, M9, M5]

theorem keep27 (key : IVec S64x384 32) : k0_pay27 key (T29 key) (ori (T29 key) (broadcast S64x1 4#32)) (cmpi .uge key (broadcastTo S64x384 (ori (T29 key) (broadcast S64x1 4#32)) broadcasts_S64x1_S64x384)) = reach key := by
  rw [part27, reach, search_count]
  rfl

/-- The row masses. -/
abbrev Q (x0 x1 : Vec F S64x384 .f32) : FVec F S64x384 .f32 := mass (scores x0 x1) (rank (scores x0 x1))

theorem val1 : kernelRun0_A.sl.r_1 c a1 h1 a2 h2 x0 x1 = scores x0 x1 := by
  unfold kernelRun0_A.sl.r_1
  rw [load_whole, load_whole]
  exact rfl

theorem val2 : kernelRun0_A.sl.r_2 c a1 h1 a2 h2 x0 x1 = rank (scores x0 x1) := by
  unfold kernelRun0_A.sl.r_2
  rw [load_whole, load_whole]
  exact rfl

theorem val3 : kernelRun0_A.sl.r_3 c a1 h1 a2 h2 x0 x1 = T1 (rank (scores x0 x1)) := by
  unfold kernelRun0_A.sl.r_3
  rw [load_whole, load_whole]
  exact rfl

theorem val4 : kernelRun0_A.sl.r_4 c a1 h1 a2 h2 x0 x1 = ori (T1 (rank (scores x0 x1))) (broadcast S64x1 1073741824#32) := by
  unfold kernelRun0_A.sl.r_4
  rw [load_whole, load_whole]
  exact rfl

theorem val5 : kernelRun0_A.sl.r_5 c a1 h1 a2 h2 x0 x1 = countAt (rank (scores x0 x1)) (ori (T1 (rank (scores x0 x1))) (broadcast S64x1 1073741824#32)) := by
  unfold kernelRun0_A.sl.r_5
  rw [load_whole, load_whole]
  exact rfl

theorem val6 : kernelRun0_A.sl.r_6 c a1 h1 a2 h2 x0 x1 = T6 (rank (scores x0 x1)) := by
  unfold kernelRun0_A.sl.r_6
  rw [val2, val3, val4, val5]
  exact part10 _ _ _

theorem val7 : kernelRun0_A.sl.r_7 c a1 h1 a2 h2 x0 x1 = ori (T6 (rank (scores x0 x1))) (broadcast S64x1 33554432#32) := by
  unfold kernelRun0_A.sl.r_7
  rw [val2, val3, val4, val5]
  exact congrArg (fun t => ori t (broadcast S64x1 33554432#32)) (part10 _ _ _)

theorem val8 : kernelRun0_A.sl.r_8 c a1 h1 a2 h2 x0 x1 = broadcastTo S64x384 (ori (T6 (rank (scores x0 x1))) (broadcast S64x1 33554432#32)) broadcasts_S64x1_S64x384 := by
  unfold kernelRun0_A.sl.r_8
  rw [val2, val3, val4, val5]
  exact congrArg (fun t => broadcastTo S64x384 (ori t (broadcast S64x1 33554432#32)) broadcasts_S64x1_S64x384) (part10 _ _ _)

theorem val9 : kernelRun0_A.sl.r_9 c a1 h1 a2 h2 x0 x1 = T10 (rank (scores x0 x1)) := by
  unfold kernelRun0_A.sl.r_9
  rw [val2, val6, val7, val8]
  exact part13 _ _ _

theorem val10 : kernelRun0_A.sl.r_10 c a1 h1 a2 h2 x0 x1 = ori (T10 (rank (scores x0 x1))) (broadcast S64x1 2097152#32) := by
  unfold kernelRun0_A.sl.r_10
  rw [val2, val6, val7, val8]
  exact congrArg (fun t => ori t (broadcast S64x1 2097152#32)) (part13 _ _ _)

theorem val11 : kernelRun0_A.sl.r_11 c a1 h1 a2 h2 x0 x1 = cmpi .sge (countAt (rank (scores x0 x1)) (ori (T10 (rank (scores x0 x1))) (broadcast S64x1 2097152#32))) (broadcast S64x1 50#32) := by
  unfold kernelRun0_A.sl.r_11
  rw [val2, val6, val7, val8]
  exact congrArg (fun t => cmpi .sge (countAt _ (ori t (broadcast S64x1 2097152#32))) (broadcast S64x1 50#32)) (part13 _ _ _)

theorem val12 : kernelRun0_A.sl.r_12 c a1 h1 a2 h2 x0 x1 = T15 (rank (scores x0 x1)) := by
  unfold kernelRun0_A.sl.r_12
  rw [val2, val9, val10, val11]
  exact part16 _ _ _

theorem val13 : kernelRun0_A.sl.r_13 c a1 h1 a2 h2 x0 x1 = ori (T15 (rank (scores x0 x1))) (broadcast S64x1 65536#32) := by
  unfold kernelRun0_A.sl.r_13
  rw [val2, val9, val10, val11]
  exact congrArg (fun t => ori t (broadcast S64x1 65536#32)) (part16 _ _ _)

theorem val14 : kernelRun0_A.sl.r_14 c a1 h1 a2 h2 x0 x1 = extui 32 (cmpi .uge (rank (scores x0 x1)) (broadcastTo S64x384 (ori (T15 (rank (scores x0 x1))) (broadcast S64x1 65536#32)) broadcasts_S64x1_S64x384)) natLt_1_32 := by
  unfold kernelRun0_A.sl.r_14
  rw [val2, val9, val10, val11]
  exact congrArg (fun t => extui 32 (cmpi .uge _ (broadcastTo S64x384 (ori t (broadcast S64x1 65536#32)) broadcasts_S64x1_S64x384)) natLt_1_32) (part16 _ _ _)

theorem val15 : kernelRun0_A.sl.r_15 c a1 h1 a2 h2 x0 x1 = T20 (rank (scores x0 x1)) := by
  unfold kernelRun0_A.sl.r_15
  rw [val2, val12, val13, val14]
  exact part19 _ _ _

theorem val16 : kernelRun0_A.sl.r_16 c a1 h1 a2 h2 x0 x1 = T24 (rank (scores x0 x1)) := by
  unfold kernelRun0_A.sl.r_16
  rw [val2, val15]
  exact part21 _ _

theorem val17 : kernelRun0_A.sl.r_17 c a1 h1 a2 h2 x0 x1 = ori (T24 (rank (scores x0 x1))) (broadcast S64x1 128#32) := by
  unfold kernelRun0_A.sl.r_17
  rw [val2, val15]
  exact congrArg (fun t => ori t (broadcast S64x1 128#32)) (part21 _ _)

theorem val18 : kernelRun0_A.sl.r_18 c a1 h1 a2 h2 x0 x1 = countAt (rank (scores x0 x1)) (ori (T24 (rank (scores x0 x1))) (broadcast S64x1 128#32)) := by
  unfold kernelRun0_A.sl.r_18
  rw [val2, val15]
  exact congrArg (fun t => countAt _ (ori t (broadcast S64x1 128#32))) (part21 _ _)

theorem val19 : kernelRun0_A.sl.r_19 c a1 h1 a2 h2 x0 x1 = T29 (rank (scores x0 x1)) := by
  unfold kernelRun0_A.sl.r_19
  rw [val2, val16, val17, val18]
  exact part24 _ _ _

theorem val20 : kernelRun0_A.sl.r_20 c a1 h1 a2 h2 x0 x1 = ori (T29 (rank (scores x0 x1))) (broadcast S64x1 4#32) := by
  unfold kernelRun0_A.sl.r_20
  rw [val2, val16, val17, val18]
  exact congrArg (fun t => ori t (broadcast S64x1 4#32)) (part24 _ _ _)

theorem val21 : kernelRun0_A.sl.r_21 c a1 h1 a2 h2 x0 x1 = cmpi .uge (rank (scores x0 x1)) (broadcastTo S64x384 (ori (T29 (rank (scores x0 x1))) (broadcast S64x1 4#32)) broadcasts_S64x1_S64x384) := by
  unfold kernelRun0_A.sl.r_21
  rw [val2, val16, val17, val18]
  exact congrArg (fun t => cmpi .uge _ (broadcastTo S64x384 (ori t (broadcast S64x1 4#32)) broadcasts_S64x1_S64x384)) (part24 _ _ _)

theorem val22 : kernelRun0_A.sl.r_22 c a1 h1 a2 h2 x0 x1 = reach (rank (scores x0 x1)) := by
  unfold kernelRun0_A.sl.r_22
  rw [val2, val19, val20, val21, keep27]
theorem val23 : kernelRun0_A.sl.r_23 c a1 h1 a2 h2 x0 x1 = top (scores x0 x1) := by
  unfold kernelRun0_A.sl.r_23
  rw [val1]
  exact rfl

theorem val24 : kernelRun0_A.sl.r_24 c a1 h1 a2 h2 x0 x1 = Q x0 x1 := by
  unfold kernelRun0_A.sl.r_24
  rw [val1, val2, val19, val20, val21]
  exact congrArg (fun b => select b (exp (subf (scores x0 x1) (broadcastTo S64x384 (top (scores x0 x1)) broadcasts_S64x1_S64x384))) zeros) (keep27 _)

theorem val25 : kernelRun0_A.sl.r_25 c a1 h1 a2 h2 x0 x1 = limit (Q x0 x1) := by
  unfold kernelRun0_A.sl.r_25
  rw [val1, val2, val19, val20, val21]
  exact congrArg (fun b => limit (select b (exp (subf (scores x0 x1) (broadcastTo S64x384 (top (scores x0 x1)) broadcasts_S64x1_S64x384))) zeros)) (keep27 _)

theorem val26 : kernelRun0_A.sl.r_26 c a1 h1 a2 h2 x0 x1 = cmpi .ugt (rank (scores x0 x1)) (broadcastTo S64x384 (ori (broadcast S64x1 0#32) (broadcast S64x1 2147483648#32)) broadcasts_S64x1_S64x384) := by
  unfold kernelRun0_A.sl.r_26
  rw [val2]
  exact rfl

theorem val27 : kernelRun0_A.sl.r_27 c a1 h1 a2 h2 x0 x1 = M5 (rank (scores x0 x1)) (Q x0 x1) (limit (Q x0 x1)) := by
  unfold kernelRun0_A.sl.r_27
  rw [val2, val24, val25, val26]
  exact part35 _ _ _ _ _

theorem val28 : kernelRun0_A.sl.r_28 c a1 h1 a2 h2 x0 x1 = M9 (rank (scores x0 x1)) (Q x0 x1) (limit (Q x0 x1)) := by
  unfold kernelRun0_A.sl.r_28
  rw [val2, val24, val25, val27]
  exact part37 _ _ _ _

theorem val29 : kernelRun0_A.sl.r_29 c a1 h1 a2 h2 x0 x1 = ori (M9 (rank (scores x0 x1)) (Q x0 x1) (limit (Q x0 x1))) (broadcast S64x1 4194304#32) := by
  unfold kernelRun0_A.sl.r_29
  rw [val2, val24, val25, val27]
  exact congrArg (fun t => ori t (broadcast S64x1 4194304#32)) (part37 _ _ _ _)

theorem val30 : kernelRun0_A.sl.r_30 c a1 h1 a2 h2 x0 x1 = multiReduction .add [1] S64 (select (cmpi .ugt (rank (scores x0 x1)) (broadcastTo S64x384 (ori (M9 (rank (scores x0 x1)) (Q x0 x1) (limit (Q x0 x1))) (broadcast S64x1 4194304#32)) broadcasts_S64x1_S64x384)) (Q x0 x1) zeros) 0x00000000#32 reduces_S64x384_S64 (.inl rfl) rfl := by
  unfold kernelRun0_A.sl.r_30
  rw [val2, val24, val25, val27]
  exact congrArg (fun t => multiReduction .add [1] S64 (select (cmpi .ugt _ (broadcastTo S64x384 (ori t (broadcast S64x1 4194304#32)) broadcasts_S64x1_S64x384)) _ zeros) 0x00000000#32 reduces_S64x384_S64 (.inl rfl) rfl) (part37 _ _ _ _)

theorem val31 : kernelRun0_A.sl.r_31 c a1 h1 a2 h2 x0 x1 = M14 (rank (scores x0 x1)) (Q x0 x1) (limit (Q x0 x1)) := by
  unfold kernelRun0_A.sl.r_31
  rw [val2, val24, val25, val28, val29, val30]
  exact part40 _ _ _ _ _

theorem val32 : kernelRun0_A.sl.r_32 c a1 h1 a2 h2 x0 x1 = ori (M14 (rank (scores x0 x1)) (Q x0 x1) (limit (Q x0 x1))) (broadcast S64x1 131072#32) := by
  unfold kernelRun0_A.sl.r_32
  rw [val2, val24, val25, val28, val29, val30]
  exact congrArg (fun t => ori t (broadcast S64x1 131072#32)) (part40 _ _ _ _ _)

theorem val33 : kernelRun0_A.sl.r_33 c a1 h1 a2 h2 x0 x1 = cmpi .ugt (rank (scores x0 x1)) (broadcastTo S64x384 (ori (M14 (rank (scores x0 x1)) (Q x0 x1) (limit (Q x0 x1))) (broadcast S64x1 131072#32)) broadcasts_S64x1_S64x384) := by
  unfold kernelRun0_A.sl.r_33
  rw [val2, val24, val25, val28, val29, val30]
  exact congrArg (fun t => cmpi .ugt _ (broadcastTo S64x384 (ori t (broadcast S64x1 131072#32)) broadcasts_S64x1_S64x384)) (part40 _ _ _ _ _)

theorem val34 : kernelRun0_A.sl.r_34 c a1 h1 a2 h2 x0 x1 = M19 (rank (scores x0 x1)) (Q x0 x1) (limit (Q x0 x1)) := by
  unfold kernelRun0_A.sl.r_34
  rw [val2, val24, val25, val31, val32, val33]
  exact part43 _ _ _ _ _

theorem val35 : kernelRun0_A.sl.r_35 c a1 h1 a2 h2 x0 x1 = M23 (rank (scores x0 x1)) (Q x0 x1) (limit (Q x0 x1)) := by
  unfold kernelRun0_A.sl.r_35
  rw [val2, val24, val25, val34]
  exact part44 _ _ _ _

theorem val36 : kernelRun0_A.sl.r_36 c a1 h1 a2 h2 x0 x1 = ori (M23 (rank (scores x0 x1)) (Q x0 x1) (limit (Q x0 x1))) (broadcast S64x1 256#32) := by
  unfold kernelRun0_A.sl.r_36
  rw [val2, val24, val25, val34]
  exact congrArg (fun t => ori t (broadcast S64x1 256#32)) (part44 _ _ _ _)

theorem val37 : kernelRun0_A.sl.r_37 c a1 h1 a2 h2 x0 x1 = select (cmpi .ugt (rank (scores x0 x1)) (broadcastTo S64x384 (ori (M23 (rank (scores x0 x1)) (Q x0 x1) (limit (Q x0 x1))) (broadcast S64x1 256#32)) broadcasts_S64x1_S64x384)) (Q x0 x1) zeros := by
  unfold kernelRun0_A.sl.r_37
  rw [val2, val24, val25, val34]
  exact congrArg (fun t => select (cmpi .ugt _ (broadcastTo S64x384 (ori t (broadcast S64x1 256#32)) broadcasts_S64x1_S64x384)) _ zeros) (part44 _ _ _ _)

theorem val38 : kernelRun0_A.sl.r_38 c a1 h1 a2 h2 x0 x1 = M28 (rank (scores x0 x1)) (Q x0 x1) (limit (Q x0 x1)) := by
  unfold kernelRun0_A.sl.r_38
  rw [val2, val24, val25, val35, val36, val37]
  exact part47 _ _ _ _ _

theorem val39 : kernelRun0_A.sl.r_39 c a1 h1 a2 h2 x0 x1 = ori (M28 (rank (scores x0 x1)) (Q x0 x1) (limit (Q x0 x1))) (broadcast S64x1 8#32) := by
  unfold kernelRun0_A.sl.r_39
  rw [val2, val24, val25, val35, val36, val37]
  exact congrArg (fun t => ori t (broadcast S64x1 8#32)) (part47 _ _ _ _ _)

theorem val40 : kernelRun0_A.sl.r_40 c a1 h1 a2 h2 x0 x1 = kept (scores x0 x1) := by
  unfold kernelRun0_A.sl.r_40
  rw [val2, val22, val24, val25, val38, val39, part49, kept, keptBits, search_mass]
  exact rfl

theorem val41 : kernelRun0_A.sl.r_41 c a1 h1 a2 h2 x0 x1 = k0_pay50 (scores x0 x1) := by
  unfold kernelRun0_A.sl.r_41
  rw [val1]
theorem val42 : kernelRun0_A.sl.r_42 c a1 h1 a2 h2 x0 x1 = k0_pay51 (scores x0 x1) (top (scores x0 x1)) := by
  unfold kernelRun0_A.sl.r_42
  rw [val1, val23]
theorem val0 (a3 : Memref sig .tc .vmem S64x384 .f32) (h3 : a3.IsWhole) (x2 : Vec F S64x384 .f32) :
    kernelRun0_A.sl.r c a3 h3 x2 = x2 := by
  unfold kernelRun0_A.sl.r
  rw [load_whole]
  exact shapeCast_self _ _

variable (i : grid0.Coords) (a3 : Memref sig .tc .vmem S64x384 .f32) (h3 : a3.IsWhole)
  (a4 : Memref sig .tc .vmem S64x151936 .f32) (h4 : a4.IsWhole) (a5 : Memref sig .tc .vmem S64x128 .i32) (h5 : a5.IsWhole)
  (hc : cond0_0 i) (x2 : Vec F S64x384 .f32)

/-- The stores into the first result: zeros everywhere, then the probabilities in the last 384 columns. -/
theorem pieces_probs : (kernelRun0_A c i a1 h1 a2 h2 a3 h3 a4 h4 a5 h5 hc x0 x1 x2).1
    = [⟨Rect.unit ![0, 151552] ![64, 384] inb_S64x151936_S64x384_0_151552, probs (scores x0 x1)⟩,
       ⟨Rect.unit ![0, 0] ![64, 151936] inb_S64x151936_S64x151936_0_0, k0_pay1⟩] := by
  unfold kernelRun0_A
  dsimp only
  rw [val40, val42]
  rfl

/-- The store into the second result: the sampled columns. -/
theorem pieces_tokens : (kernelRun0_A c i a1 h1 a2 h2 a3 h3 a4 h4 a5 h5 hc x0 x1 x2).2.1
    = [⟨Rect.unit ![0, 0] ![64, 128] inb_S64x128_S64x128_0_0, tokens (scores x0 x1) x2⟩] := by
  unfold kernelRun0_A
  dsimp only
  rw [val40, val41, val0]
  rfl

end Cert.BlockOps
-- ==== Proof.KernelNoise.lean ====
/- The host part of the kernel before the launch, in stages: the counters, five groups of rounds, the noise. -/
module

public import proofs.«01_k».proof.Proof.Gen.KernelIdeal
public import proofs.«01_k».proof.Proof.Gen.KernelIdeal.Launch
public import proofs.«01_k».proof.Proof.Noise
public import Idealize.ShloMosaic.Lib.StableHlo.Run
public import Idealize.ShloMosaic.Lib.Pipeline.Frame
public import Idealize.ShloMosaic.Lib.ValueIdxCore

@[expose] public section

set_option maxRecDepth 16384

noncomputable section

namespace Cert.KernelNoise

open Cert.KernelIdeal Cert.KernelIdeal.Gen Idealize.ShloMosaic Idealize.ShloMosaic.TcCoe Idealize.ShloMosaic.StableHlo
open Idealize.SL.Sem

variable {F : FTy → Type} [FloatOps F]

/-- The `n` host operations from number `a` on. -/
def stage (a n : ℕ) : List (HloOp τ sig (Elt F)) := (hostOps0.drop a).take n

variable (V : Valuation τ sig (Elt F))

/-- The counter of an index of the block, upper and lower word. -/
def counter (i : S64x384.Idx) : Noise.Word × Noise.Word :=
  (0#32, IntOp.addi (IntOp.muli (BitVec.ofNat 32 (i 0).val) 151936#32) (IntOp.addi 151552#32 (BitVec.ofNat 32 (i 1).val)))

theorem start :
    after (stage 0 31) V (Proc.devRef .tc main_call0_v20) = (fun i => IntOp.addi (counter i).1 0#32)
    ∧ after (stage 0 31) V (Proc.devRef .tc main_call0_v22) = (fun i => IntOp.addi (counter i).2 1#32)
    ∧ after (stage 0 31) V (Proc.devRef .tc main_call0_v18) = (fun _ => Noise.third 0#32 1#32) := by
  simp only [stage, hostOps0, List.drop_succ_cons, List.drop_zero, List.take_succ_cons, List.take_zero]
  refine ⟨?_, ?_, ?_⟩
  all_goals
    after_results
    rfl

theorem group1 (s : S64x384.Idx → Noise.Word × Noise.Word) (t : Noise.Word)
    (h0 : V (Proc.devRef .tc main_call0_v20) = fun i => (s i).1) (h1 : V (Proc.devRef .tc main_call0_v22) = fun i => (s i).2) (h2 : V (Proc.devRef .tc main_call0_v18) = fun _ => t) :
    after (stage 31 44) V (Proc.devRef .tc main_call0_v52) = (fun i => (Noise.odd IntOp.xori 1#32 t 1#32 (s i)).1)
    ∧ after (stage 31 44) V (Proc.devRef .tc main_call0_v56) = (fun i => (Noise.odd IntOp.xori 1#32 t 1#32 (s i)).2)
    ∧ after (stage 31 44) V (Proc.devRef .tc main_call0_v18) = (fun _ => t) := by
  simp only [stage, hostOps0, List.drop_succ_cons, List.drop_zero, List.take_succ_cons, List.take_zero]
  refine ⟨?_, ?_, ?_⟩
  all_goals
    after_results
    simp only [h0, h1, h2]
    try rfl

theorem group2 (s : S64x384.Idx → Noise.Word × Noise.Word) (t : Noise.Word)
    (h0 : V (Proc.devRef .tc main_call0_v52) = fun i => (s i).1) (h1 : V (Proc.devRef .tc main_call0_v56) = fun i => (s i).2) (h2 : V (Proc.devRef .tc main_call0_v18) = fun _ => t) :
    after (stage 75 44) V (Proc.devRef .tc main_call0_v86) = (fun i => (Noise.even IntOp.xori t 0#32 2#32 (s i)).1)
    ∧ after (stage 75 44) V (Proc.devRef .tc main_call0_v90) = (fun i => (Noise.even IntOp.xori t 0#32 2#32 (s i)).2)
    ∧ after (stage 75 44) V (Proc.devRef .tc main_call0_v18) = (fun _ => t) := by
  simp only [stage, hostOps0, List.drop_succ_cons, List.drop_zero, List.take_succ_cons, List.take_zero]
  refine ⟨?_, ?_, ?_⟩
  all_goals
    after_results
    simp only [h0, h1, h2]
    try rfl

theorem group3 (s : S64x384.Idx → Noise.Word × Noise.Word) (t : Noise.Word)
    (h0 : V (Proc.devRef .tc main_call0_v86) = fun i => (s i).1) (h1 : V (Proc.devRef .tc main_call0_v90) = fun i => (s i).2) (h2 : V (Proc.devRef .tc main_call0_v18) = fun _ => t) :
    after (stage 119 45) V (Proc.devRef .tc main_call0_v120) = (fun i => (Noise.odd IntOp.xori 0#32 1#32 3#32 (s i)).1)
    ∧ after (stage 119 45) V (Proc.devRef .tc main_call0_v124) = (fun i => (Noise.odd IntOp.xori 0#32 1#32 3#32 (s i)).2)
    ∧ after (stage 119 45) V (Proc.devRef .tc main_call0_v18) = (fun _ => t) := by
  simp only [stage, hostOps0, List.drop_succ_cons, List.drop_zero, List.take_succ_cons, List.take_zero]
  refine ⟨?_, ?_, ?_⟩
  all_goals
    after_results
    simp only [h0, h1, h2]
    try rfl

theorem group4 (s : S64x384.Idx → Noise.Word × Noise.Word) (t : Noise.Word)
    (h0 : V (Proc.devRef .tc main_call0_v120) = fun i => (s i).1) (h1 : V (Proc.devRef .tc main_call0_v124) = fun i => (s i).2) (h2 : V (Proc.devRef .tc main_call0_v18) = fun _ => t) :
    after (stage 164 44) V (Proc.devRef .tc main_call0_v154) = (fun i => (Noise.even IntOp.xori 1#32 t 4#32 (s i)).1)
    ∧ after (stage 164 44) V (Proc.devRef .tc main_call0_v158) = (fun i => (Noise.even IntOp.xori 1#32 t 4#32 (s i)).2)
    ∧ after (stage 164 44) V (Proc.devRef .tc main_call0_v18) = (fun _ => t) := by
  simp only [stage, hostOps0, List.drop_succ_cons, List.drop_zero, List.take_succ_cons, List.take_zero]
  refine ⟨?_, ?_, ?_⟩
  all_goals
    after_results
    simp only [h0, h1, h2]
    try rfl

theorem group5 (s : S64x384.Idx → Noise.Word × Noise.Word) (t : Noise.Word)
    (h0 : V (Proc.devRef .tc main_call0_v154) = fun i => (s i).1) (h1 : V (Proc.devRef .tc main_call0_v158) = fun i => (s i).2) (h2 : V (Proc.devRef .tc main_call0_v18) = fun _ => t) :
    after (stage 208 44) V (Proc.devRef .tc main_call0_v188) = (fun i => (Noise.odd IntOp.xori t 0#32 5#32 (s i)).1)
    ∧ after (stage 208 44) V (Proc.devRef .tc main_call0_v192) = (fun i => (Noise.odd IntOp.xori t 0#32 5#32 (s i)).2)
    ∧ after (stage 208 44) V (Proc.devRef .tc main_call0_v18) = (fun _ => t) := by
  simp only [stage, hostOps0, List.drop_succ_cons, List.drop_zero, List.take_succ_cons, List.take_zero]
  refine ⟨?_, ?_, ?_⟩
  all_goals
    after_results
    simp only [h0, h1, h2]
    try rfl

theorem finish (s : S64x384.Idx → Noise.Word × Noise.Word)
    (h0 : V (Proc.devRef .tc main_call0_v188) = fun i => (s i).1) (h1 : V (Proc.devRef .tc main_call0_v192) = fun i => (s i).2) :
    after (stage 252 26) V (Proc.devRef .tc main_call0_v211) = Noise.values (F := F) fun i => IntOp.xori (s i).1 (s i).2 := by
  simp only [stage, hostOps0, List.drop_succ_cons, List.drop_zero, List.take_succ_cons, List.take_zero]
  after_results
  simp only [h0, h1]
  rfl

/-- The stages are the whole stretch. -/
theorem stages : (hostOps0 : List (HloOp τ sig (Elt F)))
    = stage 0 31 ++ (stage 31 44 ++ (stage 75 44 ++ (stage 119 45 ++ (stage 164 44 ++ (stage 208 44 ++ stage 252 26))))) := by
  simp only [stage, hostOps0, List.drop_succ_cons, List.drop_zero, List.take_succ_cons, List.take_zero, List.cons_append, List.nil_append]

/-- The pair of words of an index after each group of rounds. -/
def mid0 (i : S64x384.Idx) : Noise.Word × Noise.Word := (IntOp.addi (counter i).1 0#32, IntOp.addi (counter i).2 1#32)
def mid1 (i : S64x384.Idx) := Noise.odd IntOp.xori 1#32 (Noise.third 0#32 1#32) 1#32 (mid0 i)
def mid2 (i : S64x384.Idx) := Noise.even IntOp.xori (Noise.third 0#32 1#32) 0#32 2#32 (mid1 i)
def mid3 (i : S64x384.Idx) := Noise.odd IntOp.xori 0#32 1#32 3#32 (mid2 i)
def mid4 (i : S64x384.Idx) := Noise.even IntOp.xori 1#32 (Noise.third 0#32 1#32) 4#32 (mid3 i)
def mid5 (i : S64x384.Idx) := Noise.odd IntOp.xori (Noise.third 0#32 1#32) 0#32 5#32 (mid4 i)

/-- The random words of the block. -/
theorem noise : after hostOps0 V (Proc.devRef .tc main_call0_v211) = Noise.values (F := F) fun i => Noise.bits (counter i).2 := by
  rw [stages]
  simp only [after_append]
  obtain ⟨a, b, t⟩ := start V
  obtain ⟨a, b, t⟩ := group1 (after (stage 0 31) V) (fun i => mid0 i) _ a b t
  obtain ⟨a, b, t⟩ := group2 _ (fun i => mid1 i) _ a b t
  obtain ⟨a, b, t⟩ := group3 _ (fun i => mid2 i) _ a b t
  obtain ⟨a, b, t⟩ := group4 _ (fun i => mid3 i) _ a b t
  obtain ⟨a, b, t⟩ := group5 _ (fun i => mid4 i) _ a b t
  exact finish _ (fun i => mid5 i) a b

end Cert.KernelNoise

end
-- ==== Proof.KernelRun.lean ====
/- The kernel's run: its grid has one point, whose blocks are the whole arrays, so each result array ends at what the
   body stores. -/
module

public import proofs.«01_k».proof.Proof.BlockRun
public import proofs.«01_k».proof.Proof.KernelNoise
public import Idealize.ShloMosaic.Lib.StableHlo.Run
public import Idealize.ShloMosaic.Lib.ValueIdxCore

@[expose] public section

set_option maxRecDepth 16384

noncomputable section

namespace Cert.BlockOps

open Cert.KernelIdeal Cert.KernelIdeal.Gen Idealize.ShloMosaic Idealize.ShloMosaic.TcCoe Idealize.ShloMosaic.ValueIdx
open Idealize.SL.Sem

variable {F : FTy → Type} [FloatOps F]

/-- A block placed in the last 384 columns, zeros elsewhere. -/
def placed (p : FVec F S64x384 .f32) : FVec F S64x151936 .f32 := fun i =>
  if h : 151552 ≤ (i 1).val then p (ix2 (i 0) ⟨(i 1).val - 151552, by have : (i 1).val < 151936 := (i 1).isLt; omega⟩)
  else Scalar.ofBits .f32 0x00000000#32

/-- The tail columns of row 0 of each pair, of row 1, and of the noise. -/
def condTail (x : FVec F S128x151936 .f32) : FVec F S64x384 .f32 :=
  shapeCast S64x384 (extractStridedSlice S64x1x384 ![0, 0, 151552]
    (shapeCast S64x2x151936 x shapeCasts_S128x151936_S64x2x151936) slices_S64x2x151936_S64x1x384_0_0_151552) shapeCasts_S64x1x384_S64x384
def uncTail (x : FVec F S128x151936 .f32) : FVec F S64x384 .f32 :=
  shapeCast S64x384 (extractStridedSlice S64x1x384 ![0, 1, 151552]
    (shapeCast S64x2x151936 x shapeCasts_S128x151936_S64x2x151936) slices_S64x2x151936_S64x1x384_0_1_151552) shapeCasts_S64x1x384_S64x384
def noiseTail (g : FVec F S64x151936 .f32) : FVec F S64x384 .f32 := fun i =>
  g (ix2 (i 0) ⟨151552 + (i 1).val, by have : (i 1).val < 384 := (i 1).isLt; omega⟩)

/-- The block's scores from the logits. -/
def scoresOf (x : FVec F S128x151936 .f32) : FVec F S64x384 .f32 := scores (condTail x) (uncTail x)

/-- The two results of the host function. -/
def outProbs (x : FVec F S128x151936 .f32) : FVec F S64x151936 .f32 := placed (probs (scoresOf x))
def outTokens (x : FVec F S128x151936 .f32) (g : FVec F S64x151936 .f32) : IVec S64 32 :=
  shapeCast S64 (extractStridedSlice S64x1 ![0, 0] (tokens (scoresOf x) (noiseTail g)) slices_S64x128_S64x1_0_0) shapeCasts_S64x1_S64

variable (m : (ℓ : Loc nD τ sig) → Buf (Elt F) ℓ) (ρ : Dev nD → PrngReg)

theorem V_cond (c : Dev nD) : V m c main_call0_v2 = condTail (m ((c : Thread nD τ).loc main_arg0)) := by
  show StableHlo.after hostOps0 _ (Proc.devRef .tc main_call0_v2) = _
  after_results
  rfl
theorem V_unc (c : Dev nD) : V m c main_call0_v4 = uncTail (m ((c : Thread nD τ).loc main_arg0)) := by
  show StableHlo.after hostOps0 _ (Proc.devRef .tc main_call0_v4) = _
  after_results
  rfl
/-- The word of a counter is the number of its row and column in the whole table. -/
theorem word_eq (r l : ℕ) (hr : r < 64) (hl : l < 384) :
    IntOp.addi (IntOp.muli (BitVec.ofNat 32 r) 151936#32) (IntOp.addi 151552#32 (BitVec.ofNat 32 l)) = BitVec.ofNat 32 (r * 151936 + (151552 + l)) := by
  show BitVec.ofNat 32 r * BitVec.ofNat 32 151936 + (BitVec.ofNat 32 151552 + BitVec.ofNat 32 l) = _
  rw [← BitVec.ofNat_mul, ← BitVec.ofNat_add, ← BitVec.ofNat_add]
theorem V_noise (c : Dev nD) : V m c main_call0_v211 = noiseTail (Noise.table (F := F)) := by
  show StableHlo.after hostOps0 _ (Proc.devRef .tc main_call0_v211) = _
  rw [KernelNoise.noise]
  have e : (fun i : S64x384.Idx => Noise.bits (KernelNoise.counter i).2)
      = fun i => Noise.bits (BitVec.ofNat 32 ((i 0).val * 151936 + (151552 + (i 1).val))) :=
    funext fun i => congrArg Noise.bits (word_eq (i 0).val (i 1).val (i 0).isLt (i 1).isLt)
  rw [e]
  rfl

theorem iblk_cond (c : Dev nD) (t : Fin cfg0.N) : iblk m c 0 t = condTail (m ((c : Thread nD τ).loc main_arg0)) := by
  rw [← V_cond m c]
  have hz : (fun a => win0_0.index t a * main_call0_v2.ty.shape.size a) = fun _ => 0 := funext fun a => by fin_cases a <;> rfl
  exact Memref.read_access_unit_zero (Elt F) main_call0_v2 hz (fun a => by rw [congrFun hz a]; simp) (V m c main_call0_v2)
theorem iblk_unc (c : Dev nD) (t : Fin cfg0.N) : iblk m c 1 t = uncTail (m ((c : Thread nD τ).loc main_arg0)) := by
  rw [← V_unc m c]
  have hz : (fun a => win0_1.index t a * main_call0_v4.ty.shape.size a) = fun _ => 0 := funext fun a => by fin_cases a <;> rfl
  exact Memref.read_access_unit_zero (Elt F) main_call0_v4 hz (fun a => by rw [congrFun hz a]; simp) (V m c main_call0_v4)
theorem iblk_noise (c : Dev nD) (t : Fin cfg0.N) : iblk m c 2 t = noiseTail (Noise.table (F := F)) := by
  rw [← V_noise m c]
  have hz : (fun a => win0_2.index t a * main_call0_v211.ty.shape.size a) = fun _ => 0 := funext fun a => by fin_cases a <;> rfl
  exact Memref.read_access_unit_zero (Elt F) main_call0_v211 hz (fun a => by rw [congrFun hz a]; simp) (V m c main_call0_v211)

/-- The two stores of the probabilities, read together. -/
theorem canon_placed (p : FVec F S64x384 .f32) :
    View.canon (Val := Elt F) [(⟨Rect.unit ![0, 151552] ![64, 384] inb_S64x151936_S64x384_0_151552, p⟩ : View.Piece (Elt F) S64x151936 .f32),
      ⟨Rect.unit ![0, 0] ![64, 151936] inb_S64x151936_S64x151936_0_0, k0_pay1⟩] = placed p := by
  funext y
  by_cases h : 151552 ≤ (y 1).val
  · have hy : y = (Rect.unit ![0, 151552] ![64, 384] inb_S64x151936_S64x384_0_151552 : Rect S64x151936).emb
        (ix2 (y 0) ⟨(y 1).val - 151552, by have : (y 1).val < 151936 := (y 1).isLt; omega⟩) := by
      funext a
      apply Fin.ext
      match a with
      | ⟨0, _⟩ => show (y 0).val = 0 + 1 * (y 0).val; omega
      | ⟨1, _⟩ => show (y 1).val = 151552 + 1 * ((y 1).val - 151552); omega
    have := View.canon_cons_emb (Val := Elt F) (Rect.unit ![0, 151552] ![64, 384] inb_S64x151936_S64x384_0_151552 : Rect S64x151936) p
      [(⟨Rect.unit ![0, 0] ![64, 151936] inb_S64x151936_S64x151936_0_0, k0_pay1⟩ : View.Piece (Elt F) S64x151936 .f32)]
        (ix2 (y 0) ⟨(y 1).val - 151552, by have : (y 1).val < 151936 := (y 1).isLt; omega⟩)
    rw [← hy] at this
    rw [this, placed, dif_pos h]
  · rw [View.canon_cons_of_not_mem]
    · rw [View.canon_unit_zero (S := S64x151936) origin]
      rw [placed, dif_neg h]; rfl
    · rw [Rect.mem_set_unit]
      intro hh
      exact h (hh 1).1

theorem out3_eq (c : Dev nD) (t : Fin cfg0.N) : (outsAt0 m c t).1 = outProbs (m ((c : Thread nD τ).loc main_arg0)) := by
  unfold outsAt0
  dsimp only
  unfold out0_A_3
  rw [View.read_writes_eq_canon _ _ _ (cover0_A_3 c (grid0.coords t) _ _ _ _ _ _ _ _ _ _ (hcond0_0 t) _ _ _), pieces_probs, canon_placed,
    iblk_cond, iblk_unc]
  rfl

theorem out4_eq (c : Dev nD) (t : Fin cfg0.N) : (outsAt0 m c t).2 =
    tokens (scoresOf (m ((c : Thread nD τ).loc main_arg0))) (noiseTail (Noise.table (F := F))) := by
  unfold outsAt0
  dsimp only
  unfold out0_A_4
  rw [View.read_writes_eq_canon _ _ _ (cover0_A_4 c (grid0.coords t) _ _ _ _ _ _ _ _ _ _ (hcond0_0 t) _ _ _), pieces_tokens,
    View.canon_unit_zero (S := S64x128) origin, iblk_cond, iblk_unc, iblk_noise]
  rfl

theorem final_probs (c : Dev nD) : (dats m 0 c).arrAt 3 cfg0.N = outProbs (m ((c : Thread nD τ).loc main_arg0)) :=
  (dats m 0 c).arrAt_eq_of_cover 3 _ (fun t _ => by
      show (cfg0.win 3).cut (grid0.coords t) ((dats m 0 c).after 3 t) = _
      rw [after0_3, out3_eq]
      have hz' : (fun a => win0_3.index t a * main_v0_0.ty.shape.size a) = fun _ => 0 := funext fun a => by rw [fin_N0 t]; fin_cases a <;> decide +kernel
      exact (Memref.read_access_unit_zero (Elt F) main_v0_0 hz' (fun a => by rw [congrFun hz' a]; simp) _).symm) fun i =>
    ⟨t0_0, flush0_3 _, by
      show i ∈ ((View.whole main_v0_0).slice (win0_3.rect t0_0)).set
      rw [View.set_slice_whole, Rect.mem_set_unit]
      intro a
      have h0 : (i 0 : Nat) < 64 := (i 0).isLt
      have h1 : (i 1 : Nat) < 151936 := (i 1).isLt
      match a with
      | ⟨0, _⟩ => exact ⟨Nat.zero_le _, h0⟩
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 151936 from by decide +kernel]
                  omega⟩

theorem final_tokens (c : Dev nD) : (dats m 0 c).arrAt 4 cfg0.N =
    tokens (scoresOf (m ((c : Thread nD τ).loc main_arg0))) (noiseTail (Noise.table (F := F))) :=
  (dats m 0 c).arrAt_eq_of_cover 4 _ (fun t _ => by
      show (cfg0.win 4).cut (grid0.coords t) ((dats m 0 c).after 4 t) = _
      rw [after0_4, out4_eq]
      have hz' : (fun a => win0_4.index t a * main_call0_v212_1.ty.shape.size a) = fun _ => 0 := funext fun a => by fin_cases a <;> rfl
      exact (Memref.read_access_unit_zero (Elt F) main_call0_v212_1 hz' (fun a => by rw [congrFun hz' a]; simp) _).symm) fun i =>
    ⟨t0_0, flush0_4 _, by
      show i ∈ ((View.whole main_call0_v212_1).slice (win0_4.rect t0_0)).set
      rw [View.set_slice_whole, Rect.mem_set_unit]
      intro a
      have h0 : (i 0 : Nat) < 64 := (i 0).isLt
      have h1 : (i 1 : Nat) < 128 := (i 1).isLt
      match a with
      | ⟨0, _⟩ => exact ⟨Nat.zero_le _, h0⟩
      | ⟨1, _⟩ => exact ⟨Nat.zero_le _, h1⟩⟩

/-- The run's results and its untouched arguments. -/
theorem run : θ_run defs (onTc (τ := τ) (main (F := F))) ⟨m, fun _ => 0, ρ⟩ fun r => ∀ c : Dev nD,
      r.2.mem ((c : Thread nD τ).loc main_v0_0) = outProbs (m ((c : Thread nD τ).loc main_arg0))
      ∧ r.2.mem ((c : Thread nD τ).loc main_v0_1) = outTokens (m ((c : Thread nD τ).loc main_arg0)) (Noise.table (F := F))
      ∧ r.2.mem ((c : Thread nD τ).loc main_arg0) = m ((c : Thread nD τ).loc main_arg0) :=
  (θ_run defs _ _).mono (fun _ h c => ⟨((h c).1 3).trans (final_probs m c),
      ((h c).2 main_v0_1 (Pipeline.mem_restRefs_of main_v0_1 (by decide) (by decide))).trans (by
        show StableHlo.after hostOps1 (Pipeline.withArrays spec0 c (V0 m c) fun w => (dats m 0 c).arrAt w cfg0.N) (Proc.devRef .tc main_v0_1) = _
        after_results
        have e := Pipeline.withArrays_arr spec0 launch0.win.arr_inj c (V0 m c) (fun w => (dats m 0 c).arrAt w cfg0.N) 4
        have e' : Pipeline.withArrays spec0 c (V0 m c) (fun w => (dats m 0 c).arrAt w cfg0.N) (Proc.devRef .tc main_call0_v212_1)
            = tokens (scoresOf (m ((c : Thread nD τ).loc main_arg0))) (noiseTail (Noise.table (F := F))) := e.trans (final_tokens m c)
        rw [e']
        rfl),
      ((h c).2 main_arg0 (Pipeline.mem_restRefs_of main_arg0 (by decide) (by decide))).trans (W_main_arg0 m (dats m) c)⟩)
    (run_main m ρ)

end Cert.BlockOps
-- ==== Proof.Row.lean ====
/- One row of the sampling algorithm over the extended reals, on any finite set of columns: the scores that pass the
   top-50 threshold, their mass, the scores that pass the 0.9 mass threshold, the probabilities and the noisy scores.
   Columns at −∞ outside an embedded set of columns change nothing. -/
module

public import Idealize.ShloMosaic.Lib.IdealHost

@[expose] public section

noncomputable section

namespace Cert.Row

open Idealize.ShloMosaic Finset

/-- The mass threshold and the temperature. -/
def c : EReal := Ideal.ofBits .f32 0x3F666666#32
def T : EReal := Ideal.ofBits .f32 0x3F59999A#32

theorem c_real : ∃ r : ℝ, 0 < r ∧ c = (r : EReal) := by
  refine ⟨(1 : ℝ) * ((2 ^ 23 + 6710886 : ℕ) : ℝ) * (2 : ℝ) ^ ((126 : Int) - 127 - 23), by positivity, ?_⟩
  simp [c, Ideal.ofBits, Ideal.ieee]

theorem T_real : ∃ r : ℝ, 0 < r ∧ T = (r : EReal) := by
  refine ⟨(1 : ℝ) * ((2 ^ 23 + 1677722 + 4194304 : ℕ) : ℝ) * (2 : ℝ) ^ ((126 : Int) - 127 - 23), by positivity, ?_⟩
  simp [T, Ideal.ofBits, Ideal.ieee]
  try norm_num

theorem exp_nonneg (x : EReal) : 0 ≤ Ideal.exp x := by
  induction x with
  | bot => exact le_refl _
  | top => exact le_top
  | coe r => exact EReal.coe_nonneg.mpr (Real.exp_pos r).le

theorem exp_bot : Ideal.exp ⊥ = 0 := rfl

theorem exp_coe (r : ℝ) : Ideal.exp (r : EReal) = (Real.exp r : EReal) := rfl

theorem bot_sub' (x : EReal) : (⊥ : EReal) - x = ⊥ := by rw [sub_eq_add_neg, EReal.bot_add]

theorem div_T (x : EReal) : Ideal.div x T = x * T⁻¹ := by
  obtain ⟨r, hr, e⟩ := T_real
  have : T ≠ 0 := by rw [e]; exact EReal.coe_ne_zero.mpr hr.ne'
  unfold Ideal.div; rw [if_neg this]

theorem T_inv_real : ∃ r : ℝ, 0 < r ∧ T⁻¹ = (r : EReal) := by
  obtain ⟨r, hr, e⟩ := T_real
  exact ⟨r⁻¹, inv_pos.mpr hr, by rw [e, ← EReal.coe_inv]⟩

theorem div_T_bot : Ideal.div ⊥ T = ⊥ := by
  obtain ⟨r, hr, e⟩ := T_inv_real
  rw [div_T, e, EReal.bot_mul_coe_of_pos hr]

theorem div_T_coe (x : ℝ) : ∃ y : ℝ, Ideal.div (x : EReal) T = (y : EReal) := by
  obtain ⟨r, hr, e⟩ := T_inv_real
  exact ⟨x * r, by rw [div_T, e, EReal.coe_mul]⟩

theorem div_T_mono : Monotone fun x => Ideal.div x T := by
  intro x y h
  obtain ⟨r, hr, e⟩ := T_inv_real
  show Ideal.div x T ≤ Ideal.div y T
  rw [div_T, div_T, e]
  exact mul_le_mul_of_nonneg_right h (EReal.coe_nonneg.mpr hr.le)

section

variable {ι : Type} [Fintype ι] (s : ι → EReal) (g : ι → EReal)

/-- How many scores are larger. -/
def above (i : ι) : ℕ := (univ.filter fun j => s i < s j).card

/-- The largest score. -/
def top : EReal := univ.sup s

/-- The unnormalised mass of the 50 largest. -/
def wt (i : ι) : EReal := if above s i < 50 then Ideal.exp (s i - top s) else 0

/-- The mass of the larger scores. -/
def passed (i : ι) : EReal := ∑ j ∈ univ.filter (fun j => s i < s j), wt s j

/-- A column passes both thresholds. -/
def Keep (i : ι) : Prop := above s i < 50 ∧ passed s i ≤ c * ∑ j, wt s j

open Classical in
/-- The weight of a column at the temperature. -/
def weight (i : ι) : EReal := if Keep s i then Ideal.exp (Ideal.div (s i) T - Ideal.div (top s) T) else 0

/-- The probability of a column. -/
def prob (i : ι) : EReal := Ideal.div (weight s i) (∑ j, weight s j)

open Classical in
/-- The noisy score of a column. -/
def noisy (i : ι) : EReal := (if Keep s i then Ideal.div (s i) T else ⊥) + g i

/-- The first column where a function is largest. -/
def FirstMax [LT ι] (f : ι → EReal) (i : ι) : Prop := (∀ j, f j ≤ f i) ∧ ∀ j, j < i → f j < f i

theorem FirstMax.unique {n : ℕ} {f : Fin n → EReal} {i j : Fin n} (hi : FirstMax f i) (hj : FirstMax f j) : i = j := by
  rcases lt_trichotomy i j with h | h | h
  · exact absurd (hj.2 i h) (not_lt.mpr (hi.1 j))
  · exact h
  · exact absurd (hi.2 j h) (not_lt.mpr (hj.1 i))

theorem wt_nonneg (i : ι) : 0 ≤ wt s i := by
  unfold wt; split
  · exact exp_nonneg _
  · exact le_refl _

theorem wt_bot {i : ι} (h : s i = ⊥) : wt s i = 0 := by
  unfold wt; rw [h, bot_sub', exp_bot, ite_self]

theorem weight_nonneg (i : ι) : 0 ≤ weight s i := by
  unfold weight; split
  · exact exp_nonneg _
  · exact le_refl _

theorem weight_bot {i : ι} (h : s i = ⊥) : weight s i = 0 := by
  unfold weight; rw [h, div_T_bot, bot_sub', exp_bot, ite_self]

theorem le_top' (i : ι) : s i ≤ top s := Finset.le_sup (mem_univ i)

theorem above_of_top {i : ι} (h : s i = top s) : above s i = 0 := by
  unfold above
  rw [card_eq_zero, filter_eq_empty_iff]
  intro j _ hj
  exact absurd (le_top' s j) (not_le.mpr (h ▸ hj))

theorem keep_of_top {i : ι} (h : s i = top s) : Keep s i := by
  refine ⟨by rw [above_of_top s h]; decide, ?_⟩
  have e : univ.filter (fun j => s i < s j) = ∅ := by
    rw [filter_eq_empty_iff]
    intro j _ hj
    exact absurd (le_top' s j) (not_le.mpr (h ▸ hj))
  unfold passed
  rw [e, sum_empty]
  obtain ⟨r, hr, ec⟩ := c_real
  rw [ec]
  exact mul_nonneg (EReal.coe_nonneg.mpr hr.le) (sum_nonneg fun j _ => wt_nonneg s j)

/-- Some score is real and none is +∞. -/
def Fine : Prop := ∃ i, s i = top s ∧ ∃ r : ℝ, top s = (r : EReal)

theorem fine_of (h : ∀ i, s i ≠ ⊤) {i : ι} (hi : s i ≠ ⊥) : Fine s := by
  obtain ⟨k, -, hk⟩ := Finset.exists_mem_eq_sup univ ⟨i, mem_univ i⟩ s
  refine ⟨k, hk.symm, ?_⟩
  have h1 : top s ≠ ⊤ := by unfold top; rw [hk]; exact h k
  have h2 : top s ≠ ⊥ := fun e => hi (le_bot_iff.mp (e ▸ le_top' s i))
  exact ⟨(top s).toReal, (EReal.coe_toReal h1 h2).symm⟩

theorem total_ne_zero (h : Fine s) : ∑ j, weight s j ≠ 0 := by
  obtain ⟨i, hi, r, hr⟩ := h
  have hpos : 0 < weight s i := by
    unfold weight
    rw [if_pos (keep_of_top s hi), hi, hr]
    obtain ⟨y, hy⟩ := div_T_coe r
    rw [hy, ← EReal.coe_sub, exp_coe]
    exact EReal.coe_pos.mpr (Real.exp_pos _)
  exact (lt_of_lt_of_le hpos (single_le_sum (fun j _ => weight_nonneg s j) (mem_univ i))).ne'

end

section

variable {ι κ : Type} [Fintype ι] [Fintype κ] {s : ι → EReal} {s' : κ → EReal} {e : ι → κ}

variable (he : Function.Injective e) (hon : ∀ i, s' (e i) = s i) (hoff : ∀ k, k ∉ Set.range e → s' k = ⊥)

include he hon hoff

theorem above_emb (i : ι) : above s' (e i) = above s i := by
  unfold above
  rw [card_filter, card_filter]
  refine (Fintype.sum_of_injective e he _ _ (fun k hk => ?_) fun j => ?_).symm
  · rw [hoff k hk, if_neg not_lt_bot]
  · rw [hon, hon]

theorem top_emb : top s' = top s := by
  refine le_antisymm (Finset.sup_le fun k _ => ?_) (Finset.sup_le fun i _ => hon i ▸ le_top' s' (e i))
  by_cases hk : k ∈ Set.range e
  · obtain ⟨i, rfl⟩ := hk
    rw [hon]; exact le_top' s i
  · rw [hoff k hk]; exact bot_le

theorem wt_emb (i : ι) : wt s' (e i) = wt s i := by
  unfold wt; rw [above_emb he hon hoff, top_emb he hon hoff, hon]

theorem sum_wt_emb : ∑ k, wt s' k = ∑ i, wt s i :=
  (Fintype.sum_of_injective e he _ _ (fun k hk => wt_bot s' (hoff k hk)) fun i => (wt_emb he hon hoff i).symm).symm

theorem passed_emb (i : ι) : passed s' (e i) = passed s i := by
  unfold passed
  rw [sum_filter, sum_filter]
  refine (Fintype.sum_of_injective e he _ _ (fun k hk => ?_) fun j => ?_).symm
  · rw [hoff k hk, if_neg not_lt_bot]
  · rw [hon, hon, wt_emb he hon hoff]

theorem keep_emb (i : ι) : Keep s' (e i) ↔ Keep s i := by
  unfold Keep; rw [above_emb he hon hoff, passed_emb he hon hoff, sum_wt_emb he hon hoff]

theorem weight_emb (i : ι) : weight s' (e i) = weight s i := by
  unfold weight
  rw [top_emb he hon hoff, hon]
  classical exact if_congr (keep_emb he hon hoff i) rfl rfl

theorem sum_weight_emb : ∑ k, weight s' k = ∑ i, weight s i :=
  (Fintype.sum_of_injective e he _ _ (fun k hk => weight_bot s' (hoff k hk)) fun i => (weight_emb he hon hoff i).symm).symm

theorem prob_emb (i : ι) : prob s' (e i) = prob s i := by
  unfold prob; rw [weight_emb he hon hoff, sum_weight_emb he hon hoff]

theorem prob_off (h : Fine s) (k : κ) (hk : k ∉ Set.range e) : prob s' k = 0 := by
  unfold prob
  rw [weight_bot s' (hoff k hk), sum_weight_emb he hon hoff, Ideal.zero_div (total_ne_zero s h)]

theorem noisy_emb {g : ι → EReal} {g' : κ → EReal} (hg : ∀ i, g' (e i) = g i) (i : ι) : noisy s' g' (e i) = noisy s g i := by
  unfold noisy
  rw [hon, hg]
  classical exact congrArg (· + g i) (if_congr (keep_emb he hon hoff i) rfl rfl)

omit he hon in
theorem noisy_off {g' : κ → EReal} (k : κ) (hk : k ∉ Set.range e) : noisy s' g' k = ⊥ := by
  unfold noisy; rw [hoff k hk, div_T_bot, ite_self, EReal.bot_add]

end

/-- The first largest noisy score of the embedded columns is the first of all. -/
theorem firstMax_emb {n N : ℕ} {s : Fin n → EReal} {s' : Fin N → EReal} {e : Fin n → Fin N} (he : StrictMono e)
    (hon : ∀ i, s' (e i) = s i) (hoff : ∀ k, k ∉ Set.range e → s' k = ⊥) (hs : Fine s)
    {g : Fin n → EReal} {g' : Fin N → EReal} (hg : ∀ i, g' (e i) = g i) (hgr : ∀ i, g i ≠ ⊥) {i : Fin n}
    (h : FirstMax (noisy s g) i) : FirstMax (noisy s' g') (e i) := by
  have hpos : ⊥ < noisy s g i := by
    obtain ⟨k, hk, r, hr⟩ := hs
    refine lt_of_lt_of_le ?_ (h.1 k)
    unfold noisy
    rw [if_pos (keep_of_top s hk), hk, hr]
    obtain ⟨y, hy⟩ := div_T_coe r
    rw [hy, bot_lt_iff_ne_bot]
    intro hb
    rcases EReal.add_eq_bot_iff.mp hb with hb | hb
    · exact EReal.coe_ne_bot _ hb
    · exact hgr k hb
  have hn := noisy_emb he.injective hon hoff hg
  refine ⟨fun k => ?_, fun k hk => ?_⟩
  · by_cases hr : k ∈ Set.range e
    · obtain ⟨j, rfl⟩ := hr
      rw [hn, hn]; exact h.1 j
    · rw [noisy_off hoff k hr]; exact bot_le
  · by_cases hr : k ∈ Set.range e
    · obtain ⟨j, rfl⟩ := hr
      rw [hn, hn]; exact h.2 j (he.lt_iff_lt.mp hk)
    · rw [noisy_off hoff k hr, hn]; exact hpos

end Cert.Row
-- ==== Proof.Scores.lean ====
/- The guided scores of a row over all 151936 columns and over the last 384 of them: the second list is the first read at
   the last columns, and outside them the first is −∞. -/
module

public import proofs.«01_k».proof.Proof.Row
public import Idealize.ShloMosaic.Lib.ValueIdxCore

@[expose] public section

noncomputable section

namespace Cert.Row

open Idealize.ShloMosaic Idealize.ShloMosaic.ValueIdx

/-- The guidance factor. -/
def two : EReal := Ideal.ofBits .f32 0x40000000#32

theorem two_real : ∃ r : ℝ, two = (r : EReal) := by
  refine ⟨(1 : ℝ) * ((2 ^ 23 : ℕ) : ℝ) * (2 : ℝ) ^ ((128 : Int) - 127 - 23), ?_⟩
  simp [two, Ideal.ofBits, Ideal.ieee]

/-- Row `2 r + o` of the logits. -/
def pair (r : Fin 64) (o : Fin 2) : Fin 128 := ⟨2 * r.val + o.val, by omega⟩

/-- The table of logits. -/
abbrev Logits := (⟨2, ![128, 151936]⟩ : Shape).Idx → EReal

/-- The table of noise. -/
abbrev Noise := (⟨2, ![64, 151936]⟩ : Shape).Idx → EReal

/-- The guided logit of a row's column. -/
def guide (x : Logits) (r : Fin 64) (k : Fin 151936) : EReal :=
  x (ix2 (pair r 1) k) + two * (x (ix2 (pair r 0) k) - x (ix2 (pair r 1) k))

/-- A column of the last 384 among all columns. -/
def emb (l : Fin 384) : Fin 151936 := ⟨151552 + l.val, by omega⟩

/-- The row's scores over all columns: −∞ but at 151645 and from 151669 on. -/
def large (x : Logits) (r : Fin 64) (k : Fin 151936) : EReal :=
  if k.val = 151645 ∨ 151669 ≤ k.val then guide x r k else ⊥

/-- The row's scores over the last 384 columns. -/
def small (x : Logits) (r : Fin 64) (l : Fin 384) : EReal :=
  if l.val = 93 ∨ 117 ≤ l.val then guide x r (emb l) else ⊥

theorem emb_strictMono : StrictMono emb := fun a b h => by
  show 151552 + a.val < 151552 + b.val
  have : a.val < b.val := h
  omega

theorem large_emb (x : Logits) (r : Fin 64) (l : Fin 384) : large x r (emb l) = small x r l := by
  unfold large small
  refine if_congr ?_ rfl rfl
  show 151552 + l.val = 151645 ∨ 151669 ≤ 151552 + l.val ↔ _
  omega

theorem mem_emb (k : Fin 151936) (h : 151552 ≤ k.val) : emb ⟨k.val - 151552, by omega⟩ = k :=
  Fin.ext (by show 151552 + (k.val - 151552) = k.val; omega)

theorem large_off (x : Logits) (r : Fin 64) (k : Fin 151936) (h : k ∉ Set.range emb) : large x r k = ⊥ := by
  unfold large
  rw [if_neg]
  intro hk
  exact h ⟨⟨k.val - 151552, by omega⟩, mem_emb k (by omega)⟩

end Cert.Row
-- ==== Proof.PreRead.lean ====
/- The condition on the arguments, read: every logit is a real number, and on each row two
   different candidate columns have different guided scores. -/
module

public import proofs.«01_k».proof.Pre_finite_no_tie
public import proofs.«01_k».proof.Proof.Scores
public import Idealize.ShloMosaic.Lib.IdealHost
public import Idealize.ShloMosaic.Lib.ValueIdxCore
public import Idealize.ShloMosaic.Lib.Pipeline.Value
public import Idealize.ShloMosaic.PureOps.Ideal.Laws

@[expose] public section

noncomputable section

namespace Cert.PreRead

open Cert.Pre_finite_no_tie Idealize.ShloMosaic Idealize.ShloMosaic.ValueIdx

theorem facts : Cert.Pre_finite_no_tie.Facts where
  shapeCasts_S128x151936_S64x2x151936 := by decide
  slices_S64x2x151936_S64x1x291_0_0_151645 := by decide
  shapeCasts_S64x1x291_S64x291 := by decide
  slices_S64x2x151936_S64x1x291_0_1_151645 := by decide
  bcast_S_S64x291 := by decide
  bcast_S_S291 := by decide
  bcast_S291_S291x1_0 := by decide
  bcast_S291_S1x291_1 := by decide
  bcast_S291x1_S291x291_0_1 := by decide
  bcast_S1x291_S291x291_0_1 := by decide
  bcast_S64x291_S64x291x1_0_1 := by decide
  bcast_S64x291_S64x1x291_0_2 := by decide
  bcast_S64x291x1_S64x291x291_0_1_2 := by decide
  bcast_S64x1x291_S64x291x291_0_1_2 := by decide
  bcast_S291x291_S1x291x291_1_2 := by decide
  bcast_S1x291x291_S64x291x291_0_1_2 := by decide
  bcast_S_S128x151936 := by decide

variable [Facts]
open Facts

/-! ## Finite arguments -/

theorem real_of (a : EReal) (h : Ideal.cmp .olt (max a (-a)) (Ideal.ofBits .f32 0x7F800000#32) = 1#1) : a ≠ ⊤ ∧ a ≠ ⊥ := by
  have ht : Ideal.ofBits .f32 0x7F800000#32 = ⊤ := by simp [Ideal.ofBits, Ideal.ieee]
  have hlt : max a (-a) < ⊤ := by
    rw [ht] at h
    by_contra hn
    rw [Ideal.cmp, decide_eq_false hn] at h
    exact absurd h (by decide)
  constructor
  · rintro rfl
    exact absurd (lt_of_le_of_lt (le_max_left _ _) hlt) (lt_irrefl _)
  · rintro rfl
    exact absurd (lt_of_le_of_lt (le_max_right _ _) hlt) (lt_irrefl _)

theorem logits_real (x : Row.Logits) (h : (fn (F := Ideal) x).1 = fun _ => 1#1) (i : S128x151936.Idx) : x i ≠ ⊤ ∧ x i ≠ ⊥ :=
  real_of _ (congrFun h i)

/-! ## No ties -/

/-- Column `151645 + a`. -/
def late (a : Fin 291) : Fin 151936 := ⟨151645 + a.val, by omega⟩

variable {α : Type}

theorem half_at (x : S128x151936.Idx → α) (o : Fin 2) (h : S64x2x151936.Slices ![0, o.val, 151645] S64x1x291) (r : Fin 64) (a : Fin 291) :
    shapeCast S64x291 (extractStridedSlice S64x1x291 ![0, o.val, 151645] (shapeCast S64x2x151936 x shapeCasts_S128x151936_S64x2x151936) h)
      shapeCasts_S64x1x291_S64x291 (ix2 r a) = x (ix2 (Row.pair r o) (late a)) := by
  refine (shapeCast_apply _ _ _ (ix3 r (0 : Fin 1) a) ?_).trans ?_
  · rw [Shape.rowMajor_val_two, Shape.rowMajor_val_three]
    show (r.val * 1 + 0) * 291 + a.val = r.val * 291 + a.val
    omega
  refine (extractStridedSlice_apply _ _ _ _ (ix3 r o (late a)) fun b => ?_).trans ?_
  · match b with
    | ⟨0, _⟩ => show r.val = 0 + r.val; omega
    | ⟨1, _⟩ => show o.val = o.val + 0; omega
    | ⟨2, _⟩ => rfl
  refine shapeCast_apply _ _ _ _ ?_
  rw [Shape.rowMajor_val_two, Shape.rowMajor_val_three]
  show (2 * r.val + o.val) * 151936 + (151645 + a.val) = (r.val * 2 + o.val) * 151936 + (151645 + a.val)
  rw [Nat.mul_comm 2]

theorem first_at (y : S64x291.Idx → α) (r : Fin 64) (a b : Fin 291) :
    broadcastInDim S64x291x291 ![0, 1, 2] bcast_S64x291x1_S64x291x291_0_1_2 (broadcastInDim S64x291x1 ![0, 1] bcast_S64x291_S64x291x1_0_1 y) (ix3 r a b) = y (ix2 r a) := by
  refine (broadcastInDim_apply _ _ _ _ (ix3 r a (0 : Fin 1)) fun c => ?_).trans ?_
  · match c with
    | ⟨0, _⟩ => rfl
    | ⟨1, _⟩ => rfl
    | ⟨2, _⟩ => rfl
  refine broadcastInDim_apply _ _ _ _ (ix2 r a) fun c => ?_
  match c with
  | ⟨0, _⟩ => rfl
  | ⟨1, _⟩ => rfl

theorem second_at (y : S64x291.Idx → α) (r : Fin 64) (a b : Fin 291) :
    broadcastInDim S64x291x291 ![0, 1, 2] bcast_S64x1x291_S64x291x291_0_1_2 (broadcastInDim S64x1x291 ![0, 2] bcast_S64x291_S64x1x291_0_2 y) (ix3 r a b) = y (ix2 r b) := by
  refine (broadcastInDim_apply _ _ _ _ (ix3 r (0 : Fin 1) b) fun c => ?_).trans ?_
  · match c with
    | ⟨0, _⟩ => rfl
    | ⟨1, _⟩ => rfl
    | ⟨2, _⟩ => rfl
  refine broadcastInDim_apply _ _ _ _ (ix2 r b) fun c => ?_
  match c with
  | ⟨0, _⟩ => rfl
  | ⟨1, _⟩ => rfl

theorem pair_at (y : S291x291.Idx → α) (r : Fin 64) (a b : Fin 291) :
    broadcastInDim S64x291x291 ![0, 1, 2] bcast_S1x291x291_S64x291x291_0_1_2 (broadcastInDim S1x291x291 ![1, 2] bcast_S291x291_S1x291x291_1_2 y) (ix3 r a b) = y (ix2 a b) := by
  refine (broadcastInDim_apply _ _ _ _ (ix3 (0 : Fin 1) a b) fun c => ?_).trans ?_
  · match c with
    | ⟨0, _⟩ => rfl
    | ⟨1, _⟩ => rfl
    | ⟨2, _⟩ => rfl
  refine broadcastInDim_apply _ _ _ _ (ix2 a b) fun c => ?_
  match c with
  | ⟨0, _⟩ => rfl
  | ⟨1, _⟩ => rfl

theorem down_at (y : S291.Idx → α) (a b : Fin 291) :
    broadcastInDim S291x291 ![0, 1] bcast_S291x1_S291x291_0_1 (broadcastInDim S291x1 ![0] bcast_S291_S291x1_0 y) (ix2 a b) = y (ix1 a) := by
  refine (broadcastInDim_apply _ _ _ _ (ix2 a (0 : Fin 1)) fun c => ?_).trans ?_
  · match c with
    | ⟨0, _⟩ => rfl
    | ⟨1, _⟩ => rfl
  refine broadcastInDim_apply _ _ _ _ (ix1 a) fun c => ?_
  match c with
  | ⟨0, _⟩ => rfl

theorem across_at (y : S291.Idx → α) (a b : Fin 291) :
    broadcastInDim S291x291 ![0, 1] bcast_S1x291_S291x291_0_1 (broadcastInDim S1x291 ![1] bcast_S291_S1x291_1 y) (ix2 a b) = y (ix1 b) := by
  refine (broadcastInDim_apply _ _ _ _ (ix2 (0 : Fin 1) b) fun c => ?_).trans ?_
  · match c with
    | ⟨0, _⟩ => rfl
    | ⟨1, _⟩ => rfl
  refine broadcastInDim_apply _ _ _ _ (ix1 b) fun c => ?_
  match c with
  | ⟨0, _⟩ => rfl

/-- The guided scores from column 151645 on. -/
def scores (x : Row.Logits) : S64x291.Idx → EReal :=
  let u : S64x291.Idx → EReal := shapeCast S64x291 (extractStridedSlice S64x1x291 ![0, 1, 151645] (shapeCast S64x2x151936 x shapeCasts_S128x151936_S64x2x151936) slices_S64x2x151936_S64x1x291_0_1_151645) shapeCasts_S64x1x291_S64x291
  let c : S64x291.Idx → EReal := shapeCast S64x291 (extractStridedSlice S64x1x291 ![0, 0, 151645] (shapeCast S64x2x151936 x shapeCasts_S128x151936_S64x2x151936) slices_S64x2x151936_S64x1x291_0_0_151645) shapeCasts_S64x1x291_S64x291
  fun j => u j + Row.two * (c j - u j)

theorem scores_at (x : Row.Logits) (r : Fin 64) (a : Fin 291) : scores x (ix2 r a) = Row.guide x r (late a) := by
  unfold Row.guide
  have h1 := half_at x 1 slices_S64x2x151936_S64x1x291_0_1_151645 r a
  have h0 := half_at x 0 slices_S64x2x151936_S64x1x291_0_0_151645 r a
  exact congrArg₂ (fun u c => u + Row.two * (c - u)) h1 h0

/-- Which of those columns are candidates. -/
def cands : S291.Idx → BitVec 1 := fun j =>
  IntOp.ori (IntOp.cmpi .eq (iotaInDim S291 32 0 j) 0#32) (IntOp.cmpi .sge (iotaInDim S291 32 0 j) 24#32)

theorem cands_at (a : Fin 291) (h : a.val = 0 ∨ 24 ≤ a.val) : cands (ix1 a) = 1#1 := by
  show IntOp.ori (IntOp.cmpi .eq (BitVec.ofNat 32 a.val) 0#32) (IntOp.cmpi .sge (BitVec.ofNat 32 a.val) 24#32) = 1#1
  revert a
  decide

/-- Which pairs of columns must differ. -/
def pairs : S291x291.Idx → BitVec 1 := fun j =>
  IntOp.andi (IntOp.andi (broadcastInDim S291x291 ![0, 1] bcast_S291x1_S291x291_0_1 (broadcastInDim S291x1 ![0] bcast_S291_S291x1_0 cands) j)
      (broadcastInDim S291x291 ![0, 1] bcast_S1x291_S291x291_0_1 (broadcastInDim S1x291 ![1] bcast_S291_S1x291_1 cands) j))
    (IntOp.cmpi .ne (broadcastInDim S291x291 ![0, 1] bcast_S291x1_S291x291_0_1 (broadcastInDim S291x1 ![0] bcast_S291_S291x1_0 (iotaInDim S291 32 0)) j)
      (broadcastInDim S291x291 ![0, 1] bcast_S1x291_S291x291_0_1 (broadcastInDim S1x291 ![1] bcast_S291_S1x291_1 (iotaInDim S291 32 0)) j))

theorem pairs_at (a b : Fin 291) (ha : a.val = 0 ∨ 24 ≤ a.val) (hb : b.val = 0 ∨ 24 ≤ b.val) (hab : a ≠ b) : pairs (ix2 a b) = 1#1 := by
  unfold pairs
  rw [down_at, across_at, down_at, across_at, cands_at a ha, cands_at b hb]
  have hne : IntOp.cmpi .ne (iotaInDim S291 32 0 (ix1 a)) (iotaInDim S291 32 0 (ix1 b)) = 1#1 := by
    show IntOp.cmpi .ne (BitVec.ofNat 32 a.val) (BitVec.ofNat 32 b.val) = 1#1
    have h : BitVec.ofNat 32 a.val ≠ BitVec.ofNat 32 b.val := fun h => hab (Fin.ext (by
      have := congrArg BitVec.toNat h
      rwa [BitVec.toNat_ofNat, BitVec.toNat_ofNat, Nat.mod_eq_of_lt (by omega), Nat.mod_eq_of_lt (by omega)] at this))
    show BitVec.ofBool (_ != _) = 1#1
    rw [bne_iff_ne.mpr h]
    rfl
  rw [hne]
  rfl

theorem tie_at (x : Row.Logits) (r : Fin 64) (a b : Fin 291) :
    (fn (F := Ideal) x).2 (ix3 r a b) = ~~~(IntOp.andi (Ideal.cmp .oeq (Row.guide x r (late a)) (Row.guide x r (late b))) (pairs (ix2 a b))) := by
  rw [← scores_at, ← scores_at, ← first_at (scores x) r a b, ← second_at (scores x) r a b, ← pair_at pairs r a b]
  rfl

theorem no_tie (x : Row.Logits) (h : (fn (F := Ideal) x).2 = fun _ => 1#1) (r : Fin 64) (a b : Fin 291)
    (ha : a.val = 0 ∨ 24 ≤ a.val) (hb : b.val = 0 ∨ 24 ≤ b.val) (e : Row.guide x r (late a) = Row.guide x r (late b)) : a = b := by
  by_contra hab
  have h1 := (tie_at x r a b).symm.trans (congrFun h (ix3 r a b))
  have he : Ideal.cmp .oeq (Row.guide x r (late a)) (Row.guide x r (late b)) = 1#1 := by simp only [Ideal.cmp, decide_eq_true e]; rfl
  rw [pairs_at a b ha hb hab, he] at h1
  exact absurd h1 (by decide)

/-! ## The rows -/

theorem guide_real (x : Row.Logits) (hx : ∀ i, x i ≠ ⊤ ∧ x i ≠ ⊥) (r : Fin 64) (k : Fin 151936) : ∃ t : ℝ, Row.guide x r k = (t : EReal) := by
  obtain ⟨w, hw⟩ := Row.two_real
  have hr : ∀ i, ∃ t : ℝ, x i = (t : EReal) := fun i => ⟨(x i).toReal, (EReal.coe_toReal (hx i).1 (hx i).2).symm⟩
  obtain ⟨u, hu⟩ := hr (ix2 (Row.pair r 1) k)
  obtain ⟨c, hc⟩ := hr (ix2 (Row.pair r 0) k)
  exact ⟨u + w * (c - u), by unfold Row.guide; rw [hu, hc, hw, ← EReal.coe_sub, ← EReal.coe_mul, ← EReal.coe_add]⟩

theorem fine_small (x : Row.Logits) (hx : ∀ i, x i ≠ ⊤ ∧ x i ≠ ⊥) (r : Fin 64) : Row.Fine (Row.small x r) := by
  refine Row.fine_of (i := ⟨93, by omega⟩) _ (fun l => ?_) ?_
  · unfold Row.small
    split
    · obtain ⟨t, ht⟩ := guide_real x hx r (Row.emb l)
      rw [ht]; exact EReal.coe_ne_top t
    · exact bot_ne_top
  · unfold Row.small
    rw [if_pos (.inl rfl)]
    obtain ⟨t, ht⟩ := guide_real x hx r (Row.emb ⟨93, by omega⟩)
    rw [ht]; exact EReal.coe_ne_bot t

theorem fine_large (x : Row.Logits) (hx : ∀ i, x i ≠ ⊤ ∧ x i ≠ ⊥) (r : Fin 64) : Row.Fine (Row.large x r) := by
  refine Row.fine_of (i := ⟨151645, by omega⟩) _ (fun k => ?_) ?_
  · unfold Row.large
    split
    · obtain ⟨t, ht⟩ := guide_real x hx r k
      rw [ht]; exact EReal.coe_ne_top t
    · exact bot_ne_top
  · unfold Row.large
    rw [if_pos (.inl rfl)]
    obtain ⟨t, ht⟩ := guide_real x hx r ⟨151645, by omega⟩
    rw [ht]; exact EReal.coe_ne_bot t

theorem large_distinct (x : Row.Logits) (h : (fn (F := Ideal) x).2 = fun _ => 1#1) (r : Fin 64) (k l : Fin 151936)
    (e : Row.large x r k = Row.large x r l) (hk : Row.large x r k ≠ ⊥) : k = l := by
  have hl : Row.large x r l ≠ ⊥ := fun h' => hk (e.trans h')
  have hcand : ∀ j : Fin 151936, Row.large x r j ≠ ⊥ → ∃ a : Fin 291, late a = j ∧ (a.val = 0 ∨ 24 ≤ a.val) ∧ Row.large x r j = Row.guide x r (late a) := fun j hj => by
    unfold Row.large at hj ⊢
    by_cases hc : j.val = 151645 ∨ 151669 ≤ j.val
    · have ha : late ⟨j.val - 151645, by omega⟩ = j := Fin.ext (by show 151645 + (j.val - 151645) = j.val; omega)
      exact ⟨⟨j.val - 151645, by omega⟩, ha, by show j.val - 151645 = 0 ∨ 24 ≤ j.val - 151645; omega, by rw [if_pos hc, ha]⟩
    · rw [if_neg hc] at hj; exact absurd rfl hj
  obtain ⟨a, rfl, ha, ea⟩ := hcand k hk
  obtain ⟨b, rfl, hb, eb⟩ := hcand l hl
  rw [no_tie x h r a b ha hb (ea.symm.trans (e.trans eb))]

end Cert.PreRead
-- ==== Proof.Search.lean ====
/- A bitwise search over 32-bit words, highest bit first: it finds the largest word that has a property kept by every
   smaller word. -/
module

public import Idealize.ShloMosaic.Lib.IdealHost

@[expose] public section

namespace Cert.Search

/-- One step: the word with one more bit if it has the property, else the word. -/
def step (P : BitVec 32 → Prop) [DecidablePred P] (t w : BitVec 32) : BitVec 32 := if P (t ||| w) then t ||| w else t

/-- The one-bit words below bit `n`, highest first. -/
def bits (n : ℕ) : List (BitVec 32) := (List.range n).reverse.map fun k => BitVec.twoPow 32 k

/-- What the search knows with `n` bits still to try. -/
structure Known (P : BitVec 32 → Prop) (n : ℕ) (t : BitVec 32) : Prop where
  mult : ∃ a, t.toNat = 2 ^ n * a
  low : ∀ v : BitVec 32, v ≠ 0 → v.toNat ≤ t.toNat → P v
  high : ∀ v : BitVec 32, t.toNat + 2 ^ n ≤ v.toNat → ¬ P v

variable {P : BitVec 32 → Prop} [DecidablePred P]

theorem known_step (anti : ∀ u v : BitVec 32, u.toNat ≤ v.toNat → P v → P u) {n : ℕ} (hn : n < 32) {t : BitVec 32}
    (h : Known P (n + 1) t) : Known P n (step P t (BitVec.twoPow 32 n)) := by
  obtain ⟨a, ha⟩ := h.mult
  have hw : (BitVec.twoPow 32 n).toNat = 2 ^ n := by
    rw [BitVec.toNat_twoPow]
    exact Nat.mod_eq_of_lt (Nat.pow_lt_pow_right (by decide) hn)
  have hu : (t ||| BitVec.twoPow 32 n).toNat = t.toNat + 2 ^ n := by
    rw [BitVec.toNat_or, hw, ha]
    exact (Nat.two_pow_add_eq_or_of_lt (Nat.pow_lt_pow_right (by decide) (Nat.lt_succ_self n)) a).symm
  have hs : 2 ^ (n + 1) = 2 ^ n + 2 ^ n := by rw [pow_succ]; ring
  unfold step
  split
  · rename_i hp
    refine ⟨⟨2 * a + 1, ?_⟩, fun v _ hv => anti v _ hv hp, fun v hv => h.high v ?_⟩
    · rw [hu, ha, hs]; ring
    · rw [hu] at hv; omega
  · rename_i hp
    exact ⟨⟨2 * a, by rw [ha, hs]; ring⟩, h.low, fun v hv hpv => hp (anti _ v (by rw [hu]; exact hv) hpv)⟩

theorem known_bits (anti : ∀ u v : BitVec 32, u.toNat ≤ v.toNat → P v → P u) (n : ℕ) (hn : n ≤ 32) (t : BitVec 32)
    (h : Known P n t) : Known P 0 ((bits n).foldl (step P) t) := by
  induction n generalizing t with
  | zero => exact h
  | succ n ih =>
    have e : bits (n + 1) = BitVec.twoPow 32 n :: bits n := by
      unfold bits; rw [List.range_succ, List.reverse_append]; rfl
    rw [e, List.foldl_cons]
    exact ih (Nat.le_of_succ_le hn) _ (known_step anti hn h)

/-- The search finds the largest word with the property. -/
theorem search_iff (anti : ∀ u v : BitVec 32, u.toNat ≤ v.toNat → P v → P u) {v : BitVec 32} (hv : v ≠ 0) :
    P v ↔ v.toNat ≤ ((bits 32).foldl (step P) 0).toNat := by
  have h := known_bits anti 32 le_rfl 0 ⟨⟨0, by simp⟩, fun v hv h => absurd (BitVec.eq_of_toNat_eq (by simpa using h)) hv,
    fun v hv => absurd v.isLt (by simpa using hv)⟩
  refine ⟨fun hp => ?_, h.low v hv⟩
  by_contra hlt
  exact h.high v (by simp at hlt ⊢; omega) hp

end Cert.Search
-- ==== Proof.BlockIndex.lean ====
/- The stages of the kernel's block read at an index over the extended reals: ranks, counts, row sums and maxima, and
   what the two bitwise searches find. -/
module

public import proofs.«01_k».proof.Proof.BlockOps
public import proofs.«01_k».proof.Proof.Search
public import proofs.«01_k».proof.Proof.Row
public import Idealize.ShloMosaic.Lib.WordSum
public import Idealize.ShloMosaic.Lib.Routing.Ops
public import Idealize.ShloMosaic.PureOps.Ideal.Laws

@[expose] public section

noncomputable section

namespace Cert.BlockOps

open Cert.KernelIdeal Cert.KernelIdeal.Gen Idealize.ShloMosaic Idealize.ShloMosaic.ValueIdx Finset

/-! ## Layout -/

theorem column_at {α : Type} (x : S64.Idx → α) (r : Fin 64) : shapeCast S64x1 x shapeCasts_S64_S64x1 (ix2 r (0 : Fin 1)) = x (ix1 r) :=
  Routing.cast12 x _ r 0 r (by simp)

theorem across_at {α : Type} (x : S64x1.Idx → α) (r : Fin 64) (l : Fin 384) :
    broadcastTo S64x384 x broadcasts_S64x1_S64x384 (ix2 r l) = x (ix2 r (0 : Fin 1)) :=
  broadcastTo_apply x _ _ _ fun a => match a with
    | ⟨0, _⟩ => rfl
    | ⟨1, _⟩ => rfl

theorem lanes_at {α : Type} (x : S64x1.Idx → α) (r : Fin 64) (l : Fin 128) :
    broadcastTo S64x128 x broadcasts_S64x1_S64x128 (ix2 r l) = x (ix2 r (0 : Fin 1)) :=
  broadcastTo_apply x _ _ _ fun a => match a with
    | ⟨0, _⟩ => rfl
    | ⟨1, _⟩ => rfl

theorem along_first {α : Type} (x : S64x384.Idx → α) (r : Fin 64) (a b : Fin 384) :
    broadcastTo S64x384x384 (shapeCast S64x384x1 x shapeCasts_S64x384_S64x384x1) broadcasts_S64x384x1_S64x384x384 (ix3 r a b) = x (ix2 r a) := by
  refine (broadcastTo_apply _ _ _ (ix3 r a (0 : Fin 1)) fun c => ?_).trans (shapeCast_apply x _ _ _ ?_)
  · match c with
    | ⟨0, _⟩ => rfl
    | ⟨1, _⟩ => rfl
    | ⟨2, _⟩ => rfl
  · rw [Shape.rowMajor_val_two, Shape.rowMajor_val_three]
    show r.val * 384 + a.val = (r.val * 384 + a.val) * 1 + 0
    omega

theorem along_second {α : Type} (x : S64x384.Idx → α) (r : Fin 64) (a b : Fin 384) :
    broadcastTo S64x384x384 (shapeCast S64x1x384 x shapeCasts_S64x384_S64x1x384) broadcasts_S64x1x384_S64x384x384 (ix3 r a b) = x (ix2 r b) := by
  refine (broadcastTo_apply _ _ _ (ix3 r (0 : Fin 1) b) fun c => ?_).trans (shapeCast_apply x _ _ _ ?_)
  · match c with
    | ⟨0, _⟩ => rfl
    | ⟨1, _⟩ => rfl
    | ⟨2, _⟩ => rfl
  · rw [Shape.rowMajor_val_two, Shape.rowMajor_val_three]
    show r.val * 384 + b.val = (r.val * 1 + 0) * 384 + b.val
    omega

theorem lift_row (r : Fin 64) (k : Fin 384) : (reduces_S64x384_S64 : S64x384.Reduces [1] S64).lift (ix1 r) k = ix2 r k :=
  funext fun a => Fin.ext (match a with
    | ⟨0, _⟩ => rfl
    | ⟨1, _⟩ => rfl)

theorem lift_slab (r : Fin 64) (l k : Fin 384) :
    (reduces_S64x384x384_S64x384 : S64x384x384.Reduces [1] S64x384).lift (ix2 r l) k = ix3 r k l :=
  funext fun a => Fin.ext (match a with
    | ⟨0, _⟩ => rfl
    | ⟨1, _⟩ => rfl
    | ⟨2, _⟩ => rfl)

/-! ## Reductions -/

theorem ofBool_one (b : Bool) : BitVec.ofBool b = 1#1 ↔ b = true := by cases b <;> decide

theorem cmpi_at {s : Shape} {n : ℕ} (p : CmpIPredicate) (x y : IVec s n) (j : s.Idx) : cmpi p x y j = IntOp.cmpi p (x j) (y j) := rfl

/-- A sum of bits counts the true ones. -/
theorem toNat_count {s t : Shape} {a : Fin s.rank} (msk : IVec s 1) (hw : 1 < 32) (h : s.Reduces [a] t) (hn : s.size a < 2 ^ 32) (j : t.Idx) :
    (multiReductionI .add [a] t (extui 32 msk hw) 0#32 h rfl j).toNat = (univ.filter fun k : Fin (s.size a) => msk (h.lift j k) = 1#1).card := by
  have hb : ∀ i, (extui 32 msk hw i).toNat = if msk i = 1#1 then 1 else 0 := fun i => by
    show ((msk i).setWidth 32).toNat = _
    generalize msk i = b
    revert b; decide
  have e : ∑ i ∈ univ.filter (fun i => h.drop i = j), (extui 32 msk hw i).toNat
      = (univ.filter fun k : Fin (s.size a) => msk (h.lift j k) = 1#1).card := by
    rw [h.sum_filter_drop_single (fun i => (extui 32 msk hw i).toNat) j, card_filter]
    exact sum_congr rfl fun k _ => hb _
  have hlt : (univ.filter fun k : Fin (s.size a) => msk (h.lift j k) = 1#1).card < 2 ^ 32 :=
    lt_of_le_of_lt (card_le_univ _) (by rw [Fintype.card_fin]; exact hn)
  rw [WordSum.toNat_multiReductionI_add _ h rfl j (by rw [e]; exact hlt), e]

theorem rowSum_at (q : FVec Ideal S64x384 .f32) (r : Fin 64) : rowSum q (ix2 r (0 : Fin 1)) = ∑ l : Fin 384, q (ix2 r l) := by
  unfold rowSum
  rw [column_at]
  refine (Ideal.multiReduction_add_single q 0#32 reduces_S64x384_S64 (.inl rfl) rfl (ix1 r)).trans ?_
  exact sum_congr rfl fun l _ => congrArg q (lift_row r l)

theorem negInf_bits : Ideal.ofBits .f32 0xFF800000#32 = ⊥ := by simp [Ideal.ofBits, Ideal.ieee]

theorem top_at (v : FVec Ideal S64x384 .f32) (r : Fin 64) : top v (ix2 r (0 : Fin 1)) = Row.top fun l : Fin 384 => v (ix2 r l) := by
  unfold top
  rw [column_at]
  refine (Ideal.multiReduction_maximumf_single v 0xFF800000#32 reduces_S64x384_S64 (.inl rfl) rfl (ix1 r)).trans ?_
  show Finset.univ.fold max (Ideal.ofBits .f32 0xFF800000#32) _ = _
  rw [negInf_bits]
  refine (congrArg (fun f => Finset.univ.fold max (⊥ : EReal) f) (funext fun l : Fin 384 => congrArg v (lift_row r l))).trans rfl

/-! ## The rank -/

variable (v : FVec Ideal S64x384 .f32) (r : Fin 64)

theorem rank_at (l : Fin 384) : (rank v (ix2 r l)).toNat = (univ.filter fun k : Fin 384 => v (ix2 r k) ≤ v (ix2 r l)).card := by
  unfold rank
  rw [toNat_count _ _ _ (by decide)]
  refine congrArg card (filter_congr fun (k : Fin 384) _ => ?_)
  rw [show (reduces_S64x384x384_S64x384 : S64x384x384.Reduces [1] S64x384).lift (ix2 r l) k = ix3 r k l from lift_slab r l k]
  show FloatOps.cmpf .ole _ _ = 1#1 ↔ _
  rw [along_first, along_second]
  show Ideal.cmp .ole _ _ = 1#1 ↔ _
  unfold Ideal.cmp
  rw [ofBool_one, decide_eq_true_iff]

theorem rank_lt_iff (l k : Fin 384) : (rank v (ix2 r l)).toNat < (rank v (ix2 r k)).toNat ↔ v (ix2 r l) < v (ix2 r k) := by
  rw [rank_at, rank_at]
  refine ⟨fun h => ?_, fun h => ?_⟩
  · by_contra hn
    rw [not_lt] at hn
    exact absurd h (not_lt.mpr (card_le_card fun j hj => by
      rw [mem_filter] at hj ⊢; exact ⟨hj.1, hj.2.trans hn⟩))
  · refine card_lt_card ⟨fun j hj => ?_, fun hs => ?_⟩
    · rw [mem_filter] at hj ⊢; exact ⟨hj.1, hj.2.trans h.le⟩
    · have := hs (show k ∈ univ.filter _ from mem_filter.mpr ⟨mem_univ k, le_refl (v (ix2 r k))⟩)
      exact absurd (mem_filter.mp this).2 (not_le.mpr h)

theorem rank_pos (l : Fin 384) : rank v (ix2 r l) ≠ 0 := by
  intro h
  have h2 := rank_at v r l
  rw [h] at h2
  have : (univ.filter fun k : Fin 384 => v (ix2 r k) ≤ v (ix2 r l)).card = 0 := h2.symm
  rw [card_eq_zero, filter_eq_empty_iff] at this
  exact this (mem_univ l) (le_refl _)

theorem rank_le (l : Fin 384) : (rank v (ix2 r l)).toNat ≤ 384 := by
  rw [rank_at]; exact (card_le_univ _).trans (by simp)

/-! ## The searches -/

theorem words_eq : words = Search.bits 32 := by decide

variable (key : IVec S64x384 32)

/-- Fifty keys of the row reach the word. -/
def Fifty (w : BitVec 32) : Prop := 50 ≤ (univ.filter fun l : Fin 384 => w.toNat ≤ (key (ix2 r l)).toNat).card

instance : DecidablePred (Fifty r key) := fun _ => by unfold Fifty; infer_instance

theorem countAt_at (u : IVec S64x1 32) : (countAt key u (ix2 r (0 : Fin 1))).toNat
    = (univ.filter fun l : Fin 384 => (u (ix2 r (0 : Fin 1))).toNat ≤ (key (ix2 r l)).toNat).card := by
  unfold countAt
  rw [column_at, toNat_count _ _ _ (by decide)]
  refine congrArg card (filter_congr fun (k : Fin 384) _ => ?_)
  rw [show (reduces_S64x384_S64 : S64x384.Reduces [1] S64).lift (ix1 r) k = ix2 r k from lift_row r k]
  show IntOp.cmpi .uge _ _ = 1#1 ↔ _
  rw [across_at]
  unfold IntOp.cmpi
  rw [ofBool_one, BitVec.ule_iff_toNat_le]

theorem pickCount_at (u t : IVec S64x1 32) : pickCount key u t (ix2 r (0 : Fin 1))
    = if Fifty r key (u (ix2 r (0 : Fin 1))) then u (ix2 r (0 : Fin 1)) else t (ix2 r (0 : Fin 1)) := by
  unfold pickCount
  rw [select_apply]
  unfold Scalar.select
  refine if_congr ?_ rfl rfl
  unfold Fifty
  rw [← countAt_at, cmpi_at]
  have hle : (countAt key u (ix2 r (0 : Fin 1))).toNat ≤ 384 := by
    rw [countAt_at]; exact (card_le_univ _).trans (by simp)
  unfold IntOp.cmpi
  change BitVec.ofBool _ = 1#1 ↔ _
  rw [ofBool_one, broadcast_apply, BitVec.sle_iff_toInt_le, BitVec.toInt_eq_toNat_of_lt (x := countAt key u (ix2 r (0 : Fin 1))) (by omega)]
  show (50 : ℤ) ≤ _ ↔ _
  omega

theorem countFrom_at (ws : List (BitVec 32)) :
    countFrom key ws (ix2 r (0 : Fin 1)) = ws.foldl (Search.step (Fifty r key)) 0 := by
  unfold countFrom
  have h : ∀ (ws : List (BitVec 32)) (t : IVec S64x1 32) (t' : BitVec 32), t (ix2 r (0 : Fin 1)) = t' →
      ws.foldl (stepCount key) t (ix2 r (0 : Fin 1)) = ws.foldl (Search.step (Fifty r key)) t' := by
    intro ws
    induction ws with
    | nil => exact fun t t' h => h
    | cons w ws ih =>
      intro t t' h
      rw [List.foldl_cons, List.foldl_cons]
      refine ih _ _ ?_
      unfold stepCount
      rw [pickCount_at]
      show (if Fifty r key (t (ix2 r (0 : Fin 1)) ||| w) then t (ix2 r (0 : Fin 1)) ||| w else t (ix2 r (0 : Fin 1))) = _
      rw [h]; rfl
  exact h ws _ _ rfl

theorem fifty_anti (u w : BitVec 32) (h : u.toNat ≤ w.toNat) (hw : Fifty r key w) : Fifty r key u :=
  hw.trans (card_le_card fun l hl => by rw [mem_filter] at hl ⊢; exact ⟨hl.1, h.trans hl.2⟩)

/-- The first threshold keeps exactly the keys with fewer than fifty larger ones. -/
theorem reach_at (hk : ∀ l, (key (ix2 r l)).toNat ≤ 384) (l : Fin 384) : reach key (ix2 r l) = 1#1
    ↔ (univ.filter fun k : Fin 384 => (key (ix2 r l)).toNat < (key (ix2 r k)).toNat).card < 50 := by
  unfold reach
  show IntOp.cmpi .uge _ _ = 1#1 ↔ _
  rw [across_at, countFrom_at, words_eq]
  unfold IntOp.cmpi
  rw [ofBool_one, BitVec.ule_iff_toNat_le]
  have hs : (key (ix2 r l) + 1#32).toNat = (key (ix2 r l)).toNat + 1 := by
    rw [BitVec.toNat_add]
    exact Nat.mod_eq_of_lt (by have := hk l; show _ + 1 < 2 ^ 32; omega)
  have hne : key (ix2 r l) + 1#32 ≠ 0 := fun e => by rw [e] at hs; simp at hs
  have := Search.search_iff (fifty_anti r key) hne
  rw [hs] at this
  unfold Fifty at this
  rw [hs] at this
  have h2 : (univ.filter fun k : Fin 384 => (key (ix2 r l)).toNat < (key (ix2 r k)).toNat)
      = univ.filter fun k : Fin 384 => (key (ix2 r l)).toNat + 1 ≤ (key (ix2 r k)).toNat := rfl
  rw [h2, ← not_le, this]
  unfold Fifty
  omega

variable (q : FVec Ideal S64x384 .f32) (l : FVec Ideal S64x1 .f32)

/-- The mass above the word exceeds the limit. -/
def Heavy (w : BitVec 32) : Prop :=
  l (ix2 r (0 : Fin 1)) < ∑ k ∈ univ.filter (fun k : Fin 384 => w.toNat < (key (ix2 r k)).toNat), q (ix2 r k)

instance : DecidablePred (Heavy r key q l) := fun _ => Classical.dec _

theorem pickMass_at (u t : IVec S64x1 32) : pickMass key q l u t (ix2 r (0 : Fin 1))
    = if Heavy r key q l (u (ix2 r (0 : Fin 1))) then u (ix2 r (0 : Fin 1)) else t (ix2 r (0 : Fin 1)) := by
  unfold pickMass
  show (if FloatOps.cmpf .ogt _ _ = 1 then _ else _) = _
  refine if_congr ?_ rfl rfl
  unfold Heavy
  rw [rowSum_at]
  show Ideal.cmp .ogt _ _ = 1#1 ↔ _
  unfold Ideal.cmp
  rw [ofBool_one, decide_eq_true_iff, sum_filter]
  refine iff_of_eq (congrArg (l (ix2 r (0 : Fin 1)) < ·) (sum_congr rfl fun k _ => ?_))
  show (if IntOp.cmpi .ugt _ _ = 1 then q (ix2 r k) else Ideal.ofBits .f32 0x00000000#32) = _
  rw [across_at, Ideal.ofBits_zero_f32]
  refine if_congr ?_ rfl rfl
  unfold IntOp.cmpi
  show BitVec.ofBool _ = 1#1 ↔ _
  rw [ofBool_one, BitVec.ult_iff_toNat_lt]

theorem massFrom_at (ws : List (BitVec 32)) :
    massFrom key q l ws (ix2 r (0 : Fin 1)) = ws.foldl (Search.step (Heavy r key q l)) 0 := by
  unfold massFrom
  have h : ∀ (ws : List (BitVec 32)) (t : IVec S64x1 32) (t' : BitVec 32), t (ix2 r (0 : Fin 1)) = t' →
      ws.foldl (stepMass key q l) t (ix2 r (0 : Fin 1)) = ws.foldl (Search.step (Heavy r key q l)) t' := by
    intro ws
    induction ws with
    | nil => exact fun t t' h => h
    | cons w ws ih =>
      intro t t' h
      rw [List.foldl_cons, List.foldl_cons]
      refine ih _ _ ?_
      unfold stepMass
      rw [pickMass_at]
      show (if Heavy r key q l (t (ix2 r (0 : Fin 1)) ||| w) then t (ix2 r (0 : Fin 1)) ||| w else t (ix2 r (0 : Fin 1))) = _
      rw [h]; rfl
  exact h ws _ _ rfl

theorem heavy_anti (hq : ∀ k, 0 ≤ q (ix2 r k)) (u w : BitVec 32) (h : u.toNat ≤ w.toNat) (hw : Heavy r key q l w) : Heavy r key q l u :=
  lt_of_lt_of_le hw (sum_le_sum_of_subset_of_nonneg (fun k hk => by
    rw [mem_filter] at hk ⊢; exact ⟨hk.1, lt_of_le_of_lt h hk.2⟩) fun k _ _ => hq k)

/-- Both thresholds: few larger keys, and not too much mass above. -/
theorem keptBits_at (hk : ∀ j, (key (ix2 r j)).toNat ≤ 384) (hq : ∀ k, 0 ≤ q (ix2 r k)) (j : Fin 384) (h0 : key (ix2 r j) ≠ 0) :
    keptBits key q l (ix2 r j) = 1#1 ↔
      (univ.filter fun k : Fin 384 => (key (ix2 r j)).toNat < (key (ix2 r k)).toNat).card < 50 ∧
      ∑ k ∈ univ.filter (fun k : Fin 384 => (key (ix2 r j)).toNat < (key (ix2 r k)).toNat), q (ix2 r k) ≤ l (ix2 r (0 : Fin 1)) := by
  rw [← reach_at r key hk]
  have hand : ∀ a b : BitVec 1, IntOp.andi a b = 1#1 ↔ a = 1#1 ∧ b = 1#1 := by decide
  unfold keptBits
  show IntOp.andi _ (IntOp.cmpi .ugt _ _) = 1#1 ↔ _
  rw [hand, across_at, massFrom_at, words_eq]
  refine and_congr Iff.rfl ?_
  unfold IntOp.cmpi
  rw [ofBool_one, BitVec.ult_iff_toNat_lt]
  have := Search.search_iff (heavy_anti r key q l hq) h0
  rw [← not_le, ← this]
  unfold Heavy
  rw [not_lt]

end Cert.BlockOps
-- ==== Proof.BlockValue.lean ====
/- What the kernel's block computes over the extended reals: the row's probabilities and its sampled column, and the
   scores it reads. -/
module

public import proofs.«01_k».proof.Proof.BlockIndex
public import proofs.«01_k».proof.Proof.KernelRun
public import proofs.«01_k».proof.Proof.Scores

@[expose] public section

noncomputable section

namespace Cert.BlockOps

open Cert.KernelIdeal Cert.KernelIdeal.Gen Idealize.ShloMosaic Idealize.ShloMosaic.ValueIdx Finset

variable (v g : FVec Ideal S64x384 .f32) (r : Fin 64)

/-- Row `r` of a table of 384 columns. -/
abbrev row (v : FVec Ideal S64x384 .f32) (r : Fin 64) : Fin 384 → EReal := fun l => v (ix2 r l)

theorem above_rank (l : Fin 384) :
    (univ.filter fun k : Fin 384 => (rank v (ix2 r l)).toNat < (rank v (ix2 r k)).toNat) = univ.filter fun k => row v r l < row v r k :=
  filter_congr fun k _ => rank_lt_iff v r l k

theorem mass_at (l : Fin 384) : mass v (rank v) (ix2 r l) = Row.wt (row v r) l := by
  unfold mass Row.wt
  rw [select_apply]
  unfold Scalar.select
  refine if_congr ?_ ?_ Ideal.ofBits_zero_f32
  · exact (reach_at r (rank v) (rank_le v r) l).trans (by rw [above_rank]; rfl)
  · show Ideal.exp (v (ix2 r l) - broadcastTo S64x384 (top v) broadcasts_S64x1_S64x384 (ix2 r l)) = _
    rw [across_at, top_at]

theorem limit_at : limit (mass v (rank v)) (ix2 r (0 : Fin 1)) = Row.c * ∑ j, Row.wt (row v r) j := by
  unfold limit
  rw [mulf_apply, rowSum_at]
  exact congrArg (Row.c * ·) (sum_congr rfl fun l _ => mass_at v r l)

theorem kept_at (l : Fin 384) : kept v (ix2 r l) = 1#1 ↔ Row.Keep (row v r) l := by
  unfold kept
  rw [keptBits_at r (rank v) _ _ (rank_le v r) (fun k => by rw [mass_at]; exact Row.wt_nonneg _ k) l (rank_pos v r l), above_rank, limit_at]
  unfold Row.Keep Row.passed
  rw [sum_congr rfl fun k _ => mass_at v r k]
  rfl

theorem scaled_at (l : Fin 384) : k0_pay50 v (ix2 r l) = Ideal.div (row v r l) Row.T := rfl

theorem shifted_at (l : Fin 384) : k0_pay51 v (top v) (ix2 r l) = Ideal.div (row v r l) Row.T - Ideal.div (Row.top (row v r)) Row.T := by
  unfold k0_pay51
  show k0_pay50 v (ix2 r l) - broadcastTo S64x384 _ broadcasts_S64x1_S64x384 (ix2 r l) = _
  rw [across_at, divf_apply, top_at]
  rfl

theorem probs_at (l : Fin 384) : probs v (ix2 r l) = Row.prob (row v r) l := by
  classical
  have hw : ∀ l, select (kept v) (exp (k0_pay51 v (top v))) (zeros (F := Ideal)) (ix2 r l) = Row.weight (row v r) l := fun l => by
    unfold Row.weight
    rw [select_apply]
    unfold Scalar.select
    refine (if_congr (kept_at v r l) ?_ Ideal.ofBits_zero_f32).trans (by congr)
    show Ideal.exp (k0_pay51 v (top v) (ix2 r l)) = _
    rw [shifted_at]
  unfold probs
  show Ideal.div (select (kept v) (exp (k0_pay51 v (top v))) (zeros (F := Ideal)) (ix2 r l))
    (broadcastTo S64x384 (rowSum (select (kept v) (exp (k0_pay51 v (top v))) (zeros (F := Ideal)))) broadcasts_S64x1_S64x384 (ix2 r l)) = _
  rw [across_at, rowSum_at, hw, sum_congr rfl fun l _ => hw l]
  rfl

/-! ## The sampled column -/

/-- The scaled kept scores with the noise. -/
def noised : FVec Ideal S64x384 .f32 := addf (select (kept v) (k0_pay50 v) (broadcast S64x384 (Scalar.ofBits .f32 0xFF800000#32))) g

theorem noised_at (l : Fin 384) : noised v g (ix2 r l) = Row.noisy (row v r) (row g r) l := by
  classical
  unfold noised Row.noisy
  rw [addf_apply, select_apply]
  unfold Scalar.select
  refine congrArg (· + g (ix2 r l)) ((if_congr (kept_at v r l) (scaled_at v r l) ?_).trans (by congr))
  exact negInf_bits

/-- The columns where the row's largest value is met, others a large number. -/
def places : IVec S64x384 32 :=
  select (cmpf .oeq (noised v g) (broadcastTo S64x384 (top (noised v g)) broadcasts_S64x1_S64x384))
    (iota .tc S64x384 32 [1] iota_S64x384_d1_w32) (broadcast S64x384 1073741824#32)

theorem places_at (l : Fin 384) : (places v g (ix2 r l)).toNat
    = if noised v g (ix2 r l) = Row.top (row (noised v g) r) then l.val else 1073741824 := by
  unfold places
  rw [select_apply]
  unfold Scalar.select
  have e : cmpf .oeq (noised v g) (broadcastTo S64x384 (top (noised v g)) broadcasts_S64x1_S64x384) (ix2 r l) = 1
      ↔ noised v g (ix2 r l) = Row.top (row (noised v g) r) := by
    show Ideal.cmp .oeq _ _ = 1#1 ↔ _
    rw [across_at, top_at]
    unfold Ideal.cmp
    rw [ofBool_one, decide_eq_true_iff]
  by_cases h : noised v g (ix2 r l) = Row.top (row (noised v g) r)
  · rw [if_pos h, if_pos (e.mpr h), iota_single_apply]
    show (BitVec.ofNat 32 l.val).toNat = _
    rw [BitVec.toNat_ofNat]
    exact Nat.mod_eq_of_lt (by omega)
  · rw [if_neg h, if_neg (fun h' => h (e.mp h'))]
    rfl

/-- The smaller of two small words as a number. -/
theorem minsi_small (a b : BitVec 32) (ha : a.toNat < 2 ^ 31) (hb : b.toNat < 2 ^ 31) : (IntOp.minsi a b).toNat = min a.toNat b.toNat := by
  unfold IntOp.minsi
  have : a.slt b = decide (a.toNat < b.toNat) := by
    rw [BitVec.slt_eq_decide, BitVec.toInt_eq_toNat_of_lt (by omega), BitVec.toInt_eq_toNat_of_lt (by omega)]
    simp
  rw [this]
  by_cases h : a.toNat < b.toNat
  · simp [h]; omega
  · simp [h]; omega

theorem least_at (f : IVec S64x384 32) (hf : ∀ l : Fin 384, (f (ix2 r l)).toNat < 2 ^ 31) (l : Fin 384)
    (hl : ∀ k : Fin 384, (f (ix2 r l)).toNat ≤ (f (ix2 r k)).toNat) :
    multiReductionI .minsi [1] S64 f 2147483647#32 reduces_S64x384_S64 rfl (ix1 r) = f (ix2 r l) := by
  have hx : ∀ k : Fin 384, (f ∘ (reduces_S64x384_S64 : S64x384.Reduces [1] S64).lift (ix1 r)) k = f (ix2 r k) := fun k => congrArg f (lift_row r k)
  refine (multiReductionI_eq_fold .minsi f 2147483647#32 reduces_S64x384_S64 rfl (ix1 r)).trans ?_
  refine (Shape.Reduces.fold_filter_drop_single reduces_S64x384_S64 _ _ f (ix1 r)).trans ?_
  have key : ∀ (y : Fin 384 → BitVec 32) (_ : ∀ k, (y k).toNat < 2 ^ 31) (m : ℕ) (_ : ∀ k, m ≤ (y k).toNat) (_ : m < 2 ^ 31) (t : Finset (Fin 384)),
      (t.fold IntOp.minsi 2147483647#32 y).toNat < 2 ^ 31 ∧ m ≤ (t.fold IntOp.minsi 2147483647#32 y).toNat
        ∧ ∀ k ∈ t, (t.fold IntOp.minsi 2147483647#32 y).toNat ≤ (y k).toNat := by
    intro y hy m hm hm' t
    induction t using Finset.induction_on with
    | empty => exact ⟨by show 2147483647 < 2 ^ 31; omega, by show m ≤ 2147483647; omega, fun k hk => absurd hk (notMem_empty k)⟩
    | insert a t ha ih =>
      obtain ⟨h1, h2, h3⟩ := ih
      rw [fold_insert ha, minsi_small _ _ (hy a) h1]
      refine ⟨lt_of_le_of_lt (min_le_left _ _) (hy a), le_min (hm a) h2, fun k hk => ?_⟩
      rcases mem_insert.mp hk with rfl | hk
      · exact min_le_left _ _
      · exact (min_le_right _ _).trans (h3 k hk)
  obtain ⟨-, h2, h3⟩ := key (fun k => f (ix2 r k)) hf _ hl (hf l) univ
  have e : (f ∘ (reduces_S64x384_S64 : S64x384.Reduces [1] S64).lift (ix1 r)) = fun k : Fin 384 => f (ix2 r k) := funext hx
  rw [e]
  exact BitVec.eq_of_toNat_eq (le_antisymm (h3 l (mem_univ l)) h2)

theorem tokens_at (l : Fin 384) (h : Row.FirstMax (Row.noisy (row v r) (row g r)) l) (j : Fin 128) :
    tokens v g (ix2 r j) = BitVec.ofNat 32 (Row.emb l).val := by
  have hn : row (noised v g) r = Row.noisy (row v r) (row g r) := funext fun l => noised_at v g r l
  have ht : Row.top (row (noised v g) r) = noised v g (ix2 r l) :=
    le_antisymm (Finset.sup_le fun k _ => by rw [hn]; exact (h.1 k).trans (noised_at v g r l).ge) (Finset.le_sup (f := row (noised v g) r) (mem_univ l))
  have hl : (places v g (ix2 r l)).toNat = l.val := by rw [places_at, if_pos ht.symm]
  have hs : ∀ k : Fin 384, (places v g (ix2 r k)).toNat < 2 ^ 31 := fun k => by
    rw [places_at]; split
    · omega
    · omega
  have hle : ∀ k : Fin 384, (places v g (ix2 r l)).toNat ≤ (places v g (ix2 r k)).toNat := fun k => by
    rw [hl, places_at]
    split
    · next hk =>
      by_contra hlt
      rw [not_le] at hlt
      have := h.2 k hlt
      rw [← noised_at, ← noised_at, hk, ht] at this
      exact lt_irrefl _ this
    · omega
  unfold tokens
  show broadcastTo S64x128 (shapeCast S64x1 (addi (shapeCast S64x1 (multiReductionI .minsi [1] S64 (places v g) 2147483647#32 reduces_S64x384_S64 rfl)
    shapeCasts_S64_S64x1) (broadcast S64x1 151552#32)) shapeCasts_S64x1_S64x1) broadcasts_S64x1_S64x128 (ix2 r j) = _
  rw [lanes_at, shapeCast_self]
  show _ + 151552#32 = _
  rw [column_at, least_at r (places v g) hs l hle]
  refine BitVec.eq_of_toNat_eq ?_
  rw [BitVec.toNat_add, hl, BitVec.toNat_ofNat]
  show (l.val + 151552) % 2 ^ 32 = (151552 + l.val) % 2 ^ 32
  rw [add_comm]

end Cert.BlockOps
-- ==== Proof.KernelValue.lean ====
/- The kernel's two results read at an index, from the logits and the noise. -/
module

public import proofs.«01_k».proof.Proof.BlockValue

@[expose] public section

noncomputable section

namespace Cert.BlockOps

open Cert.KernelIdeal Cert.KernelIdeal.Gen Idealize.ShloMosaic Idealize.ShloMosaic.ValueIdx Finset

theorem pairs_at {α : Type} (x : S128x151936.Idx → α) (r : Fin 64) (o : Fin 2) (k : Fin 151936) :
    shapeCast S64x2x151936 x shapeCasts_S128x151936_S64x2x151936 (ix3 r o k) = x (ix2 (Row.pair r o) k) := by
  refine shapeCast_apply x _ _ _ ?_
  rw [Shape.rowMajor_val_two, Shape.rowMajor_val_three]
  show (2 * r.val + o.val) * 151936 + k.val = (r.val * 2 + o.val) * 151936 + k.val
  rw [Nat.mul_comm 2]

theorem flat_at {α : Type} (y : S64x1x384.Idx → α) (r : Fin 64) (l : Fin 384) :
    shapeCast S64x384 y shapeCasts_S64x1x384_S64x384 (ix2 r l) = y (ix3 r (0 : Fin 1) l) := by
  refine shapeCast_apply y _ _ _ ?_
  rw [Shape.rowMajor_val_two, Shape.rowMajor_val_three]
  show (r.val * 1 + 0) * 384 + l.val = r.val * 384 + l.val
  omega

theorem condTail_at (x : FVec Ideal S128x151936 .f32) (r : Fin 64) (l : Fin 384) :
    condTail x (ix2 r l) = x (ix2 (Row.pair r 0) (Row.emb l)) := by
  unfold condTail
  rw [flat_at, ← pairs_at x]
  refine extractStridedSlice_apply _ _ _ _ _ fun a => ?_
  match a with
  | ⟨0, _⟩ => show r.val = 0 + r.val; omega
  | ⟨1, _⟩ => rfl
  | ⟨2, _⟩ => rfl

theorem uncTail_at (x : FVec Ideal S128x151936 .f32) (r : Fin 64) (l : Fin 384) :
    uncTail x (ix2 r l) = x (ix2 (Row.pair r 1) (Row.emb l)) := by
  unfold uncTail
  rw [flat_at, ← pairs_at x]
  refine extractStridedSlice_apply _ _ _ _ _ fun a => ?_
  match a with
  | ⟨0, _⟩ => show r.val = 0 + r.val; omega
  | ⟨1, _⟩ => rfl
  | ⟨2, _⟩ => rfl

theorem noiseTail_at (g : FVec Ideal S64x151936 .f32) (r : Fin 64) (l : Fin 384) : noiseTail g (ix2 r l) = g (ix2 r (Row.emb l)) := rfl

theorem ofNat_sle (n k : ℕ) (hn : n < 2 ^ 31) (hk : k < 2 ^ 31) : (BitVec.ofNat 32 k).sle (BitVec.ofNat 32 n) = true ↔ k ≤ n := by
  have h : ∀ m, m < 2 ^ 31 → (BitVec.ofNat 32 m).toNat = m := fun m hm => by
    rw [BitVec.toNat_ofNat]; exact Nat.mod_eq_of_lt (by omega)
  rw [BitVec.sle_iff_toInt_le, BitVec.toInt_eq_toNat_of_lt (by rw [h k hk]; omega), BitVec.toInt_eq_toNat_of_lt (by rw [h n hn]; omega), h k hk, h n hn]
  omega

theorem ofNat_beq (n k : ℕ) (hn : n < 2 ^ 31) (hk : k < 2 ^ 31) : (BitVec.ofNat 32 n == BitVec.ofNat 32 k) = true ↔ n = k := by
  rw [beq_iff_eq]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem scoresOf_at (x : FVec Ideal S128x151936 .f32) (r : Fin 64) : row (scoresOf x) r = Row.small x r := by
  funext l
  show scoresOf x (ix2 r l) = _
  unfold scoresOf scores k0_pay5 Row.small
  show Scalar.select (IntOp.ori (IntOp.cmpi .eq (iota .tc S64x384 32 [1] iota_S64x384_d1_w32 (ix2 r l)) 93#32)
    (IntOp.cmpi .sge (iota .tc S64x384 32 [1] iota_S64x384_d1_w32 (ix2 r l)) 117#32))
    (shapeCast S64x384 (uncTail x) shapeCasts_S64x384_S64x384 (ix2 r l) + Row.two * (shapeCast S64x384 (condTail x) shapeCasts_S64x384_S64x384 (ix2 r l)
      - shapeCast S64x384 (uncTail x) shapeCasts_S64x384_S64x384 (ix2 r l))) (Ideal.ofBits .f32 0xFF800000#32) = _
  rw [shapeCast_self, shapeCast_self, uncTail_at, condTail_at, iota_single_apply, negInf_bits]
  unfold Scalar.select
  refine if_congr ?_ rfl rfl
  have hor : ∀ a b : Bool, IntOp.ori (BitVec.ofBool a) (BitVec.ofBool b) = 1#1 ↔ a = true ∨ b = true := by decide
  unfold IntOp.cmpi
  refine (hor _ _).trans (or_congr ?_ ?_)
  · exact ofNat_beq l.val 93 (by omega) (by omega)
  · exact ofNat_sle l.val 117 (by omega) (by omega)

theorem outProbs_at (x : FVec Ideal S128x151936 .f32) (r : Fin 64) (k : Fin 151936) (h : Row.Fine (Row.small x r)) :
    outProbs x (ix2 r k) = Row.prob (Row.large x r) k := by
  have he := Row.emb_strictMono.injective
  unfold outProbs placed
  by_cases hk : 151552 ≤ k.val
  · rw [dif_pos (show 151552 ≤ ((ix2 r k : S64x151936.Idx) 1).val from hk)]
    refine (probs_at (scoresOf x) r ⟨k.val - 151552, by omega⟩).trans ?_
    rw [scoresOf_at, ← Row.prob_emb he (Row.large_emb x r) (Row.large_off x r), Row.mem_emb k hk]
  · rw [dif_neg (show ¬ 151552 ≤ ((ix2 r k : S64x151936.Idx) 1).val from hk)]
    rw [Row.prob_off he (Row.large_emb x r) (Row.large_off x r) h k ?_]
    · exact Ideal.ofBits_zero_f32
    · rintro ⟨l, rfl⟩
      exact hk (Nat.le_add_right 151552 l.val)

theorem outTokens_at (x : FVec Ideal S128x151936 .f32) (g : FVec Ideal S64x151936 .f32) (r : Fin 64) (l : Fin 384)
    (h : Row.FirstMax (Row.noisy (Row.small x r) fun l => g (ix2 r (Row.emb l))) l) :
    outTokens x g (ix1 r) = BitVec.ofNat 32 (Row.emb l).val := by
  unfold outTokens
  rw [Routing.cast21 _ shapeCasts_S64x1_S64 r (0 : Fin 1) r (by simp)]
  refine (extractStridedSlice_apply _ _ _ _ (ix2 r (0 : Fin 128)) fun a => ?_).trans ?_
  · match a with
    | ⟨0, _⟩ => show r.val = 0 + r.val; omega
    | ⟨1, _⟩ => rfl
  · refine tokens_at _ _ r l ?_ 0
    rw [scoresOf_at]
    have : row (noiseTail g) r = fun l => g (ix2 r (Row.emb l)) := funext fun l => noiseTail_at g r l
    rw [this]
    exact h

end Cert.BlockOps
-- ==== Proof.Sorted.lean ====
/- The nucleus filter as it is defined on a sorted row: with no ties among the scores that stay after the first filter, the
   running mass before a column's sorted position is the mass of the larger scores. -/
module

public import proofs.«01_k».proof.Proof.Row

@[expose] public section

noncomputable section

namespace Cert.Row

open Finset Idealize.ShloMosaic

variable {n : ℕ} (s : Fin n → EReal)

/-- The scores with fewer than fifty larger ones, others −∞. -/
def cut (i : Fin n) : EReal := if above s i < 50 then s i else ⊥

/-- In descending order, a score is below the fiftieth exactly when fifty scores are above it. -/
theorem lt_fiftieth (π : Fin n → Fin n) (hπ : Function.Bijective π) (hd : ∀ p q, p < q → s (π q) ≤ s (π p)) (h50 : 49 < n) (i : Fin n) :
    s i < s (π ⟨49, h50⟩) ↔ ¬ above s i < 50 := by
  have hd' : ∀ p q, p ≤ q → s (π q) ≤ s (π p) := fun p q h => (lt_or_eq_of_le h).elim (hd p q) fun e => by rw [e]
  constructor
  · intro h
    rw [not_lt]
    have hsub : (univ.filter fun p : Fin n => p.val < 50).image π ⊆ univ.filter fun j => s i < s j := fun j hj => by
      obtain ⟨p, hp, rfl⟩ := mem_image.mp hj
      have hp' : p.val < 50 := (mem_filter.mp hp).2
      exact mem_filter.mpr ⟨mem_univ _, lt_of_lt_of_le h (hd' _ _ (Fin.le_def.mpr (by show p.val ≤ 49; omega)))⟩
    have hc : (univ.filter fun p : Fin n => p.val < 50).card = 50 := by
      have hm : (univ.filter fun p : Fin n => p.val < 50) = (univ : Finset (Fin 50)).image (Fin.castLE (by omega : 50 ≤ n)) := by
        ext p
        rw [mem_filter, mem_image]
        constructor
        · rintro ⟨-, hp⟩; exact ⟨⟨p.val, hp⟩, mem_univ _, Fin.ext rfl⟩
        · rintro ⟨q, -, rfl⟩; exact ⟨mem_univ _, q.isLt⟩
      rw [hm, card_image_of_injective _ (Fin.castLE_injective _), card_univ, Fintype.card_fin]
    have := card_le_card hsub
    rw [card_image_of_injective _ hπ.injective, hc] at this
    exact this
  · intro h
    rw [not_lt] at h
    by_contra hn
    rw [not_lt] at hn
    have hsub : (univ.filter fun j => s i < s j) ⊆ (univ.filter fun p : Fin n => p.val < 49).image π := fun j hj => by
      obtain ⟨p, rfl⟩ := hπ.surjective j
      refine mem_image.mpr ⟨p, mem_filter.mpr ⟨mem_univ _, ?_⟩, rfl⟩
      by_contra hp
      exact absurd (mem_filter.mp hj).2 (not_lt.mpr ((hd' ⟨49, h50⟩ p (Fin.le_def.mpr (by show 49 ≤ p.val; omega))).trans hn))
    have hc : (univ.filter fun p : Fin n => p.val < 49).card ≤ 49 := by
      have : (univ.filter fun p : Fin n => p.val < 49).card ≤ (Finset.range 49).card :=
        card_le_card_of_injOn (fun p => p.val) (fun p hp => mem_coe.mpr (mem_range.mpr (mem_filter.mp (mem_coe.mp hp)).2)) (fun a _ b _ h => Fin.ext h)
      rwa [card_range] at this
    have h2 : above s i ≤ 49 := (card_le_card hsub).trans (card_image_le.trans hc)
    omega

variable {s}

theorem cut_of_ne {i : Fin n} (h : cut s i ≠ ⊥) : cut s i = s i ∧ above s i < 50 := by
  unfold cut at h ⊢
  by_cases ha : above s i < 50
  · rw [if_pos ha]; exact ⟨rfl, ha⟩
  · rw [if_neg ha] at h; exact absurd rfl h

theorem cut_le (i : Fin n) : cut s i ≤ s i := by unfold cut; split; exacts [le_refl _, bot_le]

theorem cut_top (i : Fin n) (h : s i = top s) : cut s i = top s := by
  unfold cut; rw [if_pos (by rw [above_of_top s h]; omega), h]

theorem exp_cut (hs : Fine s) (i : Fin n) : Ideal.exp (cut s i - top s) = wt s i := by
  unfold cut wt
  split
  · rfl
  · rw [bot_sub', exp_bot]

theorem top_cut (hs : Fine s) (o : Fin n → Fin n) (ho : Function.Bijective o) : top (fun p => cut s (o p)) = top s := by
  refine le_antisymm (Finset.sup_le fun p _ => (cut_le _).trans (le_top' s _)) ?_
  obtain ⟨i, hi, -⟩ := hs
  obtain ⟨p, rfl⟩ := ho.surjective i
  rw [← cut_top _ hi]
  exact Finset.le_sup (f := fun p => cut s (o p)) (mem_univ p)

/-- The weights are real numbers, with a positive total. -/
theorem wt_real (hs : Fine s) : ∃ w : Fin n → ℝ, (∀ i, wt s i = (w i : EReal)) ∧ (∀ i, 0 ≤ w i) ∧ 0 < ∑ i, w i := by
  obtain ⟨k, hk, t, ht⟩ := hs
  have hx : ∀ i, ∃ w : ℝ, wt s i = (w : EReal) ∧ 0 ≤ w := fun i => by
    unfold wt
    split
    · have hle := le_top' s i
      rw [ht] at hle ⊢
      induction h : s i with
      | bot => exact ⟨0, by rw [bot_sub', exp_bot]; rfl, le_refl _⟩
      | coe a => exact ⟨Real.exp (a - t), by rw [← EReal.coe_sub, exp_coe], (Real.exp_pos _).le⟩
      | top => rw [h] at hle; exact absurd hle (by simp)
    · exact ⟨0, rfl, le_refl _⟩
  choose w hw h0 using hx
  refine ⟨w, hw, h0, Finset.sum_pos' (fun i _ => h0 i) ⟨k, mem_univ k, ?_⟩⟩
  have h1 : wt s k = ((1 : ℝ) : EReal) := by
    unfold wt
    rw [if_pos (by rw [above_of_top s hk]; omega), hk, ht, ← EReal.coe_sub, sub_self, exp_coe, Real.exp_zero]
  have : w k = 1 := EReal.coe_eq_coe_iff.mp ((hw k).symm.trans h1)
  rw [this]; exact one_pos

theorem coe_sum {ι : Type} (t : Finset ι) (w : ι → ℝ) : ((∑ i ∈ t, w i : ℝ) : EReal) = ∑ i ∈ t, (w i : EReal) := by
  classical
  induction t using Finset.induction_on with
  | empty => simp
  | insert a t ha ih => rw [sum_insert ha, sum_insert ha, EReal.coe_add, ih]

/-- A set's share of the total passes the limit exactly when its mass passes the limit times the total. -/
theorem share_lt_iff (hs : Fine s) (t : Finset (Fin n)) :
    c < ∑ j ∈ t, Ideal.div (wt s j) (∑ k, wt s k) ↔ ¬ ∑ j ∈ t, wt s j ≤ c * ∑ k, wt s k := by
  obtain ⟨w, hw, -, hZ⟩ := wt_real hs
  obtain ⟨c', -, hc⟩ := c_real
  have hz : ∑ k, wt s k = ((∑ k, w k : ℝ) : EReal) := by rw [coe_sum]; exact sum_congr rfl fun k _ => hw k
  have ht : ∑ j ∈ t, wt s j = ((∑ j ∈ t, w j : ℝ) : EReal) := by rw [coe_sum]; exact sum_congr rfl fun k _ => hw k
  have hd : ∑ j ∈ t, Ideal.div (wt s j) (∑ k, wt s k) = (((∑ j ∈ t, w j) / ∑ k, w k : ℝ) : EReal) := by
    rw [Finset.sum_div, coe_sum]
    refine sum_congr rfl fun j _ => ?_
    rw [hz, hw j]
    unfold Ideal.div
    rw [if_neg (by rw [← EReal.coe_zero, EReal.coe_eq_coe_iff]; exact hZ.ne'), div_eq_mul_inv, EReal.coe_mul, EReal.coe_inv]
  rw [hd, ht, hz, hc, ← EReal.coe_mul, EReal.coe_lt_coe_iff, EReal.coe_le_coe_iff, not_le, lt_div_iff₀ hZ]

/-- Without ties, the sorted positions before a column's hold exactly the larger scores. -/
theorem before_eq (o : Fin n → Fin n) (ho : Function.Bijective o) (hd : ∀ p q, p < q → cut s (o q) ≤ cut s (o p))
    (hdist : ∀ i j, s i = s j → s i ≠ ⊥ → i = j) (p : Fin n) (hp : cut s (o p) ≠ ⊥) :
    (univ.filter fun q => q < p).image o = univ.filter fun j => s (o p) < s j := by
  obtain ⟨hcp, hap⟩ := cut_of_ne hp
  ext j
  obtain ⟨q, rfl⟩ := ho.surjective j
  rw [mem_image, mem_filter]
  constructor
  · rintro ⟨q', hq', e⟩
    obtain rfl := ho.injective e
    have hlt : q' < p := (mem_filter.mp hq').2
    have hle := hd q' p hlt
    have hne : cut s (o q') ≠ ⊥ := fun h => hp (le_bot_iff.mp (h ▸ hle))
    rw [hcp, (cut_of_ne hne).1] at hle
    refine ⟨mem_univ _, lt_of_le_of_ne hle fun e => ?_⟩
    exact absurd (ho.injective (hdist _ _ e (hcp ▸ hp))) hlt.ne'
  · rintro ⟨-, hlt⟩
    refine ⟨q, mem_filter.mpr ⟨mem_univ _, ?_⟩, rfl⟩
    have ha : above s (o q) < 50 := lt_of_le_of_lt (card_le_card fun k hk => by
      rw [mem_filter] at hk ⊢; exact ⟨hk.1, hlt.trans hk.2⟩) hap
    have hq : cut s (o q) = s (o q) := by unfold cut; rw [if_pos ha]
    by_contra hn
    rcases lt_or_eq_of_le (not_lt.mp hn) with h | h
    · have := hd p q h
      rw [hq, hcp] at this
      exact absurd hlt (not_lt.mpr this)
    · rw [h] at hlt; exact lt_irrefl _ hlt

/-- The columns removed by the running mass are those the row's nucleus does not keep. -/
theorem removed_iff (hs : Fine s) (o : Fin n → Fin n) (ho : Function.Bijective o) (hd : ∀ p q, p < q → cut s (o q) ≤ cut s (o p))
    (hdist : ∀ i j, s i = s j → s i ≠ ⊥ → i = j) (p : Fin n) (hp : cut s (o p) ≠ ⊥) :
    c < ∑ q ∈ univ.filter (fun q => q < p), Ideal.div (wt s (o q)) (∑ k, wt s k) ↔ ¬ Keep s (o p) := by
  have e : ∑ q ∈ univ.filter (fun q => q < p), Ideal.div (wt s (o q)) (∑ k, wt s k)
      = ∑ j ∈ univ.filter (fun j => s (o p) < s j), Ideal.div (wt s j) (∑ k, wt s k) := by
    rw [← before_eq o ho hd hdist p hp, sum_image fun a _ b _ h => ho.injective h]
  rw [e, share_lt_iff hs]
  unfold Keep passed
  rw [not_and]
  exact ⟨fun h _ => h, fun h => h (cut_of_ne hp).2⟩

/-- An increasing arrangement of the numbers below `n` is the identity. -/
theorem id_of_increasing (f : Fin n → Fin n) (hf : ∀ p q, p < q → f p < f q) (p : Fin n) : f p = p := by
  have h1 : ∀ k (hk : k < n), k ≤ (f ⟨k, hk⟩).val := by
    intro k
    induction k with
    | zero => intro _; exact Nat.zero_le _
    | succ k ih =>
      intro hk
      have := ih (by omega)
      have h2 : (f ⟨k, by omega⟩).val < (f ⟨k + 1, hk⟩).val := hf ⟨k, by omega⟩ ⟨k + 1, hk⟩ (Fin.lt_def.mpr (Nat.lt_succ_self k))
      omega
  have h2 : ∀ k (hk : k < n), (f ⟨n - 1 - k, by omega⟩).val ≤ n - 1 - k := by
    intro k
    induction k with
    | zero => intro hk; have := (f ⟨n - 1 - 0, by omega⟩).isLt; omega
    | succ k ih =>
      intro hk
      have := ih (by omega)
      have h2 : (f ⟨n - 1 - (k + 1), by omega⟩).val < (f ⟨n - 1 - k, by omega⟩).val := hf _ _ (Fin.lt_def.mpr (by show n - 1 - (k + 1) < n - 1 - k; omega))
      omega
  have ha := h1 p.val p.isLt
  have hb := h2 (n - 1 - p.val) (by omega)
  have e : (⟨n - 1 - (n - 1 - p.val), by omega⟩ : Fin n) = p := Fin.ext (by show n - 1 - (n - 1 - p.val) = p.val; omega)
  rw [e] at hb
  exact Fin.ext (by have : (f ⟨p.val, p.isLt⟩) = f p := rfl; rw [this] at ha; omega)

/-- Some index is the first with the largest value. -/
theorem exists_firstMax (hn : 0 < n) (f : Fin n → EReal) : ∃ i, FirstMax f i := by
  have hne : (univ.filter fun i => ∀ j, f j ≤ f i).Nonempty := by
    obtain ⟨i, -, hi⟩ := Finset.exists_max_image (univ : Finset (Fin n)) f ⟨⟨0, hn⟩, mem_univ _⟩
    exact ⟨i, mem_filter.mpr ⟨mem_univ _, fun j => hi j (mem_univ j)⟩⟩
  refine ⟨_, (mem_filter.mp (min'_mem _ hne)).2, fun j hj => ?_⟩
  by_contra hle
  rw [not_lt] at hle
  have hm := (mem_filter.mp (min'_mem _ hne)).2
  exact absurd hj (not_lt.mpr (min'_le _ j (mem_filter.mpr ⟨mem_univ _, fun k => (hm k).trans hle⟩)))

end Cert.Row
-- ==== Proof.RefScores.lean ====
/- The reference's stages up to the order of the columns, read at an index over the extended reals: the masked guided
   scores, the scores cut at the fiftieth largest, and the arrangement a sort leaves. -/
module

public import proofs.«01_k».proof.Proof.RefRun
public import proofs.«01_k».proof.Proof.Scores
public import proofs.«01_k».proof.Proof.Sorted
public import Idealize.ShloMosaic.Lib.SortFacts
public import Idealize.ShloMosaic.Lib.Routing.Ops
public import Idealize.ShloMosaic.PureOps.Ideal.Laws

@[expose] public section

noncomputable section

namespace Cert.RefRun

open Cert.ReferenceIdeal Cert.ReferenceIdeal.Gen Idealize.ShloMosaic Idealize.ShloMosaic.ValueIdx Finset

/-! ## Words and constants -/

theorem negInf_bits : Ideal.ofBits .f32 0xFF800000#32 = ⊥ := by simp [Ideal.ofBits, Ideal.ieee]

theorem ofBool_one (b : Bool) : BitVec.ofBool b = 1#1 ↔ b = true := by cases b <;> decide

theorem ofNat_toNat (n : ℕ) (h : n < 2 ^ 31) : (BitVec.ofNat 32 n).toNat = n := by
  rw [BitVec.toNat_ofNat]; exact Nat.mod_eq_of_lt (by omega)

theorem ofNat_toInt (n : ℕ) (h : n < 2 ^ 31) : (BitVec.ofNat 32 n).toInt = n := by
  rw [BitVec.toInt_eq_toNat_of_lt (by rw [ofNat_toNat n h]; omega), ofNat_toNat n h]

theorem slt_ofNat (n k : ℕ) (hn : n < 2 ^ 31) (hk : k < 2 ^ 31) : IntOp.cmpi .slt (BitVec.ofNat 32 n) (BitVec.ofNat 32 k) = 1#1 ↔ n < k := by
  unfold IntOp.cmpi
  rw [ofBool_one, BitVec.slt_iff_toInt_lt, ofNat_toInt n hn, ofNat_toInt k hk]
  omega

/-! ## Layout -/

variable {α β : Type}

theorem rows_at (y : S64x1x151936.Idx → α) (r : Fin 64) (k : Fin 151936) :
    shapeCast S64x151936 y shapeCasts_S64x1x151936_S64x151936 (ix2 r k) = y (ix3 r (0 : Fin 1) k) := by
  refine shapeCast_apply y _ _ _ ?_
  rw [Shape.rowMajor_val_two, Shape.rowMajor_val_three]
  show (r.val * 1 + 0) * 151936 + k.val = r.val * 151936 + k.val
  omega

theorem pairs_at (x : S128x151936.Idx → α) (r : Fin 64) (o : Fin 2) (k : Fin 151936) :
    shapeCast S64x2x151936 x shapeCasts_S128x151936_S64x2x151936 (ix3 r o k) = x (ix2 (Row.pair r o) k) := by
  refine shapeCast_apply x _ _ _ ?_
  rw [Shape.rowMajor_val_two, Shape.rowMajor_val_three]
  show (2 * r.val + o.val) * 151936 + k.val = (r.val * 2 + o.val) * 151936 + k.val
  rw [Nat.mul_comm 2]

theorem pairRow_at (x : S128x151936.Idx → EReal) (o : Fin 2) (r : Fin 64) (k : Fin 151936) :
    pairRow (F := Ideal) o x (ix2 r k) = x (ix2 (Row.pair r o) k) := by
  rw [← pairs_at x]
  unfold pairRow
  have ho : o = 0 ∨ o = 1 := by revert o; decide
  rcases ho with rfl | rfl
  · rw [if_pos rfl, rows_at]
    refine extractStridedSlice_apply _ _ _ _ _ fun a => ?_
    match a with
    | ⟨0, _⟩ => show r.val = 0 + r.val; omega
    | ⟨1, _⟩ => rfl
    | ⟨2, _⟩ => show k.val = 0 + k.val; omega
  · rw [if_neg (by decide), rows_at]
    refine extractStridedSlice_apply _ _ _ _ _ fun a => ?_
    match a with
    | ⟨0, _⟩ => show r.val = 0 + r.val; omega
    | ⟨1, _⟩ => rfl
    | ⟨2, _⟩ => show k.val = 0 + k.val; omega

theorem guided_at (x : S128x151936.Idx → EReal) (r : Fin 64) (k : Fin 151936) :
    guided (F := Ideal) x (ix2 r k) = Row.guide x r k := by
  unfold guided Row.guide
  rw [addf_apply, mulf_apply, subf_apply, pairRow_at, pairRow_at]
  rfl

theorem column_at (v : S64x1.Idx → α) (r : Fin 64) (k : Fin 151936) :
    broadcastInDim S64x151936 ![0, 1] bcast_S64x1_S64x151936_0_1 v (ix2 r k) = v (ix2 r (0 : Fin 1)) :=
  broadcastInDim_apply _ _ _ _ _ fun a => match a with
    | ⟨0, _⟩ => rfl
    | ⟨1, _⟩ => rfl

/-! ## The mask -/

theorem write_miss {ι κ : Type} [DecidableEq κ] (dest : ι → κ) (u : ι → α) (i : κ) (l : List ι) (x : κ → α) (h : ∀ n ∈ l, dest n ≠ i) :
    l.foldl (fun r n => fun i' => if i' = dest n then u n else r i') x i = x i := by
  induction l generalizing x with
  | nil => rfl
  | cons a l ih =>
    rw [List.foldl_cons, ih _ fun n hn => h n (List.mem_cons_of_mem _ hn)]
    exact if_neg fun e => h a List.mem_cons_self e.symm

theorem write_hit {ι κ : Type} [DecidableEq κ] (dest : ι → κ) (hd : Function.Injective dest) (u : ι → α) (n : ι) (l : List ι) (x : κ → α)
    (h : n ∈ l ∨ x (dest n) = u n) : l.foldl (fun r n => fun i' => if i' = dest n then u n else r i') x (dest n) = u n := by
  induction l generalizing x with
  | nil => exact h.resolve_left List.not_mem_nil
  | cons a l ih =>
    rw [List.foldl_cons]
    refine ih _ ?_
    by_cases e : a = n
    · right; rw [e]; exact if_pos rfl
    · rcases h with h | h
      · exact Or.inl ((List.mem_cons.mp h).resolve_left fun h' => e h'.symm)
      · right
        rw [← h]
        exact if_neg fun e' => e (hd e').symm

/-- Every update lands in its own row, at column 151645. -/
theorem lands (r : Fin 64) : scatter_S64x151936_S1_S64_0_1_1_0.resultIdx? (ix1 r) (broadcastInDim S1 ![] bcast_S_S1 (constantI S_ 32 151645#32))
    = some (ix2 r (⟨151645, by omega⟩ : Fin 151936)) := by
  have s0 : scatter_S64x151936_S1_S64_0_1_1_0.start (ix1 r) (broadcastInDim S1 ![] bcast_S_S1 (constantI S_ 32 151645#32)) 0 = 0 := rfl
  have s1 : scatter_S64x151936_S1_S64_0_1_1_0.start (ix1 r) (broadcastInDim S1 ![] bcast_S_S1 (constantI S_ 32 151645#32)) 1 = 151645 := rfl
  have w0 : scatter_S64x151936_S1_S64_0_1_1_0.window (ix1 r) 0 = r.val := rfl
  have w1 : scatter_S64x151936_S1_S64_0_1_1_0.window (ix1 r) 1 = 0 := rfl
  have key : ∀ a, scatter_S64x151936_S1_S64_0_1_1_0.start (ix1 r) (broadcastInDim S1 ![] bcast_S_S1 (constantI S_ 32 151645#32)) a
      + scatter_S64x151936_S1_S64_0_1_1_0.window (ix1 r) a = (((ix2 r (⟨151645, by omega⟩ : Fin 151936) : S64x151936.Idx) a).val : ℤ) := fun a => by
    match a with
    | ⟨0, _⟩ => exact (congrArg₂ (fun (p : ℤ) (q : ℕ) => p + (q : ℤ)) s0 w0).trans (Int.zero_add _)
    | ⟨1, _⟩ => exact (congrArg₂ (fun (p : ℤ) (q : ℕ) => p + (q : ℤ)) s1 w1).trans (Int.add_zero _)
  unfold ScatterDims.resultIdx?
  rw [dif_pos fun a => by
    rw [key a]
    exact ⟨Int.natCast_nonneg _, Int.ofNat_lt.mpr ((ix2 r (⟨151645, by omega⟩ : Fin 151936) : S64x151936.Idx) a).isLt⟩]
  refine congrArg some (funext fun a => Fin.ext ?_)
  exact (congrArg Int.toNat (key a)).trans (Int.toNat_natCast _)

theorem scatter_at (x : S64x151936.Idx → α) (u : S64.Idx → α) (r : Fin 64) (k : Fin 151936) :
    Host.scatter scatter_S64x151936_S1_S64_0_1_1_0 (fun _ b => b) x (broadcastInDim S1 ![] bcast_S_S1 (constantI S_ 32 151645#32)) u (ix2 r k)
      = if k.val = 151645 then u (ix1 r) else x (ix2 r k) := by
  let dest : Fin S64.numel → S64x151936.Idx := fun n => ix2 (S64.rowMajor.symm n 0) (⟨151645, by omega⟩ : Fin 151936)
  have hd : Function.Injective dest := fun a b h => by
    have h0 : S64.rowMajor.symm a 0 = S64.rowMajor.symm b 0 := congrFun h 0
    refine S64.rowMajor.symm.injective (funext fun c => ?_)
    match c with
    | ⟨0, _⟩ => exact h0
  have e : Host.scatter scatter_S64x151936_S1_S64_0_1_1_0 (fun _ b => b) x (broadcastInDim S1 ![] bcast_S_S1 (constantI S_ 32 151645#32)) u
      = (List.finRange S64.numel).foldl (fun r n => fun i' => if i' = dest n then u (S64.rowMajor.symm n) else r i') x := by
    unfold Host.scatter
    refine List.foldl_ext _ _ _ fun r n _ => ?_
    obtain ⟨i, hi⟩ : ∃ i : Fin 64, S64.rowMajor.symm n = ix1 i := ⟨_, eq_ix1 _⟩
    have hdn : dest n = ix2 i (⟨151645, by omega⟩ : Fin 151936) := by
      show ix2 (S64.rowMajor.symm n 0) _ = _
      rw [hi]; rfl
    rw [hdn, hi, lands]
  rw [e]
  by_cases hk : k.val = 151645
  · rw [if_pos hk]
    have hdest : (ix2 r k : S64x151936.Idx) = dest (S64.rowMajor (ix1 r)) := by
      show _ = ix2 (S64.rowMajor.symm (S64.rowMajor (ix1 r)) 0) _
      rw [Equiv.symm_apply_apply]
      exact congrArg (ix2 r) (Fin.ext hk)
    rw [hdest, write_hit dest hd (fun n => u (S64.rowMajor.symm n)) (S64.rowMajor (ix1 r)) _ x (Or.inl (List.mem_finRange _)), Equiv.symm_apply_apply]
  · rw [if_neg hk]
    refine write_miss dest (fun n => u (S64.rowMajor.symm n)) (ix2 r k) _ x fun n _ h => hk ?_
    exact congrArg Fin.val (congrFun h 1).symm

theorem masked_at (x : S128x151936.Idx → EReal) (r : Fin 64) (k : Fin 151936) :
    masked (F := Ideal) (guided (F := Ideal) x) (ix2 r k) = Row.large x r k := by
  unfold masked Row.large
  rw [scatter_at]
  have hu : shapeCast S64 (extractStridedSlice S64x1 ![0, 151645] (guided (F := Ideal) x) slices_S64x151936_S64x1_0_151645) shapeCasts_S64x1_S64 (ix1 r)
      = Row.guide x r (⟨151645, by omega⟩ : Fin 151936) := by
    rw [Routing.cast21 _ shapeCasts_S64x1_S64 r (0 : Fin 1) r (by simp), ← guided_at]
    refine extractStridedSlice_apply _ _ _ _ _ fun a => ?_
    match a with
    | ⟨0, _⟩ => show r.val = 0 + r.val; omega
    | ⟨1, _⟩ => rfl
  by_cases hk : k.val = 151645
  · rw [if_pos hk, if_pos (Or.inl hk)]
    refine hu.trans ?_
    rw [show k = (⟨151645, by omega⟩ : Fin 151936) from Fin.ext hk]
  · rw [if_neg hk, select_apply]
    unfold Scalar.select
    have hc : broadcastInDim S64x151936 ![0, 1] bcast_S1x151936_S64x151936_0_1 (cmpi .slt (broadcastInDim S1x151936 ![1] bcast_S151936_S1x151936_1 (iotaInDim S151936 32 0)) (broadcastInDim S1x151936 ![] bcast_S_S1x151936 (constantI S_ 32 151669#32))) (ix2 r k)
        = IntOp.cmpi .slt (BitVec.ofNat 32 k.val) (BitVec.ofNat 32 151669) := by
      refine (broadcastInDim_apply _ _ _ _ (ix2 (0 : Fin 1) k) fun a => match a with
        | ⟨0, _⟩ => rfl
        | ⟨1, _⟩ => rfl).trans ?_
      show IntOp.cmpi .slt (broadcastInDim S1x151936 ![1] bcast_S151936_S1x151936_1 (iotaInDim S151936 32 0) (ix2 (0 : Fin 1) k)) _ = _
      rw [broadcastInDim_apply _ _ _ _ (ix1 k) fun a => match a with
        | ⟨0, _⟩ => rfl]
      rfl
    rw [hc]
    have hlt : IntOp.cmpi .slt (BitVec.ofNat 32 k.val) (BitVec.ofNat 32 151669) = 1 ↔ k.val < 151669 := slt_ofNat k.val 151669 (by omega) (by omega)
    by_cases hk2 : k.val < 151669
    · rw [if_pos (hlt.mpr hk2), if_neg (by omega)]
      exact negInf_bits
    · rw [if_neg (fun h => hk2 (hlt.mp h)), if_pos (Or.inr (by omega)), guided_at]

/-! ## Sorting -/

theorem along_at (r : Fin 64) (k p : Fin 151936) : (ix2 r k : S64x151936.Idx).along 1 p = ix2 r p := by
  funext a
  match a with
  | ⟨0, _⟩ => rfl
  | ⟨1, _⟩ => rfl

/-- How a sort by `cmp` arranges row `r`. -/
def arrange (cmp : α × β → α × β → BitVec 1) (x : S64x151936.Idx → α) (y : S64x151936.Idx → β) (r : Fin 64) : Fin 151936 → Fin 151936 :=
  sortedFrom fun k k' => cmp (x (ix2 r k), y (ix2 r k)) (x (ix2 r k'), y (ix2 r k')) == 1#1

theorem sort_at (cmp : α × β → α × β → BitVec 1) (x : S64x151936.Idx → α) (y : S64x151936.Idx → β) (r : Fin 64) (k : Fin 151936) :
    (Host.sort2 S64x151936 1 cmp x y).1 (ix2 r k) = x (ix2 r (arrange cmp x y r k))
      ∧ (Host.sort2 S64x151936 1 cmp x y).2 (ix2 r k) = y (ix2 r (arrange cmp x y r k)) := by
  have hd : 1 < S64x151936.rank := by decide
  have hπ : (sortedFrom (n := 151936) fun k' k'' => cmp (x ((ix2 r k : S64x151936.Idx).along 1 k'), y ((ix2 r k : S64x151936.Idx).along 1 k'))
      (x ((ix2 r k : S64x151936.Idx).along 1 k''), y ((ix2 r k : S64x151936.Idx).along 1 k'')) == 1#1) = arrange cmp x y r := by
    unfold arrange
    congr 1
    funext k' k''
    rw [along_at, along_at]
  unfold Host.sort2
  rw [dif_pos hd]
  constructor
  · show x ((ix2 r k : S64x151936.Idx).along 1 (sortedFrom (n := 151936) _ k)) = _
    rw [along_at]
    exact congrArg (fun f : Fin 151936 → Fin 151936 => x (ix2 r (f k))) hπ
  · show y ((ix2 r k : S64x151936.Idx).along 1 (sortedFrom (n := 151936) _ k)) = _
    rw [along_at]
    exact congrArg (fun f : Fin 151936 → Fin 151936 => y (ix2 r (f k))) hπ

theorem arrange_bijective (cmp : α × β → α × β → BitVec 1) (x : S64x151936.Idx → α) (y : S64x151936.Idx → β) (r : Fin 64) :
    Function.Bijective (arrange cmp x y r) := ⟨sortedFrom_injective _, sortedFrom_surjective _⟩

/-- A sort by a strict order on keys leaves no later key before an earlier one. -/
theorem arrange_sorted {κ : Type} [LinearOrder κ] (cmp : α × β → α × β → BitVec 1) (x : S64x151936.Idx → α) (y : S64x151936.Idx → β) (r : Fin 64)
    (key : Fin 151936 → κ) (hcmp : ∀ k k', cmp (x (ix2 r k), y (ix2 r k)) (x (ix2 r k'), y (ix2 r k')) = 1#1 ↔ key k < key k')
    (p q : Fin 151936) (h : p < q) : key (arrange cmp x y r p) ≤ key (arrange cmp x y r q) := by
  have hb : ∀ a b, (cmp (x (ix2 r a), y (ix2 r a)) (x (ix2 r b), y (ix2 r b)) == 1#1) = decide (key a < key b) := fun a b => by
    rw [Bool.eq_iff_iff, beq_iff_eq, decide_eq_true_iff]; exact hcmp a b
  have := sortedFrom_noInversion (fun a b => cmp (x (ix2 r a), y (ix2 r a)) (x (ix2 r b), y (ix2 r b)) == 1#1)
    (fun a b => cmp (x (ix2 r a), y (ix2 r a)) (x (ix2 r b), y (ix2 r b)) == 1#1)
    (fun a b h => by rw [hb, decide_eq_true_iff] at h; rw [hb, decide_eq_false_iff_not]; exact not_lt.mpr h.le) (fun _ _ h => h)
    (fun a b c h1 h2 => by
      rw [hb, decide_eq_false_iff_not, not_lt] at h1 h2 ⊢; exact h2.trans h1) p q h
  rw [hb, decide_eq_false_iff_not, not_lt] at this
  exact this

/-! ## The fiftieth largest score -/

/-- How a descending sort arranges row `r` of the scores. -/
def down (s : S64x151936.Idx → EReal) (r : Fin 64) : Fin 151936 → Fin 151936 :=
  arrange (fun l r : EReal × BitVec 32 => (FloatOps.cmpfTotal (F := Ideal) (φ := .f32) .gt) l.1 r.1) s (iotaInDim S64x151936 32 1) r

theorem fiftieth_at (s : S64x151936.Idx → EReal) (r : Fin 64) :
    fiftieth (F := Ideal) s (ix2 r (0 : Fin 1)) = s (ix2 r (down s r ⟨49, by omega⟩)) := by
  unfold fiftieth
  refine (extractStridedSlice_apply _ _ _ _ (ix2 r (⟨49, by omega⟩ : Fin 50)) fun a => ?_).trans ?_
  · match a with
    | ⟨0, _⟩ => show r.val = 0 + r.val; omega
    | ⟨1, _⟩ => rfl
  show extractStridedSlice S64x50 (fun _ => 0) (Host.sort2 S64x151936 1 (fun l r : EReal × BitVec 32 => (FloatOps.cmpfTotal (F := Ideal) (φ := .f32) .gt) l.1 r.1) s
    (iotaInDim S64x151936 32 1)).1 sliceFits_S64x151936_S64x50 (ix2 r (⟨49, by omega⟩ : Fin 50)) = _
  refine (extractStridedSlice_apply _ _ _ _ (ix2 r (⟨49, by omega⟩ : Fin 151936)) fun a => ?_).trans ?_
  · match a with
    | ⟨0, _⟩ => show r.val = 0 + r.val; omega
    | ⟨1, _⟩ => rfl
  exact (sort_at (fun l r : EReal × BitVec 32 => (FloatOps.cmpfTotal (F := Ideal) (φ := .f32) .gt) l.1 r.1) s (iotaInDim S64x151936 32 1) r ⟨49, by omega⟩).1

theorem down_sorted (s : S64x151936.Idx → EReal) (r : Fin 64) (p q : Fin 151936) (h : p < q) :
    s (ix2 r (down s r q)) ≤ s (ix2 r (down s r p)) := by
  refine OrderDual.toDual_le_toDual.mp (arrange_sorted (κ := ERealᵒᵈ) _ s (iotaInDim S64x151936 32 1) r (fun k => OrderDual.toDual (s (ix2 r k))) (fun k k' => ?_) p q h)
  show Ideal.cmp .ogt _ _ = 1#1 ↔ _
  unfold Ideal.cmp
  rw [ofBool_one, decide_eq_true_iff, OrderDual.toDual_lt_toDual]

theorem topk_at (s : S64x151936.Idx → EReal) (r : Fin 64) (k : Fin 151936) :
    topk (F := Ideal) s (ix2 r k) = Row.cut (fun k => s (ix2 r k)) k := by
  have hl := Row.lt_fiftieth (fun k => s (ix2 r k)) (down s r) (arrange_bijective _ _ _ _) (fun p q h => down_sorted s r p q h) (by omega) k
  unfold topk Row.cut
  rw [select_apply]
  unfold Scalar.select
  have hc : cmpf (F := Ideal) (φ := .f32) .olt s (broadcastInDim S64x151936 ![0, 1] bcast_S64x1_S64x151936_0_1 (show S64x1.Idx → EReal from fiftieth (F := Ideal) s)) (ix2 r k) = 1
      ↔ s (ix2 r k) < s (ix2 r (down s r ⟨49, by omega⟩)) := by
    show Ideal.cmp .olt _ _ = 1#1 ↔ _
    rw [column_at, fiftieth_at]
    unfold Ideal.cmp
    rw [ofBool_one, decide_eq_true_iff]
  by_cases h : Row.above (fun k => s (ix2 r k)) k < 50
  · rw [if_neg (fun h' => hl.mp (hc.mp h') h), if_pos h]
  · rw [if_pos (hc.mpr (hl.mpr h)), if_neg h]
    exact negInf_bits

/-! ## The order of the columns -/

/-- How the reference orders row `r` of the cut scores. -/
def sigma (t : S64x151936.Idx → EReal) (r : Fin 64) : Fin 151936 → Fin 151936 :=
  arrange (comparator_f32_i32_d1 (F := Ideal)) (Host.negf (F := Ideal) (φ := .f32) t) (iotaInDim S64x151936 32 1) r

theorem order_at (t : S64x151936.Idx → EReal) (r : Fin 64) (p : Fin 151936) :
    order (F := Ideal) t (ix2 r p) = BitVec.ofNat 32 (sigma t r p).val :=
  (sort_at (comparator_f32_i32_d1 (F := Ideal)) (Host.negf (F := Ideal) (φ := .f32) t) (iotaInDim S64x151936 32 1) r p).2

theorem comparator_iff (a b : EReal) (i j : BitVec 32) : comparator_f32_i32_d1 (F := Ideal) (a, i) (b, j) = 1#1 ↔ a < b := by
  have hz : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have h1 : Ideal.cmp .une x x = 0#1 := by simp [Ideal.cmp]
    rw [h1, select_zero]
    by_cases h : x = Ideal.ofBits .f32 0x00000000#32
    · rw [← h]; unfold Scalar.select; split <;> rfl
    · have h2 : Ideal.cmp .oeq x (Ideal.ofBits .f32 0x00000000#32) = 0#1 := by simp only [Ideal.cmp, decide_eq_false h]; rfl
      rw [h2, select_zero]
  show Ideal.cmp .olt (Scalar.select (Ideal.cmp .une a a) (Ideal.ofBits .f32 0x7FC00000#32) (Scalar.select (Ideal.cmp .oeq a (Ideal.ofBits .f32 0x00000000#32)) (Ideal.ofBits .f32 0x00000000#32) a))
    (Scalar.select (Ideal.cmp .une b b) (Ideal.ofBits .f32 0x7FC00000#32) (Scalar.select (Ideal.cmp .oeq b (Ideal.ofBits .f32 0x00000000#32)) (Ideal.ofBits .f32 0x00000000#32) b)) = 1#1 ↔ _
  rw [hz, hz]
  unfold Ideal.cmp
  rw [ofBool_one, decide_eq_true_iff]

theorem sigma_bijective (t : S64x151936.Idx → EReal) (r : Fin 64) : Function.Bijective (sigma t r) := arrange_bijective _ _ _ _

theorem sigma_sorted (t : S64x151936.Idx → EReal) (r : Fin 64) (p q : Fin 151936) (h : p < q) :
    t (ix2 r (sigma t r q)) ≤ t (ix2 r (sigma t r p)) := by
  have := arrange_sorted (κ := EReal) (comparator_f32_i32_d1 (F := Ideal)) (Host.negf (F := Ideal) (φ := .f32) t) (iotaInDim S64x151936 32 1) r
    (fun k => - t (ix2 r k)) (fun k k' => comparator_iff _ _ _ _) p q h
  exact EReal.neg_le_neg_iff.mp this

/-- How sorting an order arranges its row. -/
def tau (o : S64x151936.Idx → BitVec 32) (r : Fin 64) : Fin 151936 → Fin 151936 :=
  arrange comparator_i32_i32_d1 o (iotaInDim S64x151936 32 1) r

theorem inverse_at (o : S64x151936.Idx → BitVec 32) (r : Fin 64) (k : Fin 151936) :
    inverse (F := Ideal) o (ix2 r k) = BitVec.ofNat 32 (tau o r k).val :=
  (sort_at comparator_i32_i32_d1 o (iotaInDim S64x151936 32 1) r k).2

/-- Sorting an order gives its inverse. -/
theorem tau_inverse (o : S64x151936.Idx → BitVec 32) (r : Fin 64) (σ : Fin 151936 → Fin 151936) (hσ : Function.Injective σ)
    (ho : ∀ p, o (ix2 r p) = BitVec.ofNat 32 (σ p).val) (k : Fin 151936) : σ (tau o r k) = k := by
  refine Row.id_of_increasing (fun k => σ (tau o r k)) (fun p q h => ?_) k
  have hle := arrange_sorted comparator_i32_i32_d1 o (iotaInDim S64x151936 32 1) r (fun k => (σ k).val) (fun k k' => by
    show IntOp.cmpi .slt (o (ix2 r k)) (o (ix2 r k')) = 1#1 ↔ _
    rw [ho, ho]
    exact slt_ofNat _ _ (by omega) (by omega)) p q h
  refine lt_of_le_of_ne (Fin.le_def.mpr hle) fun e => ?_
  exact absurd ((arrange_bijective comparator_i32_i32_d1 o (iotaInDim S64x151936 32 1) r).injective (hσ e)) h.ne

end Cert.RefRun
-- ==== Proof.RefRead.lean ====
/- Tables read at positions inside their rows: the entry at the position. -/
module

public import proofs.«01_k».proof.Proof.RefScores

@[expose] public section

noncomputable section

namespace Cert.RefRun

open Cert.ReferenceIdeal Cert.ReferenceIdeal.Gen Idealize.ShloMosaic Idealize.ShloMosaic.ValueIdx Finset

variable {α : Type}

theorem wrapPos_at (o : S64x151936.Idx → BitVec 32) (r : Fin 64) (p q : Fin 151936) (ho : o (ix2 r p) = BitVec.ofNat 32 q.val) (z : Fin 1) :
    wrapPos (F := Ideal) o (ix3 r p z) = BitVec.ofNat 32 q.val := by
  unfold wrapPos
  refine (shapeCast_apply _ _ _ (ix2 r p) ?_).trans ?_
  · rw [Shape.rowMajor_val_two, Shape.rowMajor_val_three]
    show r.val * 151936 + p.val = (r.val * 151936 + p.val) * 1 + z.val
    omega
  · rw [select_apply]
    unfold Scalar.select
    have hn : ¬ IntOp.cmpi .slt (o (ix2 r p)) (BitVec.ofNat 32 0) = 1#1 := fun h => by
      rw [ho] at h
      exact absurd ((slt_ofNat _ _ (by omega) (by omega)).mp h) (by omega)
    exact (if_neg hn).trans ho

theorem fold_ones {n : ℕ} (f : Fin n → BitVec 1) (h : ∀ k, f k = 1#1) (t : Finset (Fin n)) : t.fold IntOp.andi 1#1 f = 1#1 := by
  induction t using Finset.induction_on with
  | empty => rfl
  | insert a t ha ih => rw [fold_insert ha, ih, h]; rfl

theorem reduces_last : S64x151936x1.Reduces [2] S64x151936 := by decide

theorem inRow_at (w : S64x151936x1.Idx → BitVec 32) (r : Fin 64) (p q : Fin 151936) (hw : ∀ z : Fin 1, w (ix3 r p z) = BitVec.ofNat 32 q.val) :
    inRow (F := Ideal) w (ix2 r p) = 1#1 := by
  unfold inRow
  refine (Host.reduce_eq_fold_single IntOp.andi _ _ reducesTo_S64x151936x1_S64x151936_d2 reduces_last h_S_ (ix2 r p)).trans ?_
  refine fold_ones (n := 1) _ (fun z => ?_) _
  have hl : reduces_last.lift (ix2 r p) z = ix3 r p (z : Fin 1) := funext fun a => Fin.ext (match a with
    | ⟨0, _⟩ => rfl
    | ⟨1, _⟩ => rfl
    | ⟨2, _⟩ => rfl)
  refine (congrArg _ hl).trans ?_
  show IntOp.andi (IntOp.cmpi .sge (w (ix3 r p (z : Fin 1))) (BitVec.ofNat 32 0)) (IntOp.cmpi .sle (w (ix3 r p (z : Fin 1))) (BitVec.ofNat 32 151935)) = 1#1
  rw [hw]
  have h1 : IntOp.cmpi .sge (BitVec.ofNat 32 q.val) (BitVec.ofNat 32 0) = 1#1 := by
    unfold IntOp.cmpi
    rw [ofBool_one, BitVec.sle_iff_toInt_le, ofNat_toInt _ (by omega), ofNat_toInt _ (by omega)]
    omega
  have h2 : IntOp.cmpi .sle (BitVec.ofNat 32 q.val) (BitVec.ofNat 32 151935) = 1#1 := by
    unfold IntOp.cmpi
    rw [ofBool_one, BitVec.sle_iff_toInt_le, ofNat_toInt _ (by omega), ofNat_toInt _ (by omega)]
    omega
  rw [h1, h2]; rfl

theorem gather_at (t : S64x151936.Idx → α) (w : S64x151936x1.Idx → BitVec 32) (r : Fin 64) (p q : Fin 151936)
    (hw : w (ix3 r p (0 : Fin 1)) = BitVec.ofNat 32 q.val) :
    Host.gather gather_S64x151936_S64x151936x1_S64x151936_n_1_0_0_1_2_11 t w (ix2 r p) = t (ix2 r q) := by
  unfold Host.gather
  refine congrArg t (funext fun a => Fin.ext ?_)
  match a with
  | ⟨0, _⟩ =>
    have h0 : gather_S64x151936_S64x151936x1_S64x151936_n_1_0_0_1_2_11.start (ix2 r p) w 0 = 0 := rfl
    have h1 : gather_S64x151936_S64x151936x1_S64x151936_n_1_0_0_1_2_11.batchCoord (ix2 r p) 0 = r.val := rfl
    have h2 : gather_S64x151936_S64x151936x1_S64x151936_n_1_0_0_1_2_11.offCoord (ix2 r p) 0 = 0 := rfl
    refine (congrArg₂ (· + ·) (congrArg₂ (· + ·) h0 h1) h2).trans ?_
    show 0 + r.val + 0 = r.val
    omega
  | ⟨1, _⟩ =>
    have h0 : gather_S64x151936_S64x151936x1_S64x151936_n_1_0_0_1_2_11.start (ix2 r p) w 1 = min (w (ix3 r p (0 : Fin 1))).toInt.toNat 151935 := by
      have hi : gather_S64x151936_S64x151936x1_S64x151936_n_1_0_0_1_2_11.siIdx (ix2 r p) ⟨0, by decide⟩ = ix3 r p (0 : Fin 1) := funext fun a => Fin.ext (match a with
        | ⟨0, _⟩ => rfl
        | ⟨1, _⟩ => rfl
        | ⟨2, _⟩ => rfl)
      rw [← hi]; rfl
    have h1 : gather_S64x151936_S64x151936x1_S64x151936_n_1_0_0_1_2_11.batchCoord (ix2 r p) 1 = 0 := rfl
    have h2 : gather_S64x151936_S64x151936x1_S64x151936_n_1_0_0_1_2_11.offCoord (ix2 r p) 1 = 0 := rfl
    refine (congrArg₂ (· + ·) (congrArg₂ (· + ·) h0 h1) h2).trans ?_
    rw [hw, ofNat_toInt _ (by omega), Int.toNat_natCast]
    show min q.val 151935 + 0 + 0 = q.val
    omega

theorem readAt_at (t : S64x151936.Idx → EReal) (o : S64x151936.Idx → BitVec 32) (r : Fin 64) (p q : Fin 151936)
    (ho : o (ix2 r p) = BitVec.ofNat 32 q.val) : readAt (F := Ideal) t o (ix2 r p) = t (ix2 r q) := by
  have hw := wrapPos_at o r p q ho
  unfold readAt
  rw [select_apply]
  unfold Scalar.select
  exact (if_pos (inRow_at _ r p q hw)).trans (gather_at t _ r p q (hw 0))

theorem readBit_at (t : S64x151936.Idx → BitVec 1) (o : S64x151936.Idx → BitVec 32) (r : Fin 64) (p q : Fin 151936)
    (ho : o (ix2 r p) = BitVec.ofNat 32 q.val) : readBit (F := Ideal) t o (ix2 r p) = t (ix2 r q) := by
  have hw := wrapPos_at o r p q ho
  unfold readBit
  rw [select_apply]
  unfold Scalar.select
  exact (if_pos (inRow_at _ r p q hw)).trans (gather_at t _ r p q (hw 0))

end Cert.RefRun
-- ==== Proof.RefMass.lean ====
/- The softmax of a row, its running mass along the columns, and the mask moved right by one column, read at an index. -/
module

public import proofs.«01_k».proof.Proof.RefRead

@[expose] public section

noncomputable section

namespace Cert.RefRun

open Cert.ReferenceIdeal Cert.ReferenceIdeal.Gen Idealize.ShloMosaic Idealize.ShloMosaic.ValueIdx Finset

/-! ## Operations at an index -/

theorem divf_at {s : Shape} (a b : s.Idx → EReal) (j : s.Idx) : Host.divf (F := Ideal) (φ := .f32) a b j = Ideal.div (a j) (b j) := rfl

theorem gt_at {s : Shape} (a b : s.Idx → EReal) (j : s.Idx) : cmpf (F := Ideal) (φ := .f32) .ogt a b j = 1#1 ↔ b j < a j := by
  show BitVec.ofBool (decide (b j < a j)) = 1#1 ↔ _
  rw [ofBool_one, decide_eq_true_iff]

theorem hostSum_at {s t u : Shape} {axes : List (Fin s.rank)} (x : s.Idx → EReal) (init : u.Idx → EReal) (h : s.ReducesTo axes t) (hu : 0 < u.numel) (j : t.Idx) :
    Host.reduceAdd (F := Ideal) (φ := .f32) x init h hu j = Ideal.hostReduceAdd h x (init (Shape.Idx.first hu)) j := rfl

theorem hostRunning_at {s t u : Shape} (w st lo hi : Fin s.rank → ℕ) (x : s.Idx → EReal) (init : u.Idx → EReal) (h : s.ReduceWindows w st lo hi t)
    (hu : 0 < u.numel) (j : t.Idx) :
    Host.reduceWindowAdd (F := Ideal) (φ := .f32) w st lo hi x init h hu j = Ideal.hostReduceWindowAdd w st lo hi h x (init (Shape.Idx.first hu)) j := rfl

/-! ## The softmax -/

theorem reduces_row : S64x151936.Reduces [1] S64 := by decide

theorem lift_row (r : Fin 64) (k : Fin 151936) : reduces_row.lift (ix1 r) k = ix2 r k :=
  funext fun a => Fin.ext (match a with
    | ⟨0, _⟩ => rfl
    | ⟨1, _⟩ => rfl)

theorem spread_at (v : S64.Idx → EReal) (r : Fin 64) (k : Fin 151936) : spread (F := Ideal) v (ix2 r k) = v (ix1 r) := by
  unfold spread
  refine (column_at _ r k).trans ?_
  exact broadcastInDim_apply _ _ _ _ (ix1 r) fun a => match a with
    | ⟨0, _⟩ => rfl

/-- The largest of −∞ and a family is the family's largest. -/
theorem fold_top {n : ℕ} (f : Fin n → EReal) :
    (univ : Finset (Fin n)).fold (FloatOps.maximumf (F := Ideal) (φ := .f32)) (Ideal.ofBits .f32 0xFF800000#32) f = Row.top f := by
  rw [negInf_bits]; rfl

theorem maximum_at {s : Shape} (a b : s.Idx → EReal) (j : s.Idx) : maximumf (F := Ideal) (φ := .f32) a b j = max (a j) (b j) := rfl

theorem hostMax_at {n : ℕ} (t : (⟨2, ![64, n]⟩ : Shape).Idx → EReal) (init : S_.Idx → EReal) (h' : (⟨2, ![64, n]⟩ : Shape).ReducesTo [1] S64)
    (h : (⟨2, ![64, n]⟩ : Shape).Reduces [1] S64) (hi : init (Shape.Idx.first h_S_) = Ideal.ofBits .f32 0xFF800000#32) (r : Fin 64) :
    Host.reduce (FloatOps.maximumf (F := Ideal) (φ := .f32)) t init h' h_S_ (ix1 r) = Row.top fun k => t (ix2 r k) := by
  refine (Host.reduce_eq_fold_single (FloatOps.maximumf (F := Ideal) (φ := .f32)) _ _ h' h h_S_ (ix1 r)).trans ?_
  have e : t ∘ h.lift (ix1 r) = fun k : Fin n => t (ix2 r k) := funext fun k => congrArg t (funext fun a => Fin.ext (match a with
    | ⟨0, _⟩ => rfl
    | ⟨1, _⟩ => rfl))
  rw [e, hi]
  exact fold_top _

theorem rowMax_at (t : S64x151936.Idx → EReal) (r : Fin 64) : rowMax (F := Ideal) t (ix1 r) = Row.top fun k => t (ix2 r k) := by
  unfold rowMax
  refine (maximum_at _ _ _).trans ?_
  refine (congrArg₂ max (negInf_bits : Ideal.ofBits .f32 0xFF800000#32 = ⊥) (hostMax_at (n := 151936) t _ reducesTo_S64x151936_S64_d1 reduces_row rfl r)).trans ?_
  exact max_eq_right bot_le

theorem expo_at (t : S64x151936.Idx → EReal) (r : Fin 64) (k : Fin 151936) :
    expo (F := Ideal) t (ix2 r k) = Ideal.exp (t (ix2 r k) - Row.top fun k => t (ix2 r k)) := by
  unfold expo
  show Ideal.exp (t (ix2 r k) - spread (F := Ideal) (rowMax (F := Ideal) t) (ix2 r k)) = _
  rw [spread_at, rowMax_at]

theorem softmax_at (t : S64x151936.Idx → EReal) (r : Fin 64) (k : Fin 151936) :
    softmax (F := Ideal) t (ix2 r k) = Ideal.div (Ideal.exp (t (ix2 r k) - Row.top fun k => t (ix2 r k)))
      (∑ l : Fin 151936, Ideal.exp (t (ix2 r l) - Row.top fun k => t (ix2 r k))) := by
  unfold softmax
  refine (divf_at _ _ _).trans ?_
  rw [spread_at, expo_at]
  refine congrArg (Ideal.div _) ?_
  refine (hostSum_at _ _ _ _ _).trans ?_
  refine (Ideal.hostReduceAdd_single reducesTo_S64x151936_S64_d1 reduces_row (expo (F := Ideal) t) _ (ix1 r)).trans ?_
  have h0 : constant (F := Ideal) S_ .f32 0x00000000#32 (Shape.Idx.first h_S_) = (0 : EReal) := Ideal.ofBits_zero_f32
  refine (congrArg (· + ∑ l : Fin 151936, expo (F := Ideal) t (reduces_row.lift (ix1 r) l)) h0).trans ?_
  rw [zero_add]
  refine sum_congr rfl fun l _ => ?_
  rw [lift_row, expo_at]

/-! ## The running mass -/

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A window as wide as the row, ending at a column, holds the columns up to it. -/
theorem window_sum (M N : ℕ) (hM : M = N + 1) (f : Fin (N + 1) → EReal) (p : Fin (N + 1)) :
    ∑ n : Fin M, (if h : N ≤ p.val + n.val ∧ p.val + n.val - N < N + 1 then f ⟨p.val + n.val - N, h.2⟩ else 0) = ∑ q ∈ univ.filter (· ≤ p), f q := by
  subst hM
  have e1 := Fin.sum_univ_eq_sum_range (fun n => if h : N ≤ p.val + n ∧ p.val + n - N < N + 1 then f ⟨p.val + n - N, h.2⟩ else 0) (N + 1)
  have e2 := Fin.sum_univ_eq_sum_range (fun n => if h : n < N + 1 then (if n ≤ p.val then f ⟨n, h⟩ else 0) else 0) (N + 1)
  have e3 : ∑ q ∈ univ.filter (· ≤ p), f q = ∑ i : Fin (N + 1), (if h : i.val < N + 1 then (if i.val ≤ p.val then f ⟨i.val, h⟩ else 0) else 0) := by
    rw [sum_filter]
    refine sum_congr rfl fun q _ => ?_
    rw [dif_pos q.isLt]
    rfl
  refine e1.trans (Eq.trans ?_ (e3.trans e2).symm)
  have l1 : ∑ n ∈ range (N + 1), (if h : N ≤ p.val + n ∧ p.val + n - N < N + 1 then f ⟨p.val + n - N, h.2⟩ else 0)
      = ∑ n ∈ (range (N + 1)).filter (fun n => N ≤ p.val + n), (if h : N ≤ p.val + n ∧ p.val + n - N < N + 1 then f ⟨p.val + n - N, h.2⟩ else 0) := by
    refine (sum_filter_of_ne fun n _ hn => ?_).symm
    by_contra hc
    exact hn (dif_neg fun h => hc h.1)
  have l2 : ∑ n ∈ range (N + 1), (if h : n < N + 1 then (if n ≤ p.val then f ⟨n, h⟩ else 0) else 0)
      = ∑ n ∈ (range (N + 1)).filter (fun n => n ≤ p.val), (if h : n < N + 1 then (if n ≤ p.val then f ⟨n, h⟩ else 0) else 0) := by
    refine (sum_filter_of_ne fun n hr hn => ?_).symm
    by_contra hc
    exact hn (by rw [dif_pos (mem_range.mp hr), if_neg hc])
  rw [l1, l2]
  have hp := p.isLt
  refine sum_nbij' (fun n => p.val + n - N) (fun n => n + N - p.val) (fun n hn => ?_) (fun n hn => ?_) (fun n hn => ?_) (fun n hn => ?_) (fun n hn => ?_)
  all_goals rw [mem_filter, mem_range] at hn
  · rw [mem_filter, mem_range]; omega
  · rw [mem_filter, mem_range]; omega
  · omega
  · omega
  · rw [dif_pos ⟨hn.2, by omega⟩, dif_pos (by omega), if_pos (by omega)]

theorem running_at (x : S64x151936.Idx → EReal) (r : Fin 64) (p : Fin 151936) :
    Host.reduceWindowAdd (F := Ideal) (φ := .f32) ![1, 151936] ![1, 1] ![0, 151935] ![0, 0] x (broadcastInDim S_ ![] bcast_S_S_ (constant (F := Ideal) S_ .f32 0x00000000#32))
      reduceWindows_S64x151936_S64x151936_w1s1p0_0_w151936s1p151935_0 h_S_ (ix2 r p) = ∑ q ∈ univ.filter (· ≤ p), x (ix2 r q) := by
  have h0 : (broadcastInDim S_ ![] bcast_S_S_ (constant (F := Ideal) S_ .f32 0x00000000#32)) (Shape.Idx.first h_S_) = (0 : EReal) := Ideal.ofBits_zero_f32
  refine (hostRunning_at _ _ _ _ _ _ _ _ _).trans ?_
  rw [h0]
  unfold Ideal.hostReduceWindowAdd Host.reduceWindow
  refine (foldl_add _ _ _).trans ?_
  rw [zero_add, ← window_sum _ 151935 (Routing.numel2 151936) (fun q => x (ix2 r q)) p, ← List.ofFn_eq_map, List.sum_ofFn]
  refine sum_congr rfl fun n _ => ?_
  have hw0 : ((⟨2, ![1, 151936]⟩ : Shape).rowMajor.symm n 0).val = 0 := by rw [Routing.symm2 (N := 151936)]; rfl
  have hw1 : ((⟨2, ![1, 151936]⟩ : Shape).rowMajor.symm n 1).val = n.val := by rw [Routing.symm2 (N := 151936)]; rfl
  by_cases h : 151935 ≤ p.val + n.val ∧ p.val + n.val - 151935 < 151936
  · have hin : ∀ a : Fin 2, (![0, 151935] : Fin 2 → ℕ) a ≤ (ix2 r p a).val * (![1, 1] : Fin 2 → ℕ) a + ((⟨2, ![1, 151936]⟩ : Shape).rowMajor.symm n a).val
        ∧ (ix2 r p a).val * (![1, 1] : Fin 2 → ℕ) a + ((⟨2, ![1, 151936]⟩ : Shape).rowMajor.symm n a).val - (![0, 151935] : Fin 2 → ℕ) a < S64x151936.size a := fun a => by
      match a with
      | ⟨0, _⟩ =>
        show 0 ≤ r.val * 1 + ((⟨2, ![1, 151936]⟩ : Shape).rowMajor.symm n 0).val ∧ r.val * 1 + ((⟨2, ![1, 151936]⟩ : Shape).rowMajor.symm n 0).val - 0 < 64
        rw [hw0]; omega
      | ⟨1, _⟩ =>
        show 151935 ≤ p.val * 1 + ((⟨2, ![1, 151936]⟩ : Shape).rowMajor.symm n 1).val ∧ p.val * 1 + ((⟨2, ![1, 151936]⟩ : Shape).rowMajor.symm n 1).val - 151935 < 151936
        rw [hw1, Nat.mul_one]; exact h
    rw [dif_pos h]
    refine (dif_pos hin).trans (congrArg x (funext fun a => Fin.ext ?_))
    match a with
    | ⟨0, _⟩ =>
      show r.val * 1 + ((⟨2, ![1, 151936]⟩ : Shape).rowMajor.symm n 0).val - 0 = r.val
      rw [hw0]; omega
    | ⟨1, _⟩ =>
      show p.val * 1 + ((⟨2, ![1, 151936]⟩ : Shape).rowMajor.symm n 1).val - 151935 = p.val + n.val - 151935
      rw [hw1, Nat.mul_one]
  · rw [dif_neg h]
    refine dif_neg fun hin => h ?_
    have := hin 1
    change 151935 ≤ p.val * 1 + ((⟨2, ![1, 151936]⟩ : Shape).rowMajor.symm n 1).val ∧ p.val * 1 + ((⟨2, ![1, 151936]⟩ : Shape).rowMajor.symm n 1).val - 151935 < 151936 at this
    rwa [hw1, Nat.mul_one] at this

theorem over_at (t : S64x151936.Idx → EReal) (r : Fin 64) (p : Fin 151936) :
    over (F := Ideal) t (ix2 r p) = 1#1 ↔ Row.c < ∑ q ∈ univ.filter (· ≤ p), softmax (F := Ideal) t (ix2 r q) := by
  rw [← running_at]
  unfold over
  exact gt_at _ _ _

/-! ## The mask moved right -/

theorem shifted_zero (b : S64x151936.Idx → BitVec 1) (r : Fin 64) : shifted (F := Ideal) b (ix2 r (⟨0, by omega⟩ : Fin 151936)) = 0#1 := by
  unfold shifted joinFalse
  refine (concatenate_pair_apply_left (t := S64x151936) (s₁ := S64x1) (s₂ := S64x151935) 1 _ _ concatenates_S64x1_S64x151935_S64x151936_d1 _ rfl (ix2 r (0 : Fin 1)) fun a => ?_).trans rfl
  match a with
  | ⟨0, _⟩ => rfl
  | ⟨1, _⟩ => rfl

theorem shifted_succ (b : S64x151936.Idx → BitVec 1) (r : Fin 64) (p : ℕ) (hp : p + 1 < 151936) :
    shifted (F := Ideal) b (ix2 r (⟨p + 1, hp⟩ : Fin 151936)) = b (ix2 r (⟨p, by omega⟩ : Fin 151936)) := by
  unfold shifted joinFalse
  refine (concatenate_pair_apply_right (t := S64x151936) (s₁ := S64x1) (s₂ := S64x151935) 1 _ _ concatenates_S64x1_S64x151935_S64x151936_d1 _ rfl rfl (ix2 r (⟨p, by omega⟩ : Fin 151935)) ?_ ?_).trans ?_
  · intro a ha
    match a, ha with
    | ⟨0, _⟩, _ => rfl
    | ⟨1, _⟩, ha => exact absurd rfl ha
  · rfl
  · refine extractStridedSlice_apply _ _ _ _ (ix2 r (⟨p, by omega⟩ : Fin 151936)) fun a => ?_
    match a with
    | ⟨0, _⟩ => show r.val = 0 + r.val; omega
    | ⟨1, _⟩ => show p = 0 + p; omega

end Cert.RefRun
-- ==== Proof.RefToken.lean ====
/- The reference's argmax over a row with its index: the first column where the row is largest. -/
module

public import proofs.«01_k».proof.Proof.RefMass

@[expose] public section

noncomputable section

namespace Cert.RefRun

open Cert.ReferenceIdeal Cert.ReferenceIdeal.Gen Idealize.ShloMosaic Idealize.ShloMosaic.ValueIdx Finset

/-- One step of the argmax keeps the pair with the larger value, at equal values the one with the smaller index. -/
theorem reducer_eq (a b : EReal) (i j : BitVec 32) :
    reducer_argmax_f32_i32 (F := Ideal) (a, i) (b, j) = if b < a ∨ (a = b ∧ IntOp.cmpi .slt i j = 1#1) then (a, i) else (b, j) := by
  have h3 : Ideal.cmp .une a a = 0#1 := by simp [Ideal.cmp]
  show (Scalar.select (IntOp.ori (Ideal.cmp .ogt a b) (Ideal.cmp .une a a)) a b,
    Scalar.select (IntOp.ori (IntOp.ori (Ideal.cmp .ogt a b) (Ideal.cmp .une a a)) (IntOp.andi (Ideal.cmp .oeq a b) (IntOp.cmpi .slt i j))) i j) = _
  rw [h3]
  rcases lt_trichotomy b a with h | h | h
  · have h1 : Ideal.cmp .ogt a b = 1#1 := by simp only [Ideal.cmp, decide_eq_true h]; rfl
    have h2 : Ideal.cmp .oeq a b = 0#1 := by simp only [Ideal.cmp, decide_eq_false h.ne']; rfl
    rw [h1, h2, if_pos (.inl h)]
    have e1 : IntOp.ori (1#1) (0#1) = 1#1 := rfl
    have e2 : IntOp.ori (1#1) (IntOp.andi 0#1 (IntOp.cmpi .slt i j)) = 1#1 := by
      generalize IntOp.cmpi .slt i j = q; revert q; decide
    rw [e1, e2, select_one, select_one]
  · subst h
    have h1 : Ideal.cmp .ogt b b = 0#1 := by simp only [Ideal.cmp, decide_eq_false (lt_irrefl b)]; rfl
    have h2 : Ideal.cmp .oeq b b = 1#1 := by simp [Ideal.cmp]
    rw [h1, h2]
    have e1 : IntOp.ori (0#1) (0#1) = 0#1 := rfl
    have e2 : IntOp.ori (0#1) (IntOp.andi 1#1 (IntOp.cmpi .slt i j)) = IntOp.cmpi .slt i j := by
      generalize IntOp.cmpi .slt i j = q; revert q; decide
    rw [e1, e2, select_zero]
    by_cases hs : IntOp.cmpi .slt i j = 1#1
    · rw [if_pos (.inr ⟨rfl, hs⟩), hs, select_one]
    · rw [if_neg (fun h => h.elim (lt_irrefl b) fun h => hs h.2)]
      unfold Scalar.select
      exact congrArg (Prod.mk b) (if_neg hs)
  · have h1 : Ideal.cmp .ogt a b = 0#1 := by simp only [Ideal.cmp, decide_eq_false h.not_gt]; rfl
    have h2 : Ideal.cmp .oeq a b = 0#1 := by simp only [Ideal.cmp, decide_eq_false h.ne]; rfl
    rw [h1, h2, if_neg (fun h' => h'.elim h.not_gt fun h' => h.ne h'.1)]
    have e1 : IntOp.ori (0#1) (0#1) = 0#1 := rfl
    have e2 : IntOp.ori (0#1) (IntOp.andi 0#1 (IntOp.cmpi .slt i j)) = 0#1 := by
      generalize IntOp.cmpi .slt i j = q; revert q; decide
    rw [e1, e2, select_zero, select_zero]

variable {n : ℕ}

/-- The pair of a column. -/
def entry (f : Fin n → EReal) (k : Fin n) : EReal × BitVec 32 := (f k, BitVec.ofNat 32 k.val)

theorem beats_any (hn : n < 2 ^ 31) (f : Fin n → EReal) (i k : Fin n) (h : Row.FirstMax f i) :
    reducer_argmax_f32_i32 (F := Ideal) (entry f k) (entry f i) = entry f i := by
  unfold entry
  rw [reducer_eq, if_neg]
  rintro (hlt | ⟨he, hs⟩)
  · exact absurd hlt (not_lt.mpr (h.1 k))
  · have hk := (slt_ofNat _ _ (by omega) (by omega)).mp hs
    exact absurd he (h.2 k hk).ne

theorem beats_start (hn : n < 2 ^ 31) (f : Fin n → EReal) (i : Fin n) (h : Row.FirstMax f i) :
    reducer_argmax_f32_i32 (F := Ideal) (⊥, BitVec.ofNat 32 0) (entry f i) = entry f i := by
  unfold entry
  rw [reducer_eq, if_neg]
  rintro (hlt | ⟨he, hs⟩)
  · exact absurd hlt not_lt_bot
  · have hk := (slt_ofNat _ _ (by omega) (by omega)).mp hs
    have := h.2 ⟨0, by omega⟩ hk
    rw [← he] at this
    exact absurd this not_lt_bot

theorem stays (hn : n < 2 ^ 31) (f : Fin n → EReal) (i k : Fin n) (h : Row.FirstMax f i) :
    reducer_argmax_f32_i32 (F := Ideal) (entry f i) (entry f k) = entry f i := by
  unfold entry
  rw [reducer_eq]
  by_cases hlt : f k < f i
  · rw [if_pos (.inl hlt)]
  · have he : f i = f k := le_antisymm (not_lt.mp hlt) (h.1 k)
    rcases lt_trichotomy i k with hik | rfl | hik
    · rw [if_pos (.inr ⟨he, (slt_ofNat _ _ (by omega) (by omega)).mpr hik⟩)]
    · rw [ite_self]
    · exact absurd (h.2 k hik) hlt

theorem either (a b : EReal × BitVec 32) : reducer_argmax_f32_i32 (F := Ideal) a b = a ∨ reducer_argmax_f32_i32 (F := Ideal) a b = b := by
  obtain ⟨a, i⟩ := a
  obtain ⟨b, j⟩ := b
  rw [reducer_eq]
  split
  · exact .inl rfl
  · exact .inr rfl

theorem argmax_fold (hn : n < 2 ^ 31) (f : Fin n → EReal) (i : Fin n) (h : Row.FirstMax f i) (L : List (EReal × BitVec 32))
    (hL : ∀ p ∈ L, ∃ k, p = entry f k) (v : EReal × BitVec 32) (hv : v = (⊥, BitVec.ofNat 32 0) ∨ ∃ k, v = entry f k)
    (hi : entry f i ∈ L ∨ v = entry f i) : L.foldl (reducer_argmax_f32_i32 (F := Ideal)) v = entry f i := by
  induction L generalizing v with
  | nil => exact hi.elim (fun h => absurd h (List.not_mem_nil)) id
  | cons a L ih =>
    rw [List.foldl_cons]
    obtain ⟨k, rfl⟩ := hL a List.mem_cons_self
    have hL' : ∀ p ∈ L, ∃ k, p = entry f k := fun p hp => hL p (List.mem_cons_of_mem _ hp)
    refine ih hL' _ ?_ ?_
    · rcases either v (entry f k) with e | e
      · rw [e]; exact hv
      · rw [e]; exact .inr ⟨k, rfl⟩
    · rcases hi with hi | rfl
      · rcases List.mem_cons.mp hi with e | hi
        · refine .inr ?_
          rw [← e]
          rcases hv with rfl | ⟨l, rfl⟩
          · exact beats_start hn f i h
          · exact beats_any hn f i l h
        · exact .inl hi
      · exact .inr (stays hn f i k h)

theorem argReduce_at (hn : n < 2 ^ 31) (x : (⟨2, ![64, n]⟩ : Shape).Idx → EReal) (y : (⟨2, ![64, n]⟩ : Shape).Idx → BitVec 32)
    (hy : ∀ r k, y (ix2 r k) = BitVec.ofNat 32 k.val) (ix : S_.Idx → EReal) (iy : S_.Idx → BitVec 32)
    (hx : ix (Shape.Idx.first h_S_) = ⊥) (hiy : iy (Shape.Idx.first h_S_) = BitVec.ofNat 32 0)
    (h' : (⟨2, ![64, n]⟩ : Shape).ReducesTo [1] S64) (hr : (⟨2, ![64, n]⟩ : Shape).Reduces [1] S64) (r : Fin 64) (i : Fin n)
    (h : Row.FirstMax (fun k => x (ix2 r k)) i) :
    Host.argReduce (F := Ideal) (φ := .f32) reducer_argmax_f32_i32 x y ix iy h' h_S_ (ix1 r) = entry (fun k => x (ix2 r k)) i := by
  have hl : ∀ k : Fin n, hr.lift (ix1 r) k = ix2 r k := fun k => funext fun a => Fin.ext (match a with
    | ⟨0, _⟩ => rfl
    | ⟨1, _⟩ => rfl)
  refine (congrFun (Ideal.argReduce_eq_reduce2 _ x y ix iy h' h_S_) (ix1 r)).trans ?_
  refine (Host.reduce2_eq_foldl_fiber _ x y ix iy h' h_S_ (ix1 r)).trans ?_
  rw [hx, hiy]
  refine argmax_fold hn _ i h _ (fun p hp => ?_) _ (.inl rfl) (.inl ?_)
  · obtain ⟨m, hm, rfl⟩ := List.mem_map.mp hp
    have hd : h'.drop ((⟨2, ![64, n]⟩ : Shape).rowMajor.symm m) = ix1 r := of_decide_eq_true (List.mem_filter.mp hm).2
    have e := hr.lift_drop ((⟨2, ![64, n]⟩ : Shape).rowMajor.symm m)
    rw [← Shape.ReducesTo.drop_eq_drop h' hr, hd] at e
    obtain ⟨q, e'⟩ : ∃ q : Fin n, (⟨2, ![64, n]⟩ : Shape).rowMajor.symm m = ix2 r q := ⟨_, ((hl _).symm.trans e).symm⟩
    refine ⟨q, ?_⟩
    unfold entry
    rw [e', hy]
  · refine List.mem_map.mpr ⟨(⟨2, ![64, n]⟩ : Shape).rowMajor (ix2 r i), List.mem_filter.mpr ⟨List.mem_finRange _, ?_⟩, ?_⟩
    · rw [Equiv.symm_apply_apply, Shape.ReducesTo.drop_eq_drop h' hr]
      exact decide_eq_true ((congrArg hr.drop (hl i)).symm.trans (hr.drop_lift _ _))
    · unfold entry
      rw [Equiv.symm_apply_apply, hy]

theorem column_of (hn : n < 2 ^ 31) (t g : (⟨2, ![64, n]⟩ : Shape).Idx → EReal) (h' : (⟨2, ![64, n]⟩ : Shape).ReducesTo [1] S64)
    (hr : (⟨2, ![64, n]⟩ : Shape).Reduces [1] S64) (r : Fin 64) (i : Fin n) (h : Row.FirstMax (fun k => t (ix2 r k) + g (ix2 r k)) i) :
    (Host.argReduce (F := Ideal) (φ := .f32) reducer_argmax_f32_i32 (addf (F := Ideal) (φ := .f32) t g) (iotaInDim (⟨2, ![64, n]⟩ : Shape) 32 1)
      (constant (F := Ideal) S_ .f32 0xFF800000#32) (constantI S_ 32 0#32) h' h_S_ (ix1 r)).2 = BitVec.ofNat 32 i.val := by
  rw [argReduce_at hn (addf (F := Ideal) (φ := .f32) t g) _ (fun _ _ => rfl) _ _ negInf_bits rfl h' hr r i h]
  rfl

theorem token_eq (t g : S64x151936.Idx → EReal) :
    token (F := Ideal) t g = fun j => (Host.argReduce (F := Ideal) (φ := .f32) reducer_argmax_f32_i32 (addf (F := Ideal) (φ := .f32) t g) (iotaInDim S64x151936 32 1)
      (constant (F := Ideal) S_ .f32 0xFF800000#32) (constantI S_ 32 0#32) reducesTo_S64x151936_S64_d1 h_S_ j).2 := rfl

theorem token_comm (t g : S64x151936.Idx → EReal) : token (F := Ideal) t g = token (F := Ideal) g t := by
  have e : addf (F := Ideal) (s := S64x151936) (φ := .f32) t g = addf (F := Ideal) (φ := .f32) g t := funext fun j => add_comm (t j) (g j)
  rw [token_eq, token_eq, e]

theorem token_at (t g : S64x151936.Idx → EReal) (r : Fin 64) (i : Fin 151936) (h : Row.FirstMax (fun k => t (ix2 r k) + g (ix2 r k)) i) :
    token (F := Ideal) t g (ix1 r) = BitVec.ofNat 32 i.val :=
  (congrFun (token_eq t g) (ix1 r)).trans (column_of (n := 151936) (by omega) t g reducesTo_S64x151936_S64_d1 reduces_row r i h)

end Cert.RefRun
-- ==== Proof.RefValue.lean ====
/- The reference's two results at an index: on a row whose scores are not +∞ and that has no ties, the probability of a
   column and the first largest noisy column. -/
module

public import proofs.«01_k».proof.Proof.RefToken

@[expose] public section

noncomputable section

namespace Cert.RefRun

open Cert.ReferenceIdeal Cert.ReferenceIdeal.Gen Idealize.ShloMosaic Idealize.ShloMosaic.ValueIdx Finset

/-- No two columns of a row hold one score above −∞. -/
def Distinct {n : ℕ} (s : Fin n → EReal) : Prop := ∀ i j, s i = s j → s i ≠ ⊥ → i = j

variable (M : S64x151936.Idx → EReal) (r : Fin 64) (s : Fin 151936 → EReal)

/-- The running mass, at the sorted positions: the shares of the columns sorted before. -/
theorem removed_at (hM : ∀ k, M (ix2 r k) = Row.cut s k) (hs : Row.Fine s) (p : Fin 151936) :
    shifted (F := Ideal) (over (F := Ideal) (readAt (F := Ideal) M (order (F := Ideal) M))) (ix2 r p) = 1#1
      ↔ Row.c < ∑ q ∈ univ.filter (fun q => q < p), Ideal.div (Row.wt s (sigma M r q)) (∑ k, Row.wt s k) := by
  have hread : ∀ q, readAt (F := Ideal) M (order (F := Ideal) M) (ix2 r q) = Row.cut s (sigma M r q) := fun q =>
    (readAt_at M _ r q _ (order_at M r q)).trans (hM _)
  have htop : (Row.top fun k => readAt (F := Ideal) M (order (F := Ideal) M) (ix2 r k)) = Row.top s := by
    rw [funext hread]; exact Row.top_cut hs _ (sigma_bijective M r)
  have hexp : ∀ q, Ideal.exp (readAt (F := Ideal) M (order (F := Ideal) M) (ix2 r q) - Row.top fun k => readAt (F := Ideal) M (order (F := Ideal) M) (ix2 r k))
      = Row.wt s (sigma M r q) := fun q => by
    rw [htop, hread, Row.exp_cut hs]
  have hsoft : ∀ q, softmax (F := Ideal) (readAt (F := Ideal) M (order (F := Ideal) M)) (ix2 r q)
      = Ideal.div (Row.wt s (sigma M r q)) (∑ k, Row.wt s k) := fun q => by
    rw [softmax_at, hexp]
    refine congrArg (Ideal.div _) ?_
    rw [sum_congr rfl fun l _ => hexp l]
    exact Function.Bijective.sum_comp (sigma_bijective M r) (Row.wt s)
  obtain ⟨p, hp⟩ := p
  cases p with
  | zero =>
    rw [shifted_zero]
    have he : (univ.filter fun q : Fin 151936 => q < ⟨0, hp⟩) = ∅ := filter_eq_empty_iff.mpr fun q _ h => absurd (Fin.lt_def.mp h) (Nat.not_lt_zero _)
    rw [he, sum_empty]
    obtain ⟨c', hc', e⟩ := Row.c_real
    rw [e]
    refine ⟨fun h => absurd h (by decide), fun h => absurd h (not_lt.mpr ?_)⟩
    exact_mod_cast hc'.le
  | succ p =>
    rw [shifted_succ, over_at, sum_congr rfl fun q _ => hsoft q]
    have he : (univ.filter fun q : Fin 151936 => q ≤ ⟨p, by omega⟩) = univ.filter fun q => q < ⟨p + 1, hp⟩ :=
      filter_congr fun q _ => by rw [Fin.le_def, Fin.lt_def]; exact Nat.lt_succ_iff.symm
    rw [he]

open Classical in
theorem dropped_at (hM : ∀ k, M (ix2 r k) = Row.cut s k) (hs : Row.Fine s) (hd : Distinct s) (k : Fin 151936) :
    drop (F := Ideal) (readBit (F := Ideal) (shifted (F := Ideal) (over (F := Ideal) (readAt (F := Ideal) M (order (F := Ideal) M)))) (inverse (F := Ideal) (order (F := Ideal) M))) M (ix2 r k)
      = if Row.Keep s k then s k else ⊥ := by
  have hbit := readBit_at (shifted (F := Ideal) (over (F := Ideal) (readAt (F := Ideal) M (order (F := Ideal) M)))) (inverse (F := Ideal) (order (F := Ideal) M)) r k _
    (inverse_at (order (F := Ideal) M) r k)
  have hinv := tau_inverse (order (F := Ideal) M) r (sigma M r) (sigma_bijective M r).injective (order_at M r) k
  have hneg : negInf (F := Ideal) (ix2 r k) = (⊥ : EReal) := negInf_bits
  unfold drop
  rw [select_apply, hneg, hM]
  unfold Scalar.select
  by_cases hc : Row.cut s k = ⊥
  · rw [hc, ite_self]
    by_cases hk : Row.Keep s k
    · rw [if_pos hk]
      unfold Row.cut at hc
      rw [if_pos hk.1] at hc
      exact hc.symm
    · rw [if_neg hk]
  · have hrem := removed_at M r s hM hs (tau (order (F := Ideal) M) r k)
    have hiff := Row.removed_iff hs (sigma M r) (sigma_bijective M r) (fun p q h => by rw [← hM, ← hM]; exact sigma_sorted M r p q h) hd
      (tau (order (F := Ideal) M) r k) (by rw [hinv]; exact hc)
    rw [hinv] at hiff
    have hall := hrem.trans hiff
    rw [← hbit] at hall
    by_cases hk : Row.Keep s k
    · rw [if_pos hk]
      exact (if_neg fun h => hall.mp h hk).trans (Row.cut_of_ne hc).1
    · rw [if_neg hk]
      exact if_pos (hall.mpr hk)

open Classical in
theorem filtered_at (x : Row.Logits) (hs : Row.Fine (Row.large x r)) (hd : Distinct (Row.large x r)) (k : Fin 151936) :
    filtered (F := Ideal) x (ix2 r k) = Ideal.div (if Row.Keep (Row.large x r) k then Row.large x r k else ⊥) Row.T := by
  have hrow : (fun k => masked (F := Ideal) (guided (F := Ideal) x) (ix2 r k)) = Row.large x r := funext fun k => masked_at x r k
  have hM : ∀ k, topk (F := Ideal) (masked (F := Ideal) (guided (F := Ideal) x)) (ix2 r k) = Row.cut (Row.large x r) k := fun k => by
    rw [topk_at, hrow]
  unfold filtered tempered
  refine (divf_at _ _ _).trans ?_
  exact congrArg (Ideal.div · Row.T) (dropped_at _ r _ hM hs hd k)

theorem top_filtered (x : Row.Logits) (hs : Row.Fine (Row.large x r)) (hd : Distinct (Row.large x r)) :
    (Row.top fun k => filtered (F := Ideal) x (ix2 r k)) = Ideal.div (Row.top (Row.large x r)) Row.T := by
  classical
  refine le_antisymm (Finset.sup_le fun k _ => ?_) ?_
  · rw [filtered_at r x hs hd]
    refine Row.div_T_mono ?_
    split
    · exact Row.le_top' _ k
    · exact bot_le
  · obtain ⟨i, hi, ht⟩ := hs
    refine le_of_eq_of_le ?_ (Row.le_top' (fun k => filtered (F := Ideal) x (ix2 r k)) i)
    show _ = filtered (F := Ideal) x (ix2 r i)
    rw [filtered_at r x ⟨i, hi, ht⟩ hd, if_pos (Row.keep_of_top _ hi), hi]

theorem probs_at (x : Row.Logits) (hs : Row.Fine (Row.large x r)) (hd : Distinct (Row.large x r)) (k : Fin 151936) :
    softmax (F := Ideal) (filtered (F := Ideal) x) (ix2 r k) = Row.prob (Row.large x r) k := by
  classical
  have hw : ∀ k, Ideal.exp (filtered (F := Ideal) x (ix2 r k) - Row.top fun k => filtered (F := Ideal) x (ix2 r k)) = Row.weight (Row.large x r) k := fun k => by
    rw [top_filtered r x hs hd, filtered_at r x hs hd]
    unfold Row.weight
    split
    · rfl
    · rw [Row.div_T_bot, Row.bot_sub', Row.exp_bot]
  rw [softmax_at, hw, sum_congr rfl fun l _ => hw l]
  rfl

theorem tokens_at (x : Row.Logits) (g : Row.Noise) (hs : Row.Fine (Row.large x r)) (hd : Distinct (Row.large x r)) (i : Fin 151936)
    (h : Row.FirstMax (Row.noisy (Row.large x r) fun k => g (ix2 r k)) i) :
    token (F := Ideal) (filtered (F := Ideal) x) g (ix1 r) = BitVec.ofNat 32 i.val := by
  classical
  refine token_at _ g r i ?_
  have e : (fun k => filtered (F := Ideal) x (ix2 r k) + g (ix2 r k)) = Row.noisy (Row.large x r) fun k => g (ix2 r k) := funext fun k => by
    rw [filtered_at r x hs hd]
    unfold Row.noisy
    split
    · rfl
    · rw [Row.div_T_bot]
  rw [e]
  exact h

end Cert.RefRun
-- ==== Proof.Equation.lean ====
/- The equation: under the condition on the arguments, what the kernel leaves is what the reference leaves. -/
module

public import proofs.«01_k».proof.Proof.PreRead
public import proofs.«01_k».proof.Proof.KernelValue
public import proofs.«01_k».proof.Proof.RefValue

@[expose] public section

noncomputable section

namespace Cert.Equation

open Idealize.ShloMosaic Idealize.ShloMosaic.ValueIdx

theorem noise_column (g : Row.Noise) (r : Fin 64) (l : Fin 384) :
    (fun k : Fin 151936 => g (ix2 r k)) (Row.emb l) = (fun l : Fin 384 => g (ix2 r (Row.emb l))) l := rfl

variable [Cert.Pre_finite_no_tie.Facts]

theorem outProbs_eq (x : Row.Logits) (hx : ∀ i, x i ≠ ⊤ ∧ x i ≠ ⊥) (hd : ∀ r, RefRun.Distinct (Row.large x r)) :
    BlockOps.outProbs (F := Ideal) x = RefRun.softmax (F := Ideal) (RefRun.filtered (F := Ideal) x) := by
  funext j
  obtain ⟨r, k, rfl⟩ : ∃ (r : Fin 64) (k : Fin 151936), j = ix2 r k := ⟨_, _, eq_ix2 j⟩
  exact (BlockOps.outProbs_at x r k (PreRead.fine_small x hx r)).trans (RefRun.probs_at r x (PreRead.fine_large x hx r) (hd r) k).symm

theorem outTokens_eq (x : Row.Logits) (g : Row.Noise) (hx : ∀ i, x i ≠ ⊤ ∧ x i ≠ ⊥) (hg : ∀ i, g i ≠ ⊥) (hd : ∀ r, RefRun.Distinct (Row.large x r)) :
    BlockOps.outTokens (F := Ideal) x g = RefRun.token (F := Ideal) (RefRun.filtered (F := Ideal) x) g := by
  funext j
  obtain ⟨r, rfl⟩ : ∃ r : Fin 64, j = ix1 r := ⟨_, eq_ix1 j⟩
  obtain ⟨l, hl⟩ := Row.exists_firstMax (by omega) (Row.noisy (Row.small x r) fun l : Fin 384 => g (ix2 r (Row.emb l)))
  have hL : Row.FirstMax (Row.noisy (Row.large x r) fun k : Fin 151936 => g (ix2 r k)) (Row.emb l) :=
    Row.firstMax_emb Row.emb_strictMono (Row.large_emb x r) (fun k h => Row.large_off x r k h) (PreRead.fine_small x hx r)
      (noise_column g r) (fun l => hg _) hl
  exact (BlockOps.outTokens_at x g r l hl).trans (RefRun.tokens_at r x g (PreRead.fine_large x hx r) (hd r) (Row.emb l) hL).symm

end Cert.Equation
-- ==== Proof.NoiseBound.lean ====
/- No noise value is `-∞` over the extended reals: the uniform values are positive. -/
module

public import proofs.«01_k».proof.Proof.Noise
public import Idealize.ShloMosaic.PureOps.Ideal.Laws

@[expose] public section

noncomputable section

namespace Cert.NoiseBound

open Idealize.ShloMosaic

theorem tiny_pos : (0 : EReal) < Ideal.ofBits .f32 0x00800000#32 := by
  have e : Ideal.ofBits .f32 0x00800000#32 = (((1 : ℝ) * ((2 ^ 23 : ℕ) : ℝ) * (2 : ℝ) ^ ((1 : Int) - 127 - 23) : ℝ) : EReal) := by
    simp [Ideal.ofBits, Ideal.ieee]
  rw [e]
  exact EReal.coe_pos.mpr (by positivity)

theorem log_ne_bot (a : EReal) (h : 0 < a) : Ideal.log a ≠ ⊥ := by
  induction a with
  | bot => exact absurd h not_lt_bot
  | top => exact bot_ne_top.symm
  | coe r =>
    have hr : ¬ r ≤ 0 := not_le.mpr (EReal.coe_pos.mp h)
    show (if r ≤ 0 then (⊥ : EReal) else (Real.log r : EReal)) ≠ ⊥
    rw [if_neg hr]
    exact EReal.coe_ne_bot _

theorem log_ne_top (a : EReal) (h : a ≠ ⊤) : Ideal.log a ≠ ⊤ := by
  induction a with
  | bot => exact bot_ne_top
  | top => exact absurd rfl h
  | coe r =>
    show (if r ≤ 0 then (⊥ : EReal) else (Real.log r : EReal)) ≠ ⊤
    split
    · exact bot_ne_top
    · exact EReal.coe_ne_top _

/-- The noise of a uniform value that is at least a positive bound. -/
theorem gumbel_ne_bot (t a : EReal) (ht : 0 < t) : -Ideal.log (-Ideal.log (max t a)) ≠ ⊥ := by
  have h := log_ne_top (-Ideal.log (max t a)) fun e => log_ne_bot _ (lt_of_lt_of_le ht (le_max_left t a)) (EReal.neg_eq_top_iff.mp e)
  exact fun e => h (EReal.neg_eq_bot_iff.mp e)

theorem above {S : Shape} (t u : FVec Ideal S .f32) (ht : ∀ i, (0 : EReal) < t i) (i : S.Idx) :
    Host.negf (F := Ideal) (φ := .f32) (Host.log (Host.negf (Host.log (maximumf t u)))) i ≠ (⊥ : EReal) :=
  gumbel_ne_bot (t i) (u i) (ht i)

theorem values_above {S : Shape} (b : IVec S 32) (i : S.Idx) : Noise.values (F := Ideal) b i ≠ (⊥ : EReal) := by
  unfold Noise.values
  exact above _ _ (fun _ => tiny_pos) i

theorem table_above (i : (⟨2, ![64, 151936]⟩ : Shape).Idx) : Noise.table (F := Ideal) i ≠ (⊥ : EReal) := by
  unfold Noise.table
  exact values_above _ i

end Cert.NoiseBound

end
-- ==== Proof.lean ====
/- The certificate: every program runs to its end with its arguments and counters as they were, the ideal kernel is the
   kernel's own text, and over the extended reals the kernel leaves the probabilities and the tokens the reference leaves. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.KernelRun
public import proofs.«01_k».proof.Proof.Equation
public import proofs.«01_k».proof.Proof.NoiseBound
public import Idealize.ShloMosaic.Lib.Quiescent

@[expose] public section

noncomputable section

namespace Cert.Proof

open Idealize.ShloMosaic Idealize.ShloMosaic.TcCoe Idealize.SL.Sem

/-- The reference runs and keeps its arguments; it declares no counter. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.RefRun.run (F := Ideal) m ρ)

/-- From equal arguments that satisfy the condition, both run and leave the same probabilities and the same tokens. -/
theorem algebraic : Cert.algebraic_KernelIdeal_ReferenceIdeal_pre_finite_no_tie (hPre_finite_no_tie := Cert.PreRead.facts) := by
  haveI := Cert.PreRead.facts
  intro m ρ m' ρ' hpre hargs
  refine ⟨fun c => Cert.BlockOps.outProbs (F := Ideal) (m ((c.tc : Thread Cert.KernelIdeal.nD Cert.KernelIdeal.τ).loc Cert.KernelIdeal.main_arg0)),
    fun c => Cert.BlockOps.outTokens (F := Ideal) (m ((c.tc : Thread Cert.KernelIdeal.nD Cert.KernelIdeal.τ).loc Cert.KernelIdeal.main_arg0))
      (Cert.Noise.table (F := Ideal)),
    Cert.BlockOps.run (F := Ideal) m ρ, (θ_run Cert.ReferenceIdeal.defs _ _).mono (fun r h c => ?_) (Cert.RefRun.run (F := Ideal) m' ρ')⟩
  obtain ⟨h1, h2⟩ := hpre c
  have hx := Cert.PreRead.logits_real _ h1
  have hd : ∀ r, Cert.RefRun.Distinct (Cert.Row.large _ r) := fun r k l e hk => Cert.PreRead.large_distinct _ h2 r k l e hk
  have e0 := hargs c
  obtain ⟨hp, ht, ha⟩ := h c
  refine ⟨hp.trans ?_, ht.trans ?_, ha⟩
  · rw [e0]
    exact (Cert.Equation.outProbs_eq _ hx hd).symm
  · rw [e0, Cert.RefRun.token_comm]
    exact (Cert.Equation.outTokens_eq _ _ hx Cert.NoiseBound.table_above hd).symm

theorem claim : Cert.Claim := ⟨Cert.Kernel.Gen.facts, Cert.KernelIdeal.Gen.facts, Cert.ReferenceIdeal.Gen.facts, Cert.PreRead.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
